-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Swa (m : (ℓ : Loc Cert.Swa.nD Cert.Swa.τ Cert.Swa.sig) → Buf (Elt Bits) ℓ) : Prop :=
  True

def Pre_SwaIdeal (m : (ℓ : Loc Cert.SwaIdeal.nD Cert.SwaIdeal.τ Cert.SwaIdeal.sig) → Buf (Elt Ideal) ℓ) : Prop :=
  True

def Pre_SwaIdeal_finite_scores [hPre_finite_scores : Cert.Pre_finite_scores.Facts] (m : (ℓ : Loc Cert.SwaIdeal.nD Cert.SwaIdeal.τ Cert.SwaIdeal.sig) → Buf (Elt Ideal) ℓ) : Prop :=
  ∀ c : Dev Cert.SwaIdeal.nD,
    (Cert.Pre_finite_scores.fn (F := Ideal) (m ((c.tc : Thread Cert.SwaIdeal.nD Cert.SwaIdeal.τ).loc Cert.SwaIdeal.main_arg0)) (m ((c.tc : Thread Cert.SwaIdeal.nD Cert.SwaIdeal.τ).loc Cert.SwaIdeal.main_arg1)) (m ((c.tc : Thread Cert.SwaIdeal.nD Cert.SwaIdeal.τ).loc Cert.SwaIdeal.main_arg2)) (m ((c.tc : Thread Cert.SwaIdeal.nD Cert.SwaIdeal.τ).loc Cert.SwaIdeal.main_arg3)) (m ((c.tc : Thread Cert.SwaIdeal.nD Cert.SwaIdeal.τ).loc Cert.SwaIdeal.main_arg4))) = (fun _ => 1#1)

def Pre_SwaRefIdeal (m : (ℓ : Loc Cert.SwaRefIdeal.nD Cert.SwaRefIdeal.τ Cert.SwaRefIdeal.sig) → Buf (Elt Ideal) ℓ) : Prop :=
  True

def Pre_SwaRefIdeal_finite_scores [hPre_finite_scores : Cert.Pre_finite_scores.Facts] (m : (ℓ : Loc Cert.SwaRefIdeal.nD Cert.SwaRefIdeal.τ Cert.SwaRefIdeal.sig) → Buf (Elt Ideal) ℓ) : Prop :=
  ∀ c : Dev Cert.SwaRefIdeal.nD,
    (Cert.Pre_finite_scores.fn (F := Ideal) (m ((c.tc : Thread Cert.SwaRefIdeal.nD Cert.SwaRefIdeal.τ).loc Cert.SwaRefIdeal.main_arg0)) (m ((c.tc : Thread Cert.SwaRefIdeal.nD Cert.SwaRefIdeal.τ).loc Cert.SwaRefIdeal.main_arg1)) (m ((c.tc : Thread Cert.SwaRefIdeal.nD Cert.SwaRefIdeal.τ).loc Cert.SwaRefIdeal.main_arg2)) (m ((c.tc : Thread Cert.SwaRefIdeal.nD Cert.SwaRefIdeal.τ).loc Cert.SwaRefIdeal.main_arg3)) (m ((c.tc : Thread Cert.SwaRefIdeal.nD Cert.SwaRefIdeal.τ).loc Cert.SwaRefIdeal.main_arg4))) = (fun _ => 1#1)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7)
      ∧ r.2.mem ((c.tc : Thread Cert.FfnRefIdeal.nD Cert.FfnRefIdeal.τ).loc Cert.FfnRefIdeal.main_arg8) = m ((c.tc : Thread Cert.FfnRefIdeal.nD Cert.FfnRefIdeal.τ).loc Cert.FfnRefIdeal.main_arg8))
      ∧ r.2.sem = fun _ => 0)

def quiescent_Swa [hSwa : Cert.Swa.Facts] : Prop :=
  ∀ (m : (ℓ : Loc Cert.Swa.nD Cert.Swa.τ Cert.Swa.sig) → Buf (Elt Bits) ℓ) (g : Dev Cert.Swa.nD → PrngReg), Pre_Swa m →
    θ_run (Cert.Swa.defs (F := Bits)) (onTc (τ := Cert.Swa.τ) (Cert.Swa.main (F := Bits))) ⟨m, fun _ => 0, g⟩ (fun r => (∀ c : Dev Cert.Swa.nD,
      r.2.mem ((c.tc : Thread Cert.Swa.nD Cert.Swa.τ).loc Cert.Swa.main_arg0) = m ((c.tc : Thread Cert.Swa.nD Cert.Swa.τ).loc Cert.Swa.main_arg0)
      ∧ r.2.mem ((c.tc : Thread Cert.Swa.nD Cert.Swa.τ).loc Cert.Swa.main_arg1) = m ((c.tc : Thread Cert.Swa.nD Cert.Swa.τ).loc Cert.Swa.main_arg1)
      ∧ r.2.mem ((c.tc : Thread Cert.Swa.nD Cert.Swa.τ).loc Cert.Swa.main_arg2) = m ((c.tc : Thread Cert.Swa.nD Cert.Swa.τ).loc Cert.Swa.main_arg2)
      ∧ r.2.mem ((c.tc : Thread Cert.Swa.nD Cert.Swa.τ).loc Cert.Swa.main_arg3) = m ((c.tc : Thread Cert.Swa.nD Cert.Swa.τ).loc Cert.Swa.main_arg3)
      ∧ r.2.mem ((c.tc : Thread Cert.Swa.nD Cert.Swa.τ).loc Cert.Swa.main_arg4) = m ((c.tc : Thread Cert.Swa.nD Cert.Swa.τ).loc Cert.Swa.main_arg4))
      ∧ r.2.sem = fun _ => 0)

def quiescent_SwaIdeal [hSwaIdeal : Cert.SwaIdeal.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
      ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2)
      ∧ r.2.mem ((c.tc : Thread Cert.SwaIdeal.nD Cert.SwaIdeal.τ).loc Cert.SwaIdeal.main_arg3) = m ((c.tc : Thread Cert.SwaIdeal.nD Cert.SwaIdeal.τ).loc Cert.SwaIdeal.main_arg3)
      ∧ r.2.mem ((c.tc : Thread Cert.SwaIdeal.nD Cert.SwaIdeal.τ).loc Cert.SwaIdeal.main_arg4) = m ((c.tc : Thread Cert.SwaIdeal.nD Cert.SwaIdeal.τ).loc Cert.SwaIdeal.main_arg4))
      ∧ r.2.sem = fun _ => 0)

def quiescent_SwaIdeal_pre_finite_scores [hSwaIdeal : Cert.SwaIdeal.Facts] [hPre_finite_scores : Cert.Pre_finite_scores.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal_finite_scores m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
      ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2)
      ∧ r.2.mem ((c.tc : Thread Cert.SwaIdeal.nD Cert.SwaIdeal.τ).loc Cert.SwaIdeal.main_arg3) = m ((c.tc : Thread Cert.SwaIdeal.nD Cert.SwaIdeal.τ).loc Cert.SwaIdeal.main_arg3)
      ∧ r.2.mem ((c.tc : Thread Cert.SwaIdeal.nD Cert.SwaIdeal.τ).loc Cert.SwaIdeal.main_arg4) = m ((c.tc : Thread Cert.SwaIdeal.nD Cert.SwaIdeal.τ).loc Cert.SwaIdeal.main_arg4))
      ∧ r.2.sem = fun _ => 0)

def quiescent_SwaRefIdeal [hSwaRefIdeal : Cert.SwaRefIdeal.Facts] : Prop :=
  ∀ (m : (ℓ : Loc Cert.SwaRefIdeal.nD Cert.SwaRefIdeal.τ Cert.SwaRefIdeal.sig) → Buf (Elt Ideal) ℓ) (g : Dev Cert.SwaRefIdeal.nD → PrngReg), Pre_SwaRefIdeal m →
    θ_run (Cert.SwaRefIdeal.defs (F := Ideal)) (onTc (τ := Cert.SwaRefIdeal.τ) (Cert.SwaRefIdeal.main (F := Ideal))) ⟨m, fun _ => 0, g⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1)
      ∧ r.2.mem ((c.tc : Thread Cert.SwaRefIdeal.nD Cert.SwaRefIdeal.τ).loc Cert.SwaRefIdeal.main_arg2) = m ((c.tc : Thread Cert.SwaRefIdeal.nD Cert.SwaRefIdeal.τ).loc Cert.SwaRefIdeal.main_arg2)
      ∧ r.2.mem ((c.tc : Thread Cert.SwaRefIdeal.nD Cert.SwaRefIdeal.τ).loc Cert.SwaRefIdeal.main_arg3) = m ((c.tc : Thread Cert.SwaRefIdeal.nD Cert.SwaRefIdeal.τ).loc Cert.SwaRefIdeal.main_arg3)
      ∧ r.2.mem ((c.tc : Thread Cert.SwaRefIdeal.nD Cert.SwaRefIdeal.τ).loc Cert.SwaRefIdeal.main_arg4) = m ((c.tc : Thread Cert.SwaRefIdeal.nD Cert.SwaRefIdeal.τ).loc Cert.SwaRefIdeal.main_arg4))
      ∧ r.2.sem = fun _ => 0)

def quiescent_SwaRefIdeal_pre_finite_scores [hSwaRefIdeal : Cert.SwaRefIdeal.Facts] [hPre_finite_scores : Cert.Pre_finite_scores.Facts] : Prop :=
  ∀ (m : (ℓ : Loc Cert.SwaRefIdeal.nD Cert.SwaRefIdeal.τ Cert.SwaRefIdeal.sig) → Buf (Elt Ideal) ℓ) (g : Dev Cert.SwaRefIdeal.nD → PrngReg), Pre_SwaRefIdeal_finite_scores m →
    θ_run (Cert.SwaRefIdeal.defs (F := Ideal)) (onTc (τ := Cert.SwaRefIdeal.τ) (Cert.SwaRefIdeal.main (F := Ideal))) ⟨m, fun _ => 0, g⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1)
      ∧ r.2.mem ((c.tc : Thread Cert.SwaRefIdeal.nD Cert.SwaRefIdeal.τ).loc Cert.SwaRefIdeal.main_arg2) = m ((c.tc : Thread Cert.SwaRefIdeal.nD Cert.SwaRefIdeal.τ).loc Cert.SwaRefIdeal.main_arg2)
      ∧ r.2.mem ((c.tc : Thread Cert.SwaRefIdeal.nD Cert.SwaRefIdeal.τ).loc Cert.SwaRefIdeal.main_arg3) = m ((c.tc : Thread Cert.SwaRefIdeal.nD Cert.SwaRefIdeal.τ).loc Cert.SwaRefIdeal.main_arg3)
      ∧ r.2.mem ((c.tc : Thread Cert.SwaRefIdeal.nD Cert.SwaRefIdeal.τ).loc Cert.SwaRefIdeal.main_arg4) = m ((c.tc : Thread Cert.SwaRefIdeal.nD Cert.SwaRefIdeal.τ).loc Cert.SwaRefIdeal.main_arg4))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)
      ∧ m' ((c.tc : Thread Cert.FfnRefIdeal.nD Cert.FfnRefIdeal.τ).loc Cert.FfnRefIdeal.main_arg8) = m ((c.tc : Thread Cert.FfnIdeal.nD Cert.FfnIdeal.τ).loc Cert.FfnIdeal.main_arg8)) →
    ∃ (v0 : (c : Dev Cert.FfnIdeal.nD) → Buf (Elt Ideal) ((c.tc : Thread Cert.FfnIdeal.nD Cert.FfnIdeal.τ).loc Cert.FfnIdeal.main_v3)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v3) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v45) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7)
          ∧ r.2.mem ((c.tc : Thread Cert.FfnRefIdeal.nD Cert.FfnRefIdeal.τ).loc Cert.FfnRefIdeal.main_arg8) = m' ((c.tc : Thread Cert.FfnRefIdeal.nD Cert.FfnRefIdeal.τ).loc Cert.FfnRefIdeal.main_arg8))

def preserves_Swa_SwaIdeal : Prop :=
  IdealRules.named_const.Statement Cert.SwaIdeal.κ "mask" .f32 0xF149F2CA#32 ⊥

def algebraic_SwaIdeal_SwaRefIdeal_pre_finite_scores [hSwaIdeal : Cert.SwaIdeal.Facts] [hSwaRefIdeal : Cert.SwaRefIdeal.Facts] [hPre_finite_scores : Cert.Pre_finite_scores.Facts] : Prop :=
  ∀ (m : (ℓ : Loc Cert.SwaIdeal.nD Cert.SwaIdeal.τ Cert.SwaIdeal.sig) → Buf (Elt Ideal) ℓ) (g : Dev Cert.SwaIdeal.nD → PrngReg)
    (m' : (ℓ : Loc Cert.SwaRefIdeal.nD Cert.SwaRefIdeal.τ Cert.SwaRefIdeal.sig) → Buf (Elt Ideal) ℓ) (g' : Dev Cert.SwaRefIdeal.nD → PrngReg), Pre_SwaIdeal_finite_scores m →
    (∀ c : Dev Cert.SwaIdeal.nD,
      m' ((c.tc : Thread Cert.SwaRefIdeal.nD Cert.SwaRefIdeal.τ).loc Cert.SwaRefIdeal.main_arg0) = m ((c.tc : Thread Cert.SwaIdeal.nD Cert.SwaIdeal.τ).loc Cert.SwaIdeal.main_arg0)
      ∧ m' ((c.tc : Thread Cert.SwaRefIdeal.nD Cert.SwaRefIdeal.τ).loc Cert.SwaRefIdeal.main_arg1) = m ((c.tc : Thread Cert.SwaIdeal.nD Cert.SwaIdeal.τ).loc Cert.SwaIdeal.main_arg1)
      ∧ m' ((c.tc : Thread Cert.SwaRefIdeal.nD Cert.SwaRefIdeal.τ).loc Cert.SwaRefIdeal.main_arg2) = m ((c.tc : Thread Cert.SwaIdeal.nD Cert.SwaIdeal.τ).loc Cert.SwaIdeal.main_arg2)
      ∧ m' ((c.tc : Thread Cert.SwaRefIdeal.nD Cert.SwaRefIdeal.τ).loc Cert.SwaRefIdeal.main_arg3) = m ((c.tc : Thread Cert.SwaIdeal.nD Cert.SwaIdeal.τ).loc Cert.SwaIdeal.main_arg3)
      ∧ m' ((c.tc : Thread Cert.SwaRefIdeal.nD Cert.SwaRefIdeal.τ).loc Cert.SwaRefIdeal.main_arg4) = m ((c.tc : Thread Cert.SwaIdeal.nD Cert.SwaIdeal.τ).loc Cert.SwaIdeal.main_arg4)) →
    ∃ (v0 : (c : Dev Cert.SwaIdeal.nD) → Buf (Elt Ideal) ((c.tc : Thread Cert.SwaIdeal.nD Cert.SwaIdeal.τ).loc Cert.SwaIdeal.main_v6)),
      θ_run (Cert.SwaIdeal.defs (F := Ideal)) (onTc (τ := Cert.SwaIdeal.τ) (Cert.SwaIdeal.main (F := Ideal))) ⟨m, fun _ => 0, g⟩ (fun r => ∀ c : Dev Cert.SwaIdeal.nD,
          r.2.mem ((c.tc : Thread Cert.SwaIdeal.nD Cert.SwaIdeal.τ).loc Cert.SwaIdeal.main_v6) = v0 c
          ∧ r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
          ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
          ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2)
          ∧ r.2.mem ((c.tc : Thread Cert.SwaIdeal.nD Cert.SwaIdeal.τ).loc Cert.SwaIdeal.main_arg3) = m ((c.tc : Thread Cert.SwaIdeal.nD Cert.SwaIdeal.τ).loc Cert.SwaIdeal.main_arg3)
          ∧ r.2.mem ((c.tc : Thread Cert.SwaIdeal.nD Cert.SwaIdeal.τ).loc Cert.SwaIdeal.main_arg4) = m ((c.tc : Thread Cert.SwaIdeal.nD Cert.SwaIdeal.τ).loc Cert.SwaIdeal.main_arg4))
      ∧ θ_run (Cert.SwaRefIdeal.defs (F := Ideal)) (onTc (τ := Cert.SwaRefIdeal.τ) (Cert.SwaRefIdeal.main (F := Ideal))) ⟨m', fun _ => 0, g'⟩ (fun r => ∀ c : Dev Cert.SwaRefIdeal.nD,
          r.2.mem ((c.tc : Thread Cert.SwaRefIdeal.nD Cert.SwaRefIdeal.τ).loc Cert.SwaRefIdeal.main_v63) = v0 c
          ∧ r.2.mem ((c.tc : Thread Cert.SwaRefIdeal.nD Cert.SwaRefIdeal.τ).loc Cert.SwaRefIdeal.main_arg0) = m' ((c.tc : Thread Cert.SwaRefIdeal.nD Cert.SwaRefIdeal.τ).loc Cert.SwaRefIdeal.main_arg0)
          ∧ r.2.mem ((c.tc : Thread Cert.SwaRefIdeal.nD Cert.SwaRefIdeal.τ).loc Cert.SwaRefIdeal.main_arg1) = m' ((c.tc : Thread Cert.SwaRefIdeal.nD Cert.SwaRefIdeal.τ).loc Cert.SwaRefIdeal.main_arg1)
          ∧ r.2.mem ((c.tc : Thread Cert.SwaRefIdeal.nD Cert.SwaRefIdeal.τ).loc Cert.SwaRefIdeal.main_arg2) = m' ((c.tc : Thread Cert.SwaRefIdeal.nD Cert.SwaRefIdeal.τ).loc Cert.SwaRefIdeal.main_arg2)
          ∧ r.2.mem ((c.tc : Thread Cert.SwaRefIdeal.nD Cert.SwaRefIdeal.τ).loc Cert.SwaRefIdeal.main_arg3) = m' ((c.tc : Thread Cert.SwaRefIdeal.nD Cert.SwaRefIdeal.τ).loc Cert.SwaRefIdeal.main_arg3)
          ∧ r.2.mem ((c.tc : Thread Cert.SwaRefIdeal.nD Cert.SwaRefIdeal.τ).loc Cert.SwaRefIdeal.main_arg4) = m' ((c.tc : Thread Cert.SwaRefIdeal.nD Cert.SwaRefIdeal.τ).loc Cert.SwaRefIdeal.main_arg4))

def Claim : Prop :=
  ∃ (hFfn : Cert.Ffn.Facts) (hFfnIdeal : Cert.FfnIdeal.Facts) (hFfnRefIdeal : Cert.FfnRefIdeal.Facts) (hSwa : Cert.Swa.Facts) (hSwaIdeal : Cert.SwaIdeal.Facts) (hSwaRefIdeal : Cert.SwaRefIdeal.Facts) (hPre_finite_scores : Cert.Pre_finite_scores.Facts),
    quiescent_Ffn (hFfn := hFfn)
    ∧ quiescent_FfnIdeal (hFfnIdeal := hFfnIdeal)
    ∧ quiescent_FfnRefIdeal (hFfnRefIdeal := hFfnRefIdeal)
    ∧ quiescent_Swa (hSwa := hSwa)
    ∧ quiescent_SwaIdeal (hSwaIdeal := hSwaIdeal)
    ∧ quiescent_SwaIdeal_pre_finite_scores (hSwaIdeal := hSwaIdeal) (hPre_finite_scores := hPre_finite_scores)
    ∧ quiescent_SwaRefIdeal (hSwaRefIdeal := hSwaRefIdeal)
    ∧ quiescent_SwaRefIdeal_pre_finite_scores (hSwaRefIdeal := hSwaRefIdeal) (hPre_finite_scores := hPre_finite_scores)
    ∧ preserves_Ffn_FfnIdeal
    ∧ algebraic_FfnIdeal_FfnRefIdeal (hFfnIdeal := hFfnIdeal) (hFfnRefIdeal := hFfnRefIdeal)
    ∧ preserves_Swa_SwaIdeal
    ∧ algebraic_SwaIdeal_SwaRefIdeal_pre_finite_scores (hSwaIdeal := hSwaIdeal) (hSwaRefIdeal := hSwaRefIdeal) (hPre_finite_scores := hPre_finite_scores)
-- ==== Pre_finite_scores.lean ====
abbrev S32768x512 : Shape := ⟨2, ![32768, 512]⟩
abbrev S32768x128 : Shape := ⟨2, ![32768, 128]⟩
abbrev S32x8 : Shape := ⟨2, ![32, 8]⟩
abbrev S8 : Shape := ⟨1, ![8]⟩
abbrev S_ : Shape := ⟨0, ![]⟩

class Facts : Prop where
  bcast_S_S32768x512 : S_.BroadcastsInDim S32768x512 (![] : Fin 0 → Fin S32768x512.rank)
  reducesTo_S32768x512_S_d0_1 : S32768x512.ReducesTo [0, 1] S_
  h_S_ : 0 < S_.numel
  bcast_S_S32768x128 : S_.BroadcastsInDim S32768x128 (![] : Fin 0 → Fin S32768x128.rank)
  reducesTo_S32768x128_S_d0_1 : S32768x128.ReducesTo [0, 1] S_
  bcast_S_S32x8 : S_.BroadcastsInDim S32x8 (![] : Fin 0 → Fin S32x8.rank)
  reducesTo_S32x8_S_d0_1 : S32x8.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_v13 : IVec S_ 1) (main_v16 : IVec S8 1) : IVec S_ 1 :=
  let main_c_5 : IVec S_ 1 := constantI S_ 1 1#1
  let main_v17 : IVec S_ 1 := (fun x v => Host.reduce IntOp.andi x v reducesTo_S8_S_d0 h_S_) main_v16 main_c_5
  let main_v18 : IVec S_ 1 := andi main_v13 main_v17
  main_v18

def fn {F : FTy → Type} [FloatOps F] (main_arg0 : FVec F S32768x512 .f32) (main_arg1 : FVec F S32768x128 .f32) (main_arg2 : FVec F S32768x128 .f32) (main_arg3 : FVec F S32x8 .f32) (main_arg4 : FVec F S8 .f32) : IVec S_ 1 :=
  let main_v0 : FVec F S32768x512 .f32 := Host.absf main_arg0
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  let main_c : IVec S_ 1 := constantI S_ 1 1#1
  let main_v3 : IVec S_ 1 := (fun x v => Host.reduce IntOp.andi x v reducesTo_S32768x512_S_d0_1 h_S_) main_v2 main_c
  let main_v4 : FVec F S32768x128 .f32 := Host.absf main_arg1
  let main_cst_0 : FVec F S_ .f32 := constant S_ .f32 0x7F800000#32
  let main_v5 : FVec F S32768x128 .f32 := broadcastInDim S32768x128 ![] bcast_S_S32768x128 main_cst_0
  let main_v6 : IVec S32768x128 1 := cmpf .olt main_v4 main_v5
  let main_c_1 : IVec S_ 1 := constantI S_ 1 1#1
  let main_v7 : IVec S_ 1 := (fun x v => Host.reduce IntOp.andi x v reducesTo_S32768x128_S_d0_1 h_S_) main_v6 main_c_1
  let main_v8 : IVec S_ 1 := andi main_v3 main_v7
  let main_v9 : FVec F S32x8 .f32 := Host.absf main_arg3
  let main_cst_2 : FVec F S_ .f32 := constant S_ .f32 0x7F800000#32
  let main_v10 : FVec F S32x8 .f32 := broadcastInDim S32x8 ![] bcast_S_S32x8 main_cst_2
  let main_v11 : IVec S32x8 1 := cmpf .olt main_v9 main_v10
  let main_c_3 : IVec S_ 1 := constantI S_ 1 1#1
  let main_v12 : IVec S_ 1 := (fun x v => Host.reduce IntOp.andi x v reducesTo_S32x8_S_d0_1 h_S_) main_v11 main_c_3
  let main_v13 : IVec S_ 1 := andi main_v8 main_v12
  let main_v14 : FVec F S8 .f32 := Host.absf main_arg4
  let main_cst_4 : FVec F S_ .f32 := constant S_ .f32 0x7F800000#32
  let main_v15 : FVec F S8 .f32 := broadcastInDim S8 ![] bcast_S_S8 main_cst_4
  let main_v16 : IVec S8 1 := cmpf .olt main_v14 main_v15
  fn_part1 (F := F) main_v13 main_v16
-- ==== Ffn.lean ====
abbrev S32768x1024 : Shape := ⟨2, ![32768, 1024]⟩
abbrev S32768x512 : Shape := ⟨2, ![32768, 512]⟩
abbrev S1024x1024 : Shape := ⟨2, ![1024, 1024]⟩
abbrev S1x1024 : Shape := ⟨2, ![1, 1024]⟩
abbrev S1024x4096 : Shape := ⟨2, ![1024, 4096]⟩
abbrev S4096x1024 : Shape := ⟨2, ![4096, 1024]⟩
abbrev S1024x512 : Shape := ⟨2, ![1024, 512]⟩
abbrev S256x512 : Shape := ⟨2, ![256, 512]⟩
abbrev S512x1024 : Shape := ⟨2, ![512, 1024]⟩
abbrev S256x1024 : Shape := ⟨2, ![256, 1024]⟩
abbrev S256 : Shape := ⟨1, ![256]⟩
abbrev S256x1 : Shape := ⟨2, ![256, 1]⟩

abbrev nBuf : Space → Nat
  | .hbm => 13
  | .vmem => 14
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S1024x1024, .f32⟩
  | .hbm, ⟨4, _⟩ => ⟨S1x1024, .f32⟩
  | .hbm, ⟨5, _⟩ => ⟨S1x1024, .f32⟩
  | .hbm, ⟨6, _⟩ => ⟨S1024x4096, .f32⟩
  | .hbm, ⟨7, _⟩ => ⟨S4096x1024, .f32⟩
  | .hbm, ⟨8, _⟩ => ⟨S1x1024, .f32⟩
  | .hbm, ⟨9, _⟩ => ⟨S1024x1024, .bf16⟩
  | .hbm, ⟨10, _⟩ => ⟨S1024x4096, .bf16⟩
  | .hbm, ⟨11, _⟩ => ⟨S4096x1024, .bf16⟩
  | .hbm, ⟨12, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S1024x4096, .bf16⟩
  | .local _ .vmem, ⟨10, _⟩ => ⟨S4096x1024, .bf16⟩
  | .local _ .vmem, ⟨11, _⟩ => ⟨S1x1024, .f32⟩
  | .local _ .vmem, ⟨12, _⟩ => ⟨S1024x1024, .f32⟩
  | .local _ .vmem, ⟨13, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4096x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== FfnRefIdeal.lean ====
abbrev S32768x1024 : Shape := ⟨2, ![32768, 1024]⟩
abbrev S32768x512 : Shape := ⟨2, ![32768, 512]⟩
abbrev S1024x1024 : Shape := ⟨2, ![1024, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩
abbrev S32768 : Shape := ⟨1, ![32768]⟩
abbrev S32768x1 : Shape := ⟨2, ![32768, 1]⟩
abbrev S32768x4096 : Shape := ⟨2, ![32768, 4096]⟩

abbrev nBuf : Space → Nat
  | .hbm => 66
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S1024x1024, .f32⟩
  | .hbm, ⟨4, _⟩ => ⟨S1x1024, .f32⟩
  | .hbm, ⟨5, _⟩ => ⟨S1x1024, .f32⟩
  | .hbm, ⟨6, _⟩ => ⟨S1024x4096, .f32⟩
  | .hbm, ⟨7, _⟩ => ⟨S4096x1024, .f32⟩
  | .hbm, ⟨8, _⟩ => ⟨S1x1024, .f32⟩
  | .hbm, ⟨9, _⟩ => ⟨S32768x512, .f32⟩
  | .hbm, ⟨10, _⟩ => ⟨S32768x512, .f32⟩
  | .hbm, ⟨11, _⟩ => ⟨S32768x1024, .f32⟩
  | .hbm, ⟨12, _⟩ => ⟨S32768x1024, .f32⟩
  | .hbm, ⟨13, _⟩ => ⟨S32768x1024, .f32⟩
  | .hbm, ⟨14, _⟩ => ⟨S_, .f32⟩
  | .hbm, ⟨15, _⟩ => ⟨S32768, .f32⟩
  | .hbm, ⟨16, _⟩ => ⟨S32768x1, .f32⟩
  | .hbm, ⟨17, _⟩ => ⟨S_, .f32⟩
  | .hbm, ⟨18, _⟩ => ⟨S32768x1, .f32⟩
  | .hbm, ⟨19, _⟩ => ⟨S32768x1, .f32⟩
  | .hbm, ⟨20, _⟩ => ⟨S_, .f32⟩
  | .hbm, ⟨21, _⟩ => ⟨S32768x1, .f32⟩
  | .hbm, ⟨22, _⟩ => ⟨S32768x1, .f32⟩
  | .hbm, ⟨23, _⟩ => ⟨S32768x1, .f32⟩
  | .hbm, ⟨24, _⟩ => ⟨S32768x1024, .f32⟩
  | .hbm, ⟨25, _⟩ => ⟨S32768x1024, .f32⟩
  | .hbm, ⟨26, _⟩ => ⟨S32768x1024, .f32⟩
  | .hbm, ⟨27, _⟩ => ⟨S32768x1024, .f32⟩
  | .hbm, ⟨28, _⟩ => ⟨S32768x1024, .f32⟩
  | .hbm, ⟨29, _⟩ => ⟨S32768x1024, .f32⟩
  | .hbm, ⟨30, _⟩ => ⟨S_, .f32⟩
  | .hbm, ⟨31, _⟩ => ⟨S32768, .f32⟩
  | .hbm, ⟨32, _⟩ => ⟨S32768x1, .f32⟩
  | .hbm, ⟨33, _⟩ => ⟨S_, .f32⟩
  | .hbm, ⟨34, _⟩ => ⟨S32768x1, .f32⟩
  | .hbm, ⟨35, _⟩ => ⟨S32768x1, .f32⟩
  | .hbm, ⟨36, _⟩ => ⟨S_, .f32⟩
  | .hbm, ⟨37, _⟩ => ⟨S32768x1, .f32⟩
  | .hbm, ⟨38, _⟩ => ⟨S32768x1, .f32⟩
  | .hbm, ⟨39, _⟩ => ⟨S32768x1, .f32⟩
  | .hbm, ⟨40, _⟩ => ⟨S32768x1024, .f32⟩
  | .hbm, ⟨41, _⟩ => ⟨S32768x1024, .f32⟩
  | .hbm, ⟨42, _⟩ => ⟨S32768x1024, .f32⟩
  | .hbm, ⟨43, _⟩ => ⟨S32768x1024, .f32⟩
  | .hbm, ⟨44, _⟩ => ⟨S32768x4096, .f32⟩
  | .hbm, ⟨45, _⟩ => ⟨S_, .f32⟩
  | .hbm, ⟨46, _⟩ => ⟨S32768x4096, .f32⟩
  | .hbm, ⟨47, _⟩ => ⟨S32768x4096, .f32⟩
  | .hbm, ⟨48, _⟩ => ⟨S32768x4096, .f32⟩
  | .hbm, ⟨49, _⟩ => ⟨S32768x1024, .f32⟩
  | .hbm, ⟨50, _⟩ => ⟨S32768x1024, .f32⟩
  | .hbm, ⟨51, _⟩ => ⟨S_, .f32⟩
  | .hbm, ⟨52, _⟩ => ⟨S32768, .f32⟩
  | .hbm, ⟨53, _⟩ => ⟨S32768x1, .f32⟩
  | .hbm, ⟨54, _⟩ => ⟨S_, .f32⟩
  | .hbm, ⟨55, _⟩ => ⟨S32768x1, .f32⟩
  | .hbm, ⟨56, _⟩ => ⟨S32768x1, .f32⟩
  | .hbm, ⟨57, _⟩ => ⟨S_, .f32⟩
  | .hbm, ⟨58, _⟩ => ⟨S32768x1, .f32⟩
  | .hbm, ⟨59, _⟩ => ⟨S32768x1, .f32⟩
  | .hbm, ⟨60, _⟩ => ⟨S32768x1, .f32⟩
  | .hbm, ⟨61, _⟩ => ⟨S32768x1024, .f32⟩
  | .hbm, ⟨62, _⟩ => ⟨S32768x1024, .f32⟩
  | .hbm, ⟨63, _⟩ => ⟨S32768x1024, .f32⟩
  | .hbm, ⟨64, _⟩ => ⟨S32768x1024, .f32⟩
  | .hbm, ⟨65, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_call0_cst : Ref sig .tc := ⟨.hbm, 45, rfl⟩
abbrev main_call0_v0 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_5 : Ref sig .tc := ⟨.hbm, 51, rfl⟩
abbrev main_v34 : Ref sig .tc := ⟨.hbm, 52, rfl⟩
abbrev main_v35 : Ref sig .tc := ⟨.hbm, 53, rfl⟩
abbrev main_cst_6 : Ref sig .tc := ⟨.hbm, 54, rfl⟩
abbrev main_v36 : Ref sig .tc := ⟨.hbm, 55, rfl⟩
abbrev main_v37 : Ref sig .tc := ⟨.hbm, 56, rfl⟩
abbrev main_cst_7 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩

abbrev nD : Nat := 1
abbrev τ : Topo := Topo.v7x

variable {F : FTy → Type} [FloatOps F]
-- ==== Swa.lean ====
abbrev S32768x512 : Shape := ⟨2, ![32768, 512]⟩
abbrev S32768x128 : Shape := ⟨2, ![32768, 128]⟩
abbrev S32x8 : Shape := ⟨2, ![32, 8]⟩
abbrev S8 : Shape := ⟨1, ![8]⟩
abbrev S128x384 : Shape := ⟨2, ![128, 384]⟩
abbrev S_ : Shape := ⟨0, ![]⟩
abbrev S3x4x128x768 : Shape := ⟨4, ![3, 4, 128, 768]⟩
abbrev S3x1x128x768 : Shape := ⟨4, ![3, 1, 128, 768]⟩
abbrev S1x1 : Shape := ⟨2, ![1, 1]⟩
abbrev S1x1x128x384 : Shape := ⟨4, ![1, 1, 128, 384]⟩
abbrev S4096x256 : Shape := ⟨2, ![4096, 256]⟩
abbrev S4096x128 : Shape := ⟨2, ![4096, 128]⟩
abbrev S3x2x128x768 : Shape := ⟨4, ![3, 2, 128, 768]⟩
abbrev S4352x128 : Shape := ⟨2, ![4352, 128]⟩
abbrev S4352x256 : Shape := ⟨2, ![4352, 256]⟩
abbrev S2x128x768 : Shape := ⟨3, ![2, 128, 768]⟩
abbrev S2x128x128 : Shape := ⟨3, ![2, 128, 128]⟩
abbrev S512x128 : Shape := ⟨2, ![512, 128]⟩
abbrev S128x128 : Shape := ⟨2, ![128, 128]⟩
abbrev S128x256 : Shape := ⟨2, ![128, 256]⟩
abbrev S384x128 : Shape := ⟨2, ![384, 128]⟩
abbrev S768x128 : Shape := ⟨2, ![768, 128]⟩
abbrev S128x768 : Shape := ⟨2, ![128, 768]⟩
abbrev S1x1x128x768 : Shape := ⟨4, ![1, 1, 128, 768]⟩
abbrev S1x128x768 : Shape := ⟨3, ![1, 128, 768]⟩
abbrev S1x128x384 : Shape := ⟨3, ![1, 128, 384]⟩
abbrev S1 : Shape := ⟨1, ![1]⟩
abbrev S128 : Shape := ⟨1, ![128]⟩
abbrev S128x1 : Shape := ⟨2, ![128, 1]⟩
abbrev S1x128x128 : Shape := ⟨3, ![1, 128, 128]⟩
abbrev S384x256 : Shape := ⟨2, ![384, 256]⟩
abbrev S768x256 : Shape := ⟨2, ![768, 256]⟩

abbrev nBuf : Space → Nat
  | .hbm => 14
  | .vmem => 20
  | .smem => 2
  | _ => 0

abbrev bufTy : (tb : Table) → Fin (tcTables nBuf tb) → BufTy
  | .hbm, ⟨0, _⟩ => ⟨S32768x512, .f32⟩
  | .hbm, ⟨1, _⟩ => ⟨S32768x128, .f32⟩
  | .hbm, ⟨2, _⟩ => ⟨S32768x128, .f32⟩
  | .hbm, ⟨3, _⟩ => ⟨S32x8, .f32⟩
  | .hbm, ⟨4, _⟩ => ⟨S8, .f32⟩
  | .hbm, ⟨5, _⟩ => ⟨S128x384, .i32⟩
  | .hbm, ⟨6, _⟩ => ⟨S_, .f32⟩
  | .hbm, ⟨7, _⟩ => ⟨S32768x512, .f32⟩
  | .hbm, ⟨8, _⟩ => ⟨S32768x512, .f32⟩
  | .hbm, ⟨9, _⟩ => ⟨S32768x512, .bf16⟩
  | .hbm, ⟨10, _⟩ => ⟨S32768x128, .bf16⟩
  | .hbm, ⟨11, _⟩ => ⟨S32768x128, .bf16⟩
  | .hbm, ⟨12, _⟩ => ⟨S3x4x128x768, .f32⟩
  | .hbm, ⟨13, _⟩ => ⟨S32768x512, .bf16⟩
  | .local _ .vmem, ⟨0, _⟩ => ⟨S128x384, .i32⟩
  | .local _ .vmem, ⟨1, _⟩ => ⟨S3x1x128x768, .f32⟩
  | .local _ .vmem, ⟨2, _⟩ => ⟨S3x1x128x768, .f32⟩
  | .local _ .vmem, ⟨3, _⟩ => ⟨S4096x256, .bf16⟩
  | .local _ .vmem, ⟨4, _⟩ => ⟨S4096x256, .bf16⟩
  | .local _ .vmem, ⟨5, _⟩ => ⟨S4096x128, .bf16⟩
  | .local _ .vmem, ⟨6, _⟩ => ⟨S4096x128, .bf16⟩
  | .local _ .vmem, ⟨7, _⟩ => ⟨S4096x128, .bf16⟩
  | .local _ .vmem, ⟨8, _⟩ => ⟨S4096x128, .bf16⟩
  | .local _ .vmem, ⟨9, _⟩ => ⟨S3x2x128x768, .f32⟩
  | .local _ .vmem, ⟨10, _⟩ => ⟨S3x2x128x768, .f32⟩
  | .local _ .vmem, ⟨11, _⟩ => ⟨S4096x256, .bf16⟩
  | .local _ .vmem, ⟨12, _⟩ => ⟨S4096x256, .bf16⟩
  | .local _ .vmem, ⟨13, _⟩ => ⟨S4352x128, .bf16⟩
  | .local _ .vmem, ⟨14, _⟩ => ⟨S4352x128, .bf16⟩
  | .local _ .vmem, ⟨15, _⟩ => ⟨S4352x256, .bf16⟩
  | .local _ .vmem, ⟨16, _⟩ => ⟨S4352x256, .bf16⟩
  | .local _ .vmem, ⟨17, _⟩ => ⟨S2x128x768, .f32⟩
  | .local _ .vmem, ⟨18, _⟩ => ⟨S2x128x768, .bf16⟩
  | .local _ .vmem, ⟨19, _⟩ => ⟨S2x128x128, .f32⟩
  | .local _ .smem, ⟨0, _⟩ => ⟨S32x8, .f32⟩
  | .local _ .smem, ⟨1, _⟩ => ⟨S8, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg2_0 : Ref sig .tc := ⟨.vmem, 1, rfl⟩
abbrev cc0_stg2_1 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg5_0 : Ref sig .tc := ⟨.vmem, 11, rfl⟩
abbrev cc1_stg5_1 : Ref sig .tc := ⟨.vmem, 12, rfl⟩
abbrev cc1_scratch0 : Ref sig .tc := ⟨.vmem, 13, rfl⟩
abbrev cc1_scratch1 : Ref sig .tc := ⟨.vmem, 14, rfl⟩
abbrev cc1_scratch2 : Ref sig .tc := ⟨.vmem, 15, rfl⟩
abbrev cc1_scratch3 : Ref sig .tc := ⟨.vmem, 16, rfl⟩
abbrev cc1_scratch4 : Ref sig .tc := ⟨.vmem, 17, rfl⟩
abbrev cc1_scratch5 : Ref sig .tc := ⟨.vmem, 18, rfl⟩
abbrev cc1_scratch6 : Ref sig .tc := ⟨.vmem, 19, rfl⟩
abbrev cc0_stg1_0 : Ref sig .tc := ⟨.smem, 0, rfl⟩
abbrev cc1_stg4_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem5_0 : DmaSem sig := 13
abbrev cc1_sem5_1 : DmaSem sig := 14

abbrev nD : Nat := 1
abbrev τ : Topo := Topo.v7x

variable {F : FTy → Type} [FloatOps F]

abbrev grid0 : Pipeline.Grid := ⟨1, ![4], ![false]⟩

def k0_off1 (i : grid0.Coords) (c0_i32 : BitVec 32) : Fin 2 → Nat :=
  let c0_2 : Index := 0#32
  let c2_i32 : BitVec 32 := 2#32
  let arg0 : BitVec 32 := BitVec.ofNat 32 (i 0).val
  let v3 : BitVec 32 := Scalar.muli c2_i32 arg0
  let v4 : BitVec 32 := Scalar.addi v3 c0_i32
  let v7 : Index := Scalar.indexCast v4
  ![0, v7.toNat]
def k0_off2 (i : grid0.Coords) (c0_i32 : BitVec 32) : Fin 2 → Nat :=
  let c1 : Index := 1#32
  let c2_i32 : BitVec 32 := 2#32
  let arg0 : BitVec 32 := BitVec.ofNat 32 (i 0).val
  let v3 : BitVec 32 := Scalar.muli c2_i32 arg0
  let v4 : BitVec 32 := Scalar.addi v3 c0_i32
  let v13 : Index := Scalar.indexCast v4
  ![1, v13.toNat]
def k0_off3 (i : grid0.Coords) (c0_i32 : BitVec 32) : Fin 2 → Nat :=
  let c2 : Index := 2#32
  let c2_i32 : BitVec 32 := 2#32
  let arg0 : BitVec 32 := BitVec.ofNat 32 (i 0).val
  let v3 : BitVec 32 := Scalar.muli c2_i32 arg0
  let v4 : BitVec 32 := Scalar.addi v3 c0_i32
  let v19 : Index := Scalar.indexCast v4
  ![2, v19.toNat]
def k0_off4 (i : grid0.Coords) (c0_i32 : BitVec 32) : Fin 2 → Nat :=
  let c3 : Index := 3#32
  let c2_i32 : BitVec 32 := 2#32
  let arg0 : BitVec 32 := BitVec.ofNat 32 (i 0).val
  let v3 : BitVec 32 := Scalar.muli c2_i32 arg0
  let v4 : BitVec 32 := Scalar.addi v3 c0_i32
  let v25 : Index := Scalar.indexCast v4
  ![3, v25.toNat]
def k0_off5 (i : grid0.Coords) (c0_i32 : BitVec 32) : Fin 2 → Nat :=
  let c4 : Index := 4#32
  let c2_i32 : BitVec 32 := 2#32
  let arg0 : BitVec 32 := BitVec.ofNat 32 (i 0).val
  let v3 : BitVec 32 := Scalar.muli c2_i32 arg0
  let v4 : BitVec 32 := Scalar.addi v3 c0_i32
  let v31 : Index := Scalar.indexCast v4
  ![4, v31.toNat]
def k0_off6 (i : grid0.Coords) (c0_i32 : BitVec 32) : Fin 2 → Nat :=
  let c5 : Index := 5#32
  let c2_i32 : BitVec 32 := 2#32
  let arg0 : BitVec 32 := BitVec.ofNat 32 (i 0).val
  let v3 : BitVec 32 := Scalar.muli c2_i32 arg0
  let v4 : BitVec 32 := Scalar.addi v3 c0_i32
  let v37 : Index := Scalar.indexCast v4
  ![5, v37.toNat]
def k0_off7 (i : grid0.Coords) (c0_i32 : BitVec 32) : Fin 2 → Nat :=
  let c6 : Index := 6#32
  let c2_i32 : BitVec 32 := 2#32
  let arg0 : BitVec 32 := BitVec.ofNat 32 (i 0).val
  let v3 : BitVec 32 := Scalar.muli c2_i32 arg0
  let v4 : BitVec 32 := Scalar.addi v3 c0_i32
  let v43 : Index := Scalar.indexCast v4
  ![6, v43.toNat]
def k0_off8 (i : grid0.Coords) (c0_i32 : BitVec 32) : Fin 2 → Nat :=
  let c7 : Index := 7#32
  let c2_i32 : BitVec 32 := 2#32
  let arg0 : BitVec 32 := BitVec.ofNat 32 (i 0).val
  let v3 : BitVec 32 := Scalar.muli c2_i32 arg0
  let v4 : BitVec 32 := Scalar.addi v3 c0_i32
  let v49 : Index := Scalar.indexCast v4
  ![7, v49.toNat]
def k0_off9 (i : grid0.Coords) (c0_i32 : BitVec 32) : Fin 2 → Nat :=
  let c8 : Index := 8#32
  let c2_i32 : BitVec 32 := 2#32
  let arg0 : BitVec 32 := BitVec.ofNat 32 (i 0).val
  let v3 : BitVec 32 := Scalar.muli c2_i32 arg0
  let v4 : BitVec 32 := Scalar.addi v3 c0_i32
  let v55 : Index := Scalar.indexCast v4
  ![8, v55.toNat]
def k0_off10 (i : grid0.Coords) (c0_i32 : BitVec 32) : Fin 2 → Nat :=
  let c9 : Index := 9#32
  let c2_i32 : BitVec 32 := 2#32
  let arg0 : BitVec 32 := BitVec.ofNat 32 (i 0).val
  let v3 : BitVec 32 := Scalar.muli c2_i32 arg0
  let v4 : BitVec 32 := Scalar.addi v3 c0_i32
  let v61 : Index := Scalar.indexCast v4
  ![9, v61.toNat]
def k0_off11 (i : grid0.Coords) (c0_i32 : BitVec 32) : Fin 2 → Nat :=
  let c10 : Index := 10#32
  let c2_i32 : BitVec 32 := 2#32
  let arg0 : BitVec 32 := BitVec.ofNat 32 (i 0).val
  let v3 : BitVec 32 := Scalar.muli c2_i32 arg0
  let v4 : BitVec 32 := Scalar.addi v3 c0_i32
  let v67 : Index := Scalar.indexCast v4
  ![10, v67.toNat]
def k0_off12 (i : grid0.Coords) (c0_i32 : BitVec 32) : Fin 2 → Nat :=
  let c11 : Index := 11#32
  let c2_i32 : BitVec 32 := 2#32
  let arg0 : BitVec 32 := BitVec.ofNat 32 (i 0).val
  let v3 : BitVec 32 := Scalar.muli c2_i32 arg0
  let v4 : BitVec 32 := Scalar.addi v3 c0_i32
  let v73 : Index := Scalar.indexCast v4
  ![11, v73.toNat]
def k0_off13 (i : grid0.Coords) (c0_i32 : BitVec 32) : Fin 2 → Nat :=
  let c12 : Index := 12#32
  let c2_i32 : BitVec 32 := 2#32
  let arg0 : BitVec 32 := BitVec.ofNat 32 (i 0).val
  let v3 : BitVec 32 := Scalar.muli c2_i32 arg0
  let v4 : BitVec 32 := Scalar.addi v3 c0_i32
  let v79 : Index := Scalar.indexCast v4
  ![12, v79.toNat]
def k0_off14 (i : grid0.Coords) (c0_i32 : BitVec 32) : Fin 2 → Nat :=
  let c13 : Index := 13#32
  let c2_i32 : BitVec 32 := 2#32
  let arg0 : BitVec 32 := BitVec.ofNat 32 (i 0).val
  let v3 : BitVec 32 := Scalar.muli c2_i32 arg0
  let v4 : BitVec 32 := Scalar.addi v3 c0_i32
  let v85 : Index := Scalar.indexCast v4
  ![13, v85.toNat]
def k0_off15 (i : grid0.Coords) (c0_i32 : BitVec 32) : Fin 2 → Nat :=
  let c14 : Index := 14#32
  let c2_i32 : BitVec 32 := 2#32
  let arg0 : BitVec 32 := BitVec.ofNat 32 (i 0).val
  let v3 : BitVec 32 := Scalar.muli c2_i32 arg0
  let v4 : BitVec 32 := Scalar.addi v3 c0_i32
  let v91 : Index := Scalar.indexCast v4
  ![14, v91.toNat]
def k0_off16 (i : grid0.Coords) (c0_i32 : BitVec 32) : Fin 2 → Nat :=
  let c15 : Index := 15#32
  let c2_i32 : BitVec 32 := 2#32
  let arg0 : BitVec 32 := BitVec.ofNat 32 (i 0).val
  let v3 : BitVec 32 := Scalar.muli c2_i32 arg0
  let v4 : BitVec 32 := Scalar.addi v3 c0_i32
  let v97 : Index := Scalar.indexCast v4
  ![15, v97.toNat]
def k0_off17 (i : grid0.Coords) (c0_i32 : BitVec 32) : Fin 2 → Nat :=
  let c16 : Index := 16#32
  let c2_i32 : BitVec 32 := 2#32
  let arg0 : BitVec 32 := BitVec.ofNat 32 (i 0).val
  let v3 : BitVec 32 := Scalar.muli c2_i32 arg0
  let v4 : BitVec 32 := Scalar.addi v3 c0_i32
  let v103 : Index := Scalar.indexCast v4
  ![16, v103.toNat]
def k0_off18 (i : grid0.Coords) (c0_i32 : BitVec 32) : Fin 2 → Nat :=
  let c17 : Index := 17#32
  let c2_i32 : BitVec 32 := 2#32
  let arg0 : BitVec 32 := BitVec.ofNat 32 (i 0).val
  let v3 : BitVec 32 := Scalar.muli c2_i32 arg0
  let v4 : BitVec 32 := Scalar.addi v3 c0_i32
  let v109 : Index := Scalar.indexCast v4
  ![17, v109.toNat]
def k0_off19 (i : grid0.Coords) (c0_i32 : BitVec 32) : Fin 2 → Nat :=
  let c18 : Index := 18#32
  let c2_i32 : BitVec 32 := 2#32
  let arg0 : BitVec 32 := BitVec.ofNat 32 (i 0).val
  let v3 : BitVec 32 := Scalar.muli c2_i32 arg0
  let v4 : BitVec 32 := Scalar.addi v3 c0_i32
  let v115 : Index := Scalar.indexCast v4
  ![18, v115.toNat]
def k0_off20 (i : grid0.Coords) (c0_i32 : BitVec 32) : Fin 2 → Nat :=
  let c19 : Index := 19#32
  let c2_i32 : BitVec 32 := 2#32
  let arg0 : BitVec 32 := BitVec.ofNat 32 (i 0).val
  let v3 : BitVec 32 := Scalar.muli c2_i32 arg0
  let v4 : BitVec 32 := Scalar.addi v3 c0_i32
  let v121 : Index := Scalar.indexCast v4
  ![19, v121.toNat]
def k0_off21 (i : grid0.Coords) (c0_i32 : BitVec 32) : Fin 2 → Nat :=
  let c20 : Index := 20#32
  let c2_i32 : BitVec 32 := 2#32
  let arg0 : BitVec 32 := BitVec.ofNat 32 (i 0).val
  let v3 : BitVec 32 := Scalar.muli c2_i32 arg0
  let v4 : BitVec 32 := Scalar.addi v3 c0_i32
  let v127 : Index := Scalar.indexCast v4
  ![20, v127.toNat]
def k0_off22 (i : grid0.Coords) (c0_i32 : BitVec 32) : Fin 2 → Nat :=
  let c21 : Index := 21#32
  let c2_i32 : BitVec 32 := 2#32
  let arg0 : BitVec 32 := BitVec.ofNat 32 (i 0).val
  let v3 : BitVec 32 := Scalar.muli c2_i32 arg0
  let v4 : BitVec 32 := Scalar.addi v3 c0_i32
  let v133 : Index := Scalar.indexCast v4
  ![21, v133.toNat]
def k0_off23 (i : grid0.Coords) (c0_i32 : BitVec 32) : Fin 2 → Nat :=
  let c22 : Index := 22#32
  let c2_i32 : BitVec 32 := 2#32
  let arg0 : BitVec 32 := BitVec.ofNat 32 (i 0).val
  let v3 : BitVec 32 := Scalar.muli c2_i32 arg0
  let v4 : BitVec 32 := Scalar.addi v3 c0_i32
  let v139 : Index := Scalar.indexCast v4
  ![22, v139.toNat]
def k0_off24 (i : grid0.Coords) (c0_i32 : BitVec 32) : Fin 2 → Nat :=
  let c23 : Index := 23#32
  let c2_i32 : BitVec 32 := 2#32
  let arg0 : BitVec 32 := BitVec.ofNat 32 (i 0).val
  let v3 : BitVec 32 := Scalar.muli c2_i32 arg0
  let v4 : BitVec 32 := Scalar.addi v3 c0_i32
  let v145 : Index := Scalar.indexCast v4
  ![23, v145.toNat]
def k0_off25 (i : grid0.Coords) (c0_i32 : BitVec 32) : Fin 2 → Nat :=
  let c24 : Index := 24#32
  let c2_i32 : BitVec 32 := 2#32
  let arg0 : BitVec 32 := BitVec.ofNat 32 (i 0).val
  let v3 : BitVec 32 := Scalar.muli c2_i32 arg0
  let v4 : BitVec 32 := Scalar.addi v3 c0_i32
  let v151 : Index := Scalar.indexCast v4
  ![24, v151.toNat]
def k0_off26 (i : grid0.Coords) (c0_i32 : BitVec 32) : Fin 2 → Nat :=
  let c25 : Index := 25#32
  let c2_i32 : BitVec 32 := 2#32
  let arg0 : BitVec 32 := BitVec.ofNat 32 (i 0).val
  let v3 : BitVec 32 := Scalar.muli c2_i32 arg0
  let v4 : BitVec 32 := Scalar.addi v3 c0_i32
  let v157 : Index := Scalar.indexCast v4
  ![25, v157.toNat]
def k0_off27 (i : grid0.Coords) (c0_i32 : BitVec 32) : Fin 2 → Nat :=
  let c26 : Index := 26#32
  let c2_i32 : BitVec 32 := 2#32
  let arg0 : BitVec 32 := BitVec.ofNat 32 (i 0).val
  let v3 : BitVec 32 := Scalar.muli c2_i32 arg0
  let v4 : BitVec 32 := Scalar.addi v3 c0_i32
  let v163 : Index := Scalar.indexCast v4
  ![26, v163.toNat]
def k0_off28 (i : grid0.Coords) (c0_i32 : BitVec 32) : Fin 2 → Nat :=
  let c27 : Index := 27#32
  let c2_i32 : BitVec 32 := 2#32
  let arg0 : BitVec 32 := BitVec.ofNat 32 (i 0).val
  let v3 : BitVec 32 := Scalar.muli c2_i32 arg0
  let v4 : BitVec 32 := Scalar.addi v3 c0_i32
  let v169 : Index := Scalar.indexCast v4
  ![27, v169.toNat]
def k0_off29 (i : grid0.Coords) (c0_i32 : BitVec 32) : Fin 2 → Nat :=
  let c28 : Index := 28#32
  let c2_i32 : BitVec 32 := 2#32
  let arg0 : BitVec 32 := BitVec.ofNat 32 (i 0).val
  let v3 : BitVec 32 := Scalar.muli c2_i32 arg0
  let v4 : BitVec 32 := Scalar.addi v3 c0_i32
  let v175 : Index := Scalar.indexCast v4
  ![28, v175.toNat]
def k0_off30 (i : grid0.Coords) (c0_i32 : BitVec 32) : Fin 2 → Nat :=
  let c29 : Index := 29#32
  let c2_i32 : BitVec 32 := 2#32
  let arg0 : BitVec 32 := BitVec.ofNat 32 (i 0).val
  let v3 : BitVec 32 := Scalar.muli c2_i32 arg0
  let v4 : BitVec 32 := Scalar.addi v3 c0_i32
  let v181 : Index := Scalar.indexCast v4
  ![29, v181.toNat]
def k0_off31 (i : grid0.Coords) (c0_i32 : BitVec 32) : Fin 2 → Nat :=
  let c30 : Index := 30#32
  let c2_i32 : BitVec 32 := 2#32
  let arg0 : BitVec 32 := BitVec.ofNat 32 (i 0).val
  let v3 : BitVec 32 := Scalar.muli c2_i32 arg0
  let v4 : BitVec 32 := Scalar.addi v3 c0_i32
  let v187 : Index := Scalar.indexCast v4
  ![30, v187.toNat]
def k0_off32 (i : grid0.Coords) (c0_i32 : BitVec 32) : Fin 2 → Nat :=
  let c31 : Index := 31#32
  let c2_i32 : BitVec 32 := 2#32
  let arg0 : BitVec 32 := BitVec.ofNat 32 (i 0).val
  let v3 : BitVec 32 := Scalar.muli c2_i32 arg0
  let v4 : BitVec 32 := Scalar.addi v3 c0_i32
  let v193 : Index := Scalar.indexCast v4
  ![31, v193.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 1 → Memref sig .tc .vmem S128x384 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S32x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S3x1x128x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 2], ![false, false]⟩

@[reducible] def k1_t1_loop : Scf.Loop 32 :=
  let c0_i32_18 : BitVec 32 := 0#32
  let c8_i32 : BitVec 32 := 8#32
  let v36 : BitVec 32 := Scalar.addi c0_i32_18 c8_i32
  let c1_i32 : BitVec 32 := 1#32
  ⟨c0_i32_18, v36, c1_i32⟩
def k1_mult1 (k1_t1 : Fin k1_t1_loop.trips) : BitVec 32 :=
  let c0_i32_18 : BitVec 32 := 0#32
  let c1_i32 : BitVec 32 := 1#32
  let arg15 : BitVec 32 := Scf.iv c0_i32_18 c1_i32 k1_t1
  let c512_i32 : BitVec 32 := 512#32
  let v527 : BitVec 32 := Scalar.muli arg15 c512_i32
  v527
def k1_mult2 (k1_t1 : Fin k1_t1_loop.trips) : BitVec 32 :=
  let c0_i32_18 : BitVec 32 := 0#32
  let c1_i32 : BitVec 32 := 1#32
  let arg15 : BitVec 32 := Scf.iv c0_i32_18 c1_i32 k1_t1
  let c512_i32_290 : BitVec 32 := 512#32
  let v529 : BitVec 32 := Scalar.muli arg15 c512_i32_290
  let c128_i32_291 : BitVec 32 := 128#32
  let v530 : BitVec 32 := Scalar.addi v529 c128_i32_291
  v530
def k1_off1 (k1_t1 : Fin k1_t1_loop.trips) : Fin 2 → Nat :=
  let c0_i32_18 : BitVec 32 := 0#32
  let c1_i32 : BitVec 32 := 1#32
  let arg15 : BitVec 32 := Scf.iv c0_i32_18 c1_i32 k1_t1
  let c512_i32 : BitVec 32 := 512#32
  let v527 : BitVec 32 := Scalar.muli arg15 c512_i32
  let v528 : BitVec 32 := v527
  let v532 : Index := Scalar.indexCast v528
  let c0_292 : Index := 0#32
  ![v532.toNat, 0]
def k1_off2 (k1_t1 : Fin k1_t1_loop.trips) : Fin 2 → Nat :=
  let c0_i32_18 : BitVec 32 := 0#32
  let c1_i32 : BitVec 32 := 1#32
  let arg15 : BitVec 32 := Scf.iv c0_i32_18 c1_i32 k1_t1
  let c512_i32_290 : BitVec 32 := 512#32
  let v529 : BitVec 32 := Scalar.muli arg15 c512_i32_290
  let c128_i32_291 : BitVec 32 := 128#32
  let v530 : BitVec 32 := Scalar.addi v529 c128_i32_291
  let v531 : BitVec 32 := v530
  let v545 : Index := Scalar.indexCast v531
  let c0_298 : Index := 0#32
  ![v545.toNat, 0]
def k1_off3 (k1_t1 : Fin k1_t1_loop.trips) : Fin 2 → Nat :=
  let c0_i32_18 : BitVec 32 := 0#32
  let c1_i32 : BitVec 32 := 1#32
  let arg15 : BitVec 32 := Scf.iv c0_i32_18 c1_i32 k1_t1
  let c512_i32_290 : BitVec 32 := 512#32
  let v529 : BitVec 32 := Scalar.muli arg15 c512_i32_290
  let c128_i32_291 : BitVec 32 := 128#32
  let v530 : BitVec 32 := Scalar.addi v529 c128_i32_291
  let v531 : BitVec 32 := v530
  let v555 : Index := Scalar.indexCast v531
  let c0_300 : Index := 0#32
  ![v555.toNat, 0]
def k1_off4 (k1_t1 : Fin k1_t1_loop.trips) : Fin 2 → Nat :=
  let c0_i32_18 : BitVec 32 := 0#32
  let c1_i32 : BitVec 32 := 1#32
  let arg15 : BitVec 32 := Scf.iv c0_i32_18 c1_i32 k1_t1
  let c512_i32_290 : BitVec 32 := 512#32
  let v529 : BitVec 32 := Scalar.muli arg15 c512_i32_290
  let c128_i32_291 : BitVec 32 := 128#32
  let v530 : BitVec 32 := Scalar.addi v529 c128_i32_291
  let v531 : BitVec 32 := v530
  let v560 : Index := Scalar.indexCast v531
  let c128_301 : Index := 128#32
  ![v560.toNat, 128]
def k1_mult3 : BitVec 32 :=
  let c0_i32_20 : BitVec 32 := 0#32
  c0_i32_20
def k1_mult4 : BitVec 32 :=
  let c0_i32_21 : BitVec 32 := 0#32
  c0_i32_21
def k1_off5 (i : grid1.Coords) (c0_i32_44 : BitVec 32) (c0_i32_45 : BitVec 32) : Fin 1 → Nat :=
  let arg1 : BitVec 32 := BitVec.ofNat 32 (i 1).val
  let c2_i32 : BitVec 32 := 2#32
  let v69 : BitVec 32 := Scalar.muli arg1 c2_i32
  let c2_i32_43 : BitVec 32 := 2#32
  let v70 : BitVec 32 := Scalar.muli v69 c2_i32_43
  let v71 : BitVec 32 := Scalar.addi v70 c0_i32_44
  let v72 : BitVec 32 := Scalar.addi v71 c0_i32_45
  let v73 : Index := Scalar.indexCast v72
  ![v73.toNat]
def k1_mult5 : BitVec 32 :=
  let c128_i32 : BitVec 32 := 128#32
  c128_i32
def k1_mult6 : BitVec 32 :=
  let c128_i32_88 : BitVec 32 := 128#32
  c128_i32_88
@[reducible] def k1_t2_loop : Scf.Loop 32 :=
  let c1_i32_109 : BitVec 32 := 1#32
  let c29_i32 : BitVec 32 := 29#32
  let v198 : BitVec 32 := Scalar.addi c1_i32_109 c29_i32
  let c1_i32_110 : BitVec 32 := 1#32
  ⟨c1_i32_109, v198, c1_i32_110⟩
def k1_mult7 (k1_t2 : Fin k1_t2_loop.trips) : BitVec 32 :=
  let c1_i32_109 : BitVec 32 := 1#32
  let c1_i32_110 : BitVec 32 := 1#32
  let arg15 : BitVec 32 := Scf.iv c1_i32_109 c1_i32_110 k1_t2
  let c1_i32_290 : BitVec 32 := 1#32
  let v527 : BitVec 32 := Scalar.subi arg15 c1_i32_290
  let c128_i32_291 : BitVec 32 := 128#32
  let v528 : BitVec 32 := Scalar.muli v527 c128_i32_291
  v528
def k1_mult8 (k1_t2 : Fin k1_t2_loop.trips) : BitVec 32 :=
  let c1_i32_109 : BitVec 32 := 1#32
  let c1_i32_110 : BitVec 32 := 1#32
  let arg15 : BitVec 32 := Scf.iv c1_i32_109 c1_i32_110 k1_t2
  let c1_i32_290 : BitVec 32 := 1#32
  let v527 : BitVec 32 := Scalar.subi arg15 c1_i32_290
  let c128_i32_292 : BitVec 32 := 128#32
  let v530 : BitVec 32 := Scalar.muli v527 c128_i32_292
  v530
def k1_off6 (k1_t2 : Fin k1_t2_loop.trips) : Fin 2 → Nat :=
  let c1_i32_109 : BitVec 32 := 1#32
  let c1_i32_110 : BitVec 32 := 1#32
  let arg15 : BitVec 32 := Scf.iv c1_i32_109 c1_i32_110 k1_t2
  let c1_i32_290 : BitVec 32 := 1#32
  let v527 : BitVec 32 := Scalar.subi arg15 c1_i32_290
  let c128_i32_292 : BitVec 32 := 128#32
  let v530 : BitVec 32 := Scalar.muli v527 c128_i32_292
  let v531 : BitVec 32 := v530
  let v532 : Index := Scalar.indexCast v531
  let c0_293 : Index := 0#32
  ![v532.toNat, 0]
def k1_off7 (k1_t2 : Fin k1_t2_loop.trips) : Fin 2 → Nat :=
  let c1_i32_109 : BitVec 32 := 1#32
  let c1_i32_110 : BitVec 32 := 1#32
  let arg15 : BitVec 32 := Scf.iv c1_i32_109 c1_i32_110 k1_t2
  let c1_i32_290 : BitVec 32 := 1#32
  let v527 : BitVec 32 := Scalar.subi arg15 c1_i32_290
  let c128_i32_291 : BitVec 32 := 128#32
  let v528 : BitVec 32 := Scalar.muli v527 c128_i32_291
  let v529 : BitVec 32 := v528
  let v547 : Index := Scalar.indexCast v529
  let c0_302 : Index := 0#32
  ![v547.toNat, 0]
def k1_off8 (k1_t2 : Fin k1_t2_loop.trips) : Fin 2 → Nat :=
  let c1_i32_109 : BitVec 32 := 1#32
  let c1_i32_110 : BitVec 32 := 1#32
  let arg15 : BitVec 32 := Scf.iv c1_i32_109 c1_i32_110 k1_t2
  let c1_i32_290 : BitVec 32 := 1#32
  let v527 : BitVec 32 := Scalar.subi arg15 c1_i32_290
  let c128_i32_291 : BitVec 32 := 128#32
  let v528 : BitVec 32 := Scalar.muli v527 c128_i32_291
  let v529 : BitVec 32 := v528
  let v559 : Index := Scalar.indexCast v529
  let c128_310 : Index := 128#32
  ![v559.toNat, 128]
def k1_off9 (i : grid1.Coords) (c0_i32_316 : BitVec 32) (c0_i32_317 : BitVec 32) : Fin 1 → Nat :=
  let arg1 : BitVec 32 := BitVec.ofNat 32 (i 1).val
  let c2_i32_314 : BitVec 32 := 2#32
  let v563 : BitVec 32 := Scalar.muli arg1 c2_i32_314
  let c2_i32_315 : BitVec 32 := 2#32
  let v564 : BitVec 32 := Scalar.muli v563 c2_i32_315
  let v565 : BitVec 32 := Scalar.addi v564 c0_i32_316
  let v566 : BitVec 32 := Scalar.addi v565 c0_i32_317
  let v567 : Index := Scalar.indexCast v566
  ![v567.toNat]
def k1_mult9 (k1_t2 : Fin k1_t2_loop.trips) : BitVec 32 :=
  let c1_i32_109 : BitVec 32 := 1#32
  let c1_i32_110 : BitVec 32 := 1#32
  let arg15 : BitVec 32 := Scf.iv c1_i32_109 c1_i32_110 k1_t2
  let c1_i32_361 : BitVec 32 := 1#32
  let v665 : BitVec 32 := Scalar.addi arg15 c1_i32_361
  let c128_i32_362 : BitVec 32 := 128#32
  let v666 : BitVec 32 := Scalar.muli v665 c128_i32_362
  v666
def k1_mult10 (k1_t2 : Fin k1_t2_loop.trips) : BitVec 32 :=
  let c1_i32_109 : BitVec 32 := 1#32
  let c1_i32_110 : BitVec 32 := 1#32
  let arg15 : BitVec 32 := Scf.iv c1_i32_109 c1_i32_110 k1_t2
  let c1_i32_361 : BitVec 32 := 1#32
  let v665 : BitVec 32 := Scalar.addi arg15 c1_i32_361
  let c128_i32_363 : BitVec 32 := 128#32
  let v668 : BitVec 32 := Scalar.muli v665 c128_i32_363
  v668
def k1_off10 (k1_t2 : Fin k1_t2_loop.trips) : Fin 2 → Nat :=
  let c1_i32_109 : BitVec 32 := 1#32
  let c1_i32_110 : BitVec 32 := 1#32
  let arg15 : BitVec 32 := Scf.iv c1_i32_109 c1_i32_110 k1_t2
  let c1_i32_361 : BitVec 32 := 1#32
  let v665 : BitVec 32 := Scalar.addi arg15 c1_i32_361
  let c128_i32_363 : BitVec 32 := 128#32
  let v668 : BitVec 32 := Scalar.muli v665 c128_i32_363
  let v669 : BitVec 32 := v668
  let v670 : Index := Scalar.indexCast v669
  let c0_364 : Index := 0#32
  ![v670.toNat, 0]
def k1_off11 (k1_t2 : Fin k1_t2_loop.trips) : Fin 2 → Nat :=
  let c1_i32_109 : BitVec 32 := 1#32
  let c1_i32_110 : BitVec 32 := 1#32
  let arg15 : BitVec 32 := Scf.iv c1_i32_109 c1_i32_110 k1_t2
  let c1_i32_361 : BitVec 32 := 1#32
  let v665 : BitVec 32 := Scalar.addi arg15 c1_i32_361
  let c128_i32_362 : BitVec 32 := 128#32
  let v666 : BitVec 32 := Scalar.muli v665 c128_i32_362
  let v667 : BitVec 32 := v666
  let v675 : Index := Scalar.indexCast v667
  let c0_366 : Index := 0#32
  ![v675.toNat, 0]
def k1_off12 (k1_t2 : Fin k1_t2_loop.trips) : Fin 2 → Nat :=
  let c1_i32_109 : BitVec 32 := 1#32
  let c1_i32_110 : BitVec 32 := 1#32
  let arg15 : BitVec 32 := Scf.iv c1_i32_109 c1_i32_110 k1_t2
  let c1_i32_361 : BitVec 32 := 1#32
  let v665 : BitVec 32 := Scalar.addi arg15 c1_i32_361
  let c128_i32_362 : BitVec 32 := 128#32
  let v666 : BitVec 32 := Scalar.muli v665 c128_i32_362
  let v667 : BitVec 32 := v666
  let v685 : Index := Scalar.indexCast v667
  let c128_375 : Index := 128#32
  ![v685.toNat, 128]
def k1_mult11 : BitVec 32 :=
  let c3712_i32 : BitVec 32 := 3712#32
  c3712_i32
def k1_mult12 : BitVec 32 :=
  let c3712_i32_112 : BitVec 32 := 3712#32
  c3712_i32_112
def k1_mult13 : BitVec 32 :=
  let c3968_i32 : BitVec 32 := 3968#32
  c3968_i32
def k1_mult14 : BitVec 32 :=
  let c3968_i32_181 : BitVec 32 := 3968#32
  c3968_i32_181
def k1_mult15 : BitVec 32 :=
  let c3840_i32 : BitVec 32 := 3840#32
  c3840_i32
def k1_mult16 : BitVec 32 :=
  let c3840_i32_201 : BitVec 32 := 3840#32
  c3840_i32_201
def k1_mult17 : BitVec 32 :=
  let c3968_i32_270 : BitVec 32 := 3968#32
  c3968_i32_270
def k1_mult18 : BitVec 32 :=
  let c3968_i32_271 : BitVec 32 := 3968#32
  c3968_i32_271
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc1_transform_4 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S4096x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S4096x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S4096x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S3x2x128x768 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 1 → Memref sig .tc .smem S8 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S4096x256 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]
-- ==== SwaIdeal.lean ====
variable {F : FTy → Type} [FloatOps F] [Named F]
def κ : String → Option EReal := fun
  | "mask" => some ⊥
  | _ => none
-- ==== SwaRefIdeal.lean ====
abbrev S32768x512 : Shape := ⟨2, ![32768, 512]⟩
abbrev S32768x128 : Shape := ⟨2, ![32768, 128]⟩
abbrev S32x8 : Shape := ⟨2, ![32, 8]⟩
abbrev S8 : Shape := ⟨1, ![8]⟩
abbrev S1x128x384 : Shape := ⟨3, ![1, 128, 384]⟩
abbrev S32x1x384 : Shape := ⟨3, ![32, 1, 384]⟩
abbrev S128x384 : Shape := ⟨2, ![128, 384]⟩
abbrev S8x4096x8x64 : Shape := ⟨4, ![8, 4096, 8, 64]⟩
abbrev S8x8x4096x64 : Shape := ⟨4, ![8, 8, 4096, 64]⟩
abbrev S8x4096x2x64 : Shape := ⟨4, ![8, 4096, 2, 64]⟩
abbrev S8x2x4096x64 : Shape := ⟨4, ![8, 2, 4096, 64]⟩
abbrev S8x2x4x32x128x64 : Shape := ⟨6, ![8, 2, 4, 32, 128, 64]⟩
abbrev S_ : Shape := ⟨0, ![]⟩
abbrev S8x2x4352x64 : Shape := ⟨4, ![8, 2, 4352, 64]⟩
abbrev S8x2x34x128x64 : Shape := ⟨5, ![8, 2, 34, 128, 64]⟩
abbrev S8x2x32x128x64 : Shape := ⟨5, ![8, 2, 32, 128, 64]⟩
abbrev S8x2x32x384x64 : Shape := ⟨5, ![8, 2, 32, 384, 64]⟩
abbrev S32x128x384 : Shape := ⟨3, ![32, 128, 384]⟩
abbrev S128x384x1 : Shape := ⟨3, ![128, 384, 1]⟩
abbrev S128x384x8 : Shape := ⟨3, ![128, 384, 8]⟩
abbrev S8x128x384 : Shape := ⟨3, ![8, 128, 384]⟩
abbrev S2x4x1x128x384 : Shape := ⟨5, ![2, 4, 1, 128, 384]⟩
abbrev S8x2x32x384x4x128 : Shape := ⟨6, ![8, 2, 32, 384, 4, 128]⟩
abbrev S8x2x4x32x128x384 : Shape := ⟨6, ![8, 2, 4, 32, 128, 384]⟩
abbrev S1x2x4x1x128x384 : Shape := ⟨6, ![1, 2, 4, 1, 128, 384]⟩
abbrev S2x4x1x1x1 : Shape := ⟨5, ![2, 4, 1, 1, 1]⟩
abbrev S8x2x4x32x128 : Shape := ⟨5, ![8, 2, 4, 32, 128]⟩
abbrev S8x2x4x32x128x1 : Shape := ⟨6, ![8, 2, 4, 32, 128, 1]⟩
abbrev S1x2x4x1x1x1 : Shape := ⟨6, ![1, 2, 4, 1, 1, 1]⟩
abbrev S8x2x32x64x4x128 : Shape := ⟨6, ![8, 2, 32, 64, 4, 128]⟩
abbrev S8x4096x512 : Shape := ⟨3, ![8, 4096, 512]⟩

abbrev nBuf : Space → Nat
  | .hbm => 85
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S32768x128, .f32⟩
  | .hbm, ⟨2, _⟩ => ⟨S32768x128, .f32⟩
  | .hbm, ⟨3, _⟩ => ⟨S32x8, .f32⟩
  | .hbm, ⟨4, _⟩ => ⟨S8, .f32⟩
  | .hbm, ⟨5, _⟩ => ⟨S1x128x384, .i1⟩
  | .hbm, ⟨6, _⟩ => ⟨S32x1x384, .i1⟩
  | .hbm, ⟨7, _⟩ => ⟨S128x384, .i32⟩
  | .hbm, ⟨8, _⟩ => ⟨S8x4096x8x64, .f32⟩
  | .hbm, ⟨9, _⟩ => ⟨S8x8x4096x64, .f32⟩
  | .hbm, ⟨10, _⟩ => ⟨S8x4096x2x64, .f32⟩
  | .hbm, ⟨11, _⟩ => ⟨S8x2x4096x64, .f32⟩
  | .hbm, ⟨12, _⟩ => ⟨S8x4096x2x64, .f32⟩
  | .hbm, ⟨13, _⟩ => ⟨S8x2x4096x64, .f32⟩
  | .hbm, ⟨14, _⟩ => ⟨S8x2x4x32x128x64, .f32⟩
  | .hbm, ⟨15, _⟩ => ⟨S_, .i32⟩
  | .hbm, ⟨16, _⟩ => ⟨S_, .f32⟩
  | .hbm, ⟨17, _⟩ => ⟨S8x2x4352x64, .f32⟩
  | .hbm, ⟨18, _⟩ => ⟨S8x2x34x128x64, .f32⟩
  | .hbm, ⟨19, _⟩ => ⟨S8x2x32x128x64, .f32⟩
  | .hbm, ⟨20, _⟩ => ⟨S8x2x32x128x64, .f32⟩
  | .hbm, ⟨21, _⟩ => ⟨S8x2x32x128x64, .f32⟩
  | .hbm, ⟨22, _⟩ => ⟨S8x2x32x384x64, .f32⟩
  | .hbm, ⟨23, _⟩ => ⟨S_, .i32⟩
  | .hbm, ⟨24, _⟩ => ⟨S_, .f32⟩
  | .hbm, ⟨25, _⟩ => ⟨S8x2x4352x64, .f32⟩
  | .hbm, ⟨26, _⟩ => ⟨S8x2x34x128x64, .f32⟩
  | .hbm, ⟨27, _⟩ => ⟨S8x2x32x128x64, .f32⟩
  | .hbm, ⟨28, _⟩ => ⟨S8x2x32x128x64, .f32⟩
  | .hbm, ⟨29, _⟩ => ⟨S8x2x32x128x64, .f32⟩
  | .hbm, ⟨30, _⟩ => ⟨S8x2x32x384x64, .f32⟩
  | .hbm, ⟨31, _⟩ => ⟨S32x128x384, .i1⟩
  | .hbm, ⟨32, _⟩ => ⟨S32x128x384, .i1⟩
  | .hbm, ⟨33, _⟩ => ⟨S32x128x384, .i1⟩
  | .hbm, ⟨34, _⟩ => ⟨S_, .i32⟩
  | .hbm, ⟨35, _⟩ => ⟨S128x384, .i32⟩
  | .hbm, ⟨36, _⟩ => ⟨S128x384, .i1⟩
  | .hbm, ⟨37, _⟩ => ⟨S_, .i32⟩
  | .hbm, ⟨38, _⟩ => ⟨S128x384, .i32⟩
  | .hbm, ⟨39, _⟩ => ⟨S128x384, .i32⟩
  | .hbm, ⟨40, _⟩ => ⟨S128x384, .i32⟩
  | .hbm, ⟨41, _⟩ => ⟨S128x384x1, .i32⟩
  | .hbm, ⟨42, _⟩ => ⟨S128x384x8, .f32⟩
  | .hbm, ⟨43, _⟩ => ⟨S8x128x384, .f32⟩
  | .hbm, ⟨44, _⟩ => ⟨S2x4x1x128x384, .f32⟩
  | .hbm, ⟨45, _⟩ => ⟨S8x2x32x384x4x128, .f32⟩
  | .hbm, ⟨46, _⟩ => ⟨S8x2x4x32x128x384, .f32⟩
  | .hbm, ⟨47, _⟩ => ⟨S_, .f32⟩
  | .hbm, ⟨48, _⟩ => ⟨S8x2x4x32x128x384, .f32⟩
  | .hbm, ⟨49, _⟩ => ⟨S8x2x4x32x128x384, .f32⟩
  | .hbm, ⟨50, _⟩ => ⟨S1x2x4x1x128x384, .f32⟩
  | .hbm, ⟨51, _⟩ => ⟨S8x2x4x32x128x384, .f32⟩
  | .hbm, ⟨52, _⟩ => ⟨S8x2x4x32x128x384, .f32⟩
  | .hbm, ⟨53, _⟩ => ⟨S_, .f32⟩
  | .hbm, ⟨54, _⟩ => ⟨S_, .f32⟩
  | .hbm, ⟨55, _⟩ => ⟨S8x2x4x32x128x384, .i1⟩
  | .hbm, ⟨56, _⟩ => ⟨S8x2x4x32x128x384, .f32⟩
  | .hbm, ⟨57, _⟩ => ⟨S8x2x4x32x128x384, .f32⟩
  | .hbm, ⟨58, _⟩ => ⟨S2x4x1x1x1, .f32⟩
  | .hbm, ⟨59, _⟩ => ⟨S_, .f32⟩
  | .hbm, ⟨60, _⟩ => ⟨S8x2x4x32x128, .f32⟩
  | .hbm, ⟨61, _⟩ => ⟨S8x2x4x32x128x1, .f32⟩
  | .hbm, ⟨62, _⟩ => ⟨S1x2x4x1x1x1, .f32⟩
  | .hbm, ⟨63, _⟩ => ⟨S8x2x4x32x128x1, .f32⟩
  | .hbm, ⟨64, _⟩ => ⟨S8x2x4x32x128x1, .f32⟩
  | .hbm, ⟨65, _⟩ => ⟨S8x2x4x32x128x384, .f32⟩
  | .hbm, ⟨66, _⟩ => ⟨S8x2x4x32x128x384, .f32⟩
  | .hbm, ⟨67, _⟩ => ⟨S8x2x4x32x128x384, .f32⟩
  | .hbm, ⟨68, _⟩ => ⟨S_, .f32⟩
  | .hbm, ⟨69, _⟩ => ⟨S8x2x4x32x128, .f32⟩
  | .hbm, ⟨70, _⟩ => ⟨S8x2x4x32x128x1, .f32⟩
  | .hbm, ⟨71, _⟩ => ⟨S1x2x4x1x1x1, .f32⟩
  | .hbm, ⟨72, _⟩ => ⟨S8x2x4x32x128x1, .f32⟩
  | .hbm, ⟨73, _⟩ => ⟨S8x2x4x32x128x1, .f32⟩
  | .hbm, ⟨74, _⟩ => ⟨S8x2x4x32x128x1, .f32⟩
  | .hbm, ⟨75, _⟩ => ⟨S8x2x4x32x128x1, .f32⟩
  | .hbm, ⟨76, _⟩ => ⟨S8x2x4x32x128x384, .f32⟩
  | .hbm, ⟨77, _⟩ => ⟨S8x2x4x32x128x384, .f32⟩
  | .hbm, ⟨78, _⟩ => ⟨S8x2x32x64x4x128, .f32⟩
  | .hbm, ⟨79, _⟩ => ⟨S8x2x4x32x128x64, .f32⟩
  | .hbm, ⟨80, _⟩ => ⟨S8x8x4096x64, .f32⟩
  | .hbm, ⟨81, _⟩ => ⟨S8x4096x8x64, .f32⟩
  | .hbm, ⟨82, _⟩ => ⟨S8x4096x512, .f32⟩
  | .hbm, ⟨83, _⟩ => ⟨S32768x512, .f32⟩
  | .hbm, ⟨84, _⟩ => ⟨S32768x512, .bf16⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_2 : Ref sig .tc := ⟨.hbm, 15, rfl⟩
abbrev main_call0_v0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_3 : Ref sig .tc := ⟨.hbm, 23, rfl⟩
abbrev main_call1_v0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_8 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩

abbrev nD : Nat := 1
abbrev τ : Topo := Topo.v7x

variable {F : FTy → Type} [FloatOps F]
-- ==== Proof.FfnSpec.lean ====
/-
  What one row of the feed-forward layer is, as plain functions of that row: no program, no tile, no shape appears.
  The kernel (FfnSlab.lean) and the reference (FfnRefRow.lean) are each shown to compute these functions.
-/
module

public import proofs.«01_k».proof.Defs
public import Idealize.ShloMosaic.Lib.Pointwise

@[expose] public section

noncomputable section

open Idealize.ShloMosaic

namespace Cert.RowSpec

/-- The reciprocal root-mean-square of a row of 1024 numbers: `1 / √(mean of squares + ε)`, the two constants being the
    words both programs carry for 1024 and 1e-6. -/
def rinv (v : Fin 1024 → EReal) : EReal :=
  Ideal.rsqrt (Ideal.div (∑ k, v k * v k) (Ideal.ofBits .f32 1149239296#32) + Ideal.ofBits .f32 897988541#32)

/-- RMS normalisation of a row with gain `g`, at entry `l`. -/
def rms (v g : Fin 1024 → EReal) (l : Fin 1024) : EReal := v l * rinv v * g l

/-- The output projection of the two attentions' rows `a`, `s` laid side by side, at entry `l`. -/
def mix (a s : Fin 512 → EReal) (w : Fin 1024 → Fin 1024 → EReal) (l : Fin 1024) : EReal :=
  (∑ k : Fin 512, a k * w (Fin.castAdd 512 k) l) + ∑ k : Fin 512, s k * w (Fin.natAdd 512 k) l

/-- The hidden layer's activation `relu(hn · Wup)²` at hidden unit `f`. -/
def act (hn : Fin 1024 → EReal) (u : Fin 1024 → Fin 4096 → EReal) (f : Fin 4096) : EReal :=
  max (∑ k, hn k * u k f) 0 * max (∑ k, hn k * u k f) 0

/-- The feed-forward network's output at entry `l`: the activations times the down projection. -/
def down (z : Fin 4096 → EReal) (d : Fin 4096 → Fin 1024 → EReal) (l : Fin 1024) : EReal := ∑ f, z f * d f l

/-- The residual stream after the attention, at entry `l`: `x + rms(mix)`. -/
def res (x mx g : Fin 1024 → EReal) (l : Fin 1024) : EReal := x l + rms mx g l

/-- One row of the whole layer: `h + rms(relu(rms(h)·Wup)²·Wdown)` with `h = x + rms([a, s]·Wout)`. -/
def ffn (x : Fin 1024 → EReal) (a s : Fin 512 → EReal) (w : Fin 1024 → Fin 1024 → EReal) (g g' : Fin 1024 → EReal)
    (u : Fin 1024 → Fin 4096 → EReal) (d : Fin 4096 → Fin 1024 → EReal) (g'' : Fin 1024 → EReal) : Fin 1024 → EReal :=
  res (res x (mix a s w) g) (down (act (rms (res x (mix a s w) g) g') u) d) g''

end Cert.RowSpec

end
-- ==== Proof.FfnSlab.lean ====
/-
  One 256-row slab of the feed-forward kernel's block, at an index: each of the body's four stores writes one slab, the four
  being the same computation of different rows. `slab` names that computation and `slab_apply` reads it row by row.
-/
module

public import proofs.«01_k».proof.Proof.FfnSpec
public import proofs.«01_k».proof.Proof.Gen.FfnIdeal.Value

@[expose] public section

set_option maxRecDepth 16384

noncomputable section

open Idealize.ShloMosaic Idealize.ShloMosaic.TcCoe

namespace Cert.FfnSlab

open Cert.FfnIdeal Cert.FfnIdeal.Gen Cert.RowSpec

variable {F : FTy → Type} [FloatOps F]

/-- What the body stores for one slab, of the slab's rows of `x` and of the two attentions' outputs, the two halves of
    the output projection, the four quarters of the up and down projections and the three gains. -/
def slab (x : Vec F S256x1024 .f32) (a s : Vec F S256x512 .bf16) (w w' : Vec F S512x1024 .bf16) (g g' : Vec F S1x1024 .f32)
    (u0 u1 u2 u3 d0 d1 d2 d3 : Vec F S1024x1024 .bf16) (g'' : Vec F S1x1024 .f32) : FVec F S256x1024 .f32 :=
  k0_pay1 (k0_pay26 (k0_pay5 a w s w') x g)
    (k0_pay30 (k0_pay27 (k0_pay5 a w s w') x g g') (k0_pay28 (F := F)) (k0_pay29 (k0_pay5 a w s w') x g g' u0) d0 u1 d1 u2 d2)
    (k0_pay31 (k0_pay27 (k0_pay5 a w s w') x g g') u3) d3 g''

/-- The block the body leaves, as its four slabs (the four stores' payloads are `slab` by unfolding). -/
theorem out_eq (x0 : Vec F S1024x1024 .f32) (x1 x2 : Vec F S1024x512 .bf16) (x3 : Vec F S1024x1024 .bf16) (x4 x5 : Vec F S1x1024 .f32) (x6 : Vec F S1024x4096 .bf16) (x7 : Vec F S4096x1024 .bf16) (x8 : Vec F S1x1024 .f32) :
    out0_9 x0 x1 x2 x3 x4 x5 x6 x7 x8 =
      let p (rx : Rect S1024x1024) (ra : Rect S1024x512) (hx : rx.shape = S256x1024) (ha : ra.shape = S256x512) : Vec F S256x1024 .f32 :=
        slab (hx ▸ View.ld x0 rx) (ha ▸ View.ld x1 ra) (ha ▸ View.ld x2 ra) (View.ld x3 r0_1) (View.ld x3 r0_2) (View.ld x4 r0_7) (View.ld x5 r0_7)
          (View.ld x6 r0_8) (View.ld x6 r0_10) (View.ld x6 r0_12) (View.ld x6 r0_14)
          (View.ld x7 r0_9) (View.ld x7 r0_11) (View.ld x7 r0_13) (View.ld x7 r0_15) (View.ld x8 r0_7)
      View.canon [⟨r0_18, p r0_18 r0_5 rfl rfl⟩, ⟨r0_17, p r0_17 r0_4 rfl rfl⟩, ⟨r0_16, p r0_16 r0_3 rfl rfl⟩, ⟨r0_6, p r0_6 r0_0 rfl rfl⟩] := by
  unfold_out out0_9
  rfl

/-- A sum over four times `n` terms, taken a quarter at a time in the order the kernel accumulates. -/
theorem sum_quarters_of (n N : ℕ) (hN : N = n + n + n + n) (f : Fin N → EReal) :
    ∑ k, f k = (((∑ k : Fin n, f ⟨k, by omega⟩) + ∑ k : Fin n, f ⟨n + k, by omega⟩)
      + ∑ k : Fin n, f ⟨n + n + k, by omega⟩) + ∑ k : Fin n, f ⟨n + n + n + k, by omega⟩ := by
  subst hN
  rw [Fin.sum_univ_add, Fin.sum_univ_add, Fin.sum_univ_add]
  rfl

/-- The same over 4096 hidden units. -/
theorem sum_quarters (f : Fin 4096 → EReal) :
    ∑ k, f k = (((∑ k : Fin 1024, f ⟨k, by omega⟩) + ∑ k : Fin 1024, f ⟨1024 + k, by omega⟩)
      + ∑ k : Fin 1024, f ⟨2048 + k, by omega⟩) + ∑ k : Fin 1024, f ⟨3072 + k, by omega⟩ :=
  sum_quarters_of 1024 4096 rfl f

/-- The slab's last step at an index: the residual plus the normalised sum of what is accumulated and the last quarter's
    product. -/
theorem pay1_apply (h acc : FVec Ideal S256x1024 .f32) (z : FVec Ideal S256x1024 .bf16) (d : Vec Ideal S1024x1024 .bf16) (g : Vec Ideal S1x1024 .f32)
    (r : Fin 256) (l : Fin 1024) :
    k0_pay1 h acc z d g (ix2 r l) =
      res (fun l => h (ix2 r l)) (fun l => acc (ix2 r l) + ∑ f : Fin 1024, z (ix2 r f) * d (ix2 f l)) (fun l => g (ix2 0 l)) l := by
  pointwise [k0_pay1]
  simp only [res, rms, rinv]

set_option maxHeartbeats 1000000 in
/-- The slab at an index: row `r` of the slab is the layer's row function of row `r` of its operands, the halves of the
    output projection being halves of one matrix `W` and the quarters of the two others being quarters of `U` and `D`. -/
theorem slab_apply (x : Vec Ideal S256x1024 .f32) (a s : Vec Ideal S256x512 .bf16) (w w' : Vec Ideal S512x1024 .bf16) (g g' : Vec Ideal S1x1024 .f32)
    (u0 u1 u2 u3 d0 d1 d2 d3 : Vec Ideal S1024x1024 .bf16) (g'' : Vec Ideal S1x1024 .f32)
    (W : Fin 1024 → Fin 1024 → EReal) (U : Fin 1024 → Fin 4096 → EReal) (D : Fin 4096 → Fin 1024 → EReal)
    (hw : ∀ k l, w (ix2 k l) = W (Fin.castAdd 512 k) l) (hw' : ∀ k l, w' (ix2 k l) = W (Fin.natAdd 512 k) l)
    (hu0 : ∀ k (f : Fin 1024), u0 (ix2 k f) = U k ⟨f, by omega⟩) (hu1 : ∀ k (f : Fin 1024), u1 (ix2 k f) = U k ⟨1024 + f, by omega⟩)
    (hu2 : ∀ k (f : Fin 1024), u2 (ix2 k f) = U k ⟨2048 + f, by omega⟩) (hu3 : ∀ k (f : Fin 1024), u3 (ix2 k f) = U k ⟨3072 + f, by omega⟩)
    (hd0 : ∀ (f : Fin 1024) l, d0 (ix2 f l) = D ⟨f, by omega⟩ l) (hd1 : ∀ (f : Fin 1024) l, d1 (ix2 f l) = D ⟨1024 + f, by omega⟩ l)
    (hd2 : ∀ (f : Fin 1024) l, d2 (ix2 f l) = D ⟨2048 + f, by omega⟩ l) (hd3 : ∀ (f : Fin 1024) l, d3 (ix2 f l) = D ⟨3072 + f, by omega⟩ l)
    (r : Fin 256) (l : Fin 1024) :
    slab x a s w w' g g' u0 u1 u2 u3 d0 d1 d2 d3 g'' (ix2 r l) =
      ffn (fun l => x (ix2 r l)) (fun k => a (ix2 r k)) (fun k => s (ix2 r k)) W (fun l => g (ix2 0 l)) (fun l => g' (ix2 0 l)) U D
        (fun l => g'' (ix2 0 l)) l := by
  unfold slab
  have hmix : ∀ l, k0_pay5 a w s w' (ix2 r l) = mix (fun k => a (ix2 r k)) (fun k => s (ix2 r k)) W l := by
    intro l
    pointwise [k0_pay5]
    simp only [hw, hw', mix]
  generalize k0_pay5 a w s w' = mx at *
  have hres : ∀ l, k0_pay26 mx x g (ix2 r l) = res (fun l => x (ix2 r l)) (mix (fun k => a (ix2 r k)) (fun k => s (ix2 r k)) W) (fun l => g (ix2 0 l)) l := by
    intro l
    pointwise [k0_pay26]
    simp only [hmix, res, rms, rinv]
  have hhn : ∀ l, k0_pay27 mx x g g' (ix2 r l) = rms (res (fun l => x (ix2 r l)) (mix (fun k => a (ix2 r k)) (fun k => s (ix2 r k)) W) (fun l => g (ix2 0 l))) (fun l => g' (ix2 0 l)) l := by
    intro l
    pointwise [k0_pay27]
    simp only [hres, rms, rinv]
  have hz0 : ∀ f : Fin 1024, k0_pay29 mx x g g' u0 (ix2 r f) = ∑ k, k0_pay27 mx x g g' (ix2 r k) * u0 (ix2 k f) := by
    intro f
    pointwise [k0_pay29]
  generalize k0_pay27 mx x g g' = hn at *
  have hz3 : ∀ f : Fin 1024, k0_pay31 hn u3 (ix2 r f) = act (fun k => hn (ix2 r k)) U ⟨3072 + f, by omega⟩ := by
    intro f
    pointwise [k0_pay31]
    simp only [hu3, act]
  have hacc : ∀ l, k0_pay30 hn (k0_pay28 (F := Ideal)) (k0_pay29 mx x g g' u0) d0 u1 d1 u2 d2 (ix2 r l)
      = ((∑ f : Fin 1024, act (fun k => hn (ix2 r k)) U ⟨f, by omega⟩ * D ⟨f, by omega⟩ l)
        + ∑ f : Fin 1024, act (fun k => hn (ix2 r k)) U ⟨1024 + f, by omega⟩ * D ⟨1024 + f, by omega⟩ l)
        + ∑ f : Fin 1024, act (fun k => hn (ix2 r k)) U ⟨2048 + f, by omega⟩ * D ⟨2048 + f, by omega⟩ l := by
    intro l
    pointwise [k0_pay30, k0_pay28]
    simp only [hz0, hu0, hu1, hu2, hd0, hd1, hd2, act]
  have hdown : ∀ l, k0_pay30 hn (k0_pay28 (F := Ideal)) (k0_pay29 mx x g g' u0) d0 u1 d1 u2 d2 (ix2 r l)
        + ∑ f : Fin 1024, k0_pay31 hn u3 (ix2 r f) * d3 (ix2 f l) = down (act (fun k => hn (ix2 r k)) U) D l := by
    intro l
    rw [hacc]
    simp only [hz3, hd3, down]
    exact (sum_quarters (fun f => act (fun k => hn (ix2 r k)) U f * D f l)).symm
  have hres' : (fun l => k0_pay26 mx x g (ix2 r l)) = _ := funext hres
  have hhn' : (fun k => hn (ix2 r k)) = _ := funext hhn
  have hdown' := funext hdown
  rw [hhn'] at hdown'
  exact (pay1_apply _ _ _ _ _ r l).trans (congrFun (congrArg₂ (fun h d => res h d (fun l => g'' (ix2 0 l))) hres' hdown') l)

end Cert.FfnSlab

end
-- ==== Proof.FfnRefRow.lean ====
/-
  The reference, at an index: row `r` of its result is the layer's row function of row `r` of its operands. The
  reference's composed term is first written with its three RMS normalisations and its products named.
-/
module

public import proofs.«01_k».proof.Proof.FfnSpec
public import proofs.«01_k».proof.Proof.Gen.FfnRefIdeal.Run

@[expose] public section

set_option maxRecDepth 16384

noncomputable section

open Idealize.ShloMosaic Idealize.ShloMosaic.TcCoe

namespace Cert.FfnRefRow

open Cert.FfnRefIdeal Cert.FfnRefIdeal.Gen Cert.RowSpec

variable {F : FTy → Type} [FloatOps F]

/-- The reference's RMS normalisation of every row with a gain. -/
def rmsA (v : Vec F S32768x1024 .f32) (g : Vec F S1x1024 .f32) : Vec F S32768x1024 .f32 :=
  mulf (mulf v (broadcastInDim S32768x1024 ![0, 1] bcast_S32768x1_S32768x1024_0_1 (Host.rsqrt (addf (Host.divf (broadcastInDim S32768x1 ![0] bcast_S32768_S32768x1_0 (Host.reduceAdd (mulf v v) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32))))))
    (broadcastInDim S32768x1024 ![0, 1] bcast_S1x1024_S32768x1024_0_1 g)

/-- The reference's output projection. -/
def mixA (a s : Vec F S32768x512 .bf16) (w : Vec F S1024x1024 .f32) : Vec F S32768x1024 .f32 :=
  Host.dotGeneral dot_S32768x1024_S1024x1024_S32768x1024_1_0_0_1_n_n none (concatenate S32768x1024 1 [⟨S32768x512, (extf .f32 a bitsLt_bf16_f32)⟩, ⟨S32768x512, (extf .f32 s bitsLt_bf16_f32)⟩] concatenates_S32768x512_S32768x512_S32768x1024_d1) w

/-- The reference's feed-forward network before its last normalisation. -/
def ffA (hn : Vec F S32768x1024 .f32) (u : Vec F S1024x4096 .f32) (d : Vec F S4096x1024 .f32) : Vec F S32768x1024 .f32 :=
  Host.dotGeneral dot_S32768x4096_S4096x1024_S32768x1024_1_0_0_1_n_n none
    (mulf (maximumf (Host.dotGeneral dot_S32768x1024_S1024x4096_S32768x4096_1_0_0_1_n_n none hn u) (broadcastInDim S32768x4096 ![] bcast_S_S32768x4096 (constant S_ .f32 0x00000000#32)))
      (maximumf (Host.dotGeneral dot_S32768x1024_S1024x4096_S32768x4096_1_0_0_1_n_n none hn u) (broadcastInDim S32768x4096 ![] bcast_S_S32768x4096 (constant S_ .f32 0x00000000#32)))) d

/-- The reference's whole result, of its arguments' arrays. -/
def ffnA (x : Vec F S32768x1024 .f32) (a s : Vec F S32768x512 .bf16) (w : Vec F S1024x1024 .f32) (g g' : Vec F S1x1024 .f32)
    (u : Vec F S1024x4096 .f32) (d : Vec F S4096x1024 .f32) (g'' : Vec F S1x1024 .f32) : Vec F S32768x1024 .f32 :=
  addf (addf x (rmsA (mixA a s w) g)) (rmsA (ffA (rmsA (addf x (rmsA (mixA a s w) g)) g') u d) g'')

/-- The term the reference's run ends at is that result. -/
theorem res_eq (m : (ℓ : Loc nD τ sig) → Buf (Elt F) ℓ) (c : Dev nD) :
    Value.res_main_v45 m c = ffnA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  unfold Value.res_main_v45 ffnA ffA rmsA mixA
  rfl

/-- The RMS normalisation at an index. -/
theorem rmsA_apply (v : Vec Ideal S32768x1024 .f32) (g : Vec Ideal S1x1024 .f32) (r : Fin 32768) (l : Fin 1024) :
    rmsA v g (ix2 r l) = rms (fun l => v (ix2 r l)) (fun l => g (ix2 0 l)) l := by
  pointwise [rmsA]
  simp only [rms, rinv]

/-- The feed-forward network at an index. -/
theorem ffA_apply (hn : Vec Ideal S32768x1024 .f32) (u : Vec Ideal S1024x4096 .f32) (d : Vec Ideal S4096x1024 .f32) (r : Fin 32768) (l : Fin 1024) :
    ffA hn u d (ix2 r l) = down (act (fun k => hn (ix2 r k)) fun k f => u (ix2 k f)) (fun f l => d (ix2 f l)) l := by
  pointwise [ffA]
  simp only [down, act]

/-- The output projection at an index. -/
theorem mixA_apply (a s : Vec Ideal S32768x512 .bf16) (w : Vec Ideal S1024x1024 .f32) (r : Fin 32768) (l : Fin 1024) :
    mixA a s w (ix2 r l) = mix (fun k => a (ix2 r k)) (fun k => s (ix2 r k)) (fun k l => w (ix2 k l)) l := by
  pointwise [mixA]
  simp only [mix]
  rfl

/-- The reference's result at an index: the layer's row function of that row. -/
theorem ffnA_apply (x : Vec Ideal S32768x1024 .f32) (a s : Vec Ideal S32768x512 .bf16) (w : Vec Ideal S1024x1024 .f32) (g g' : Vec Ideal S1x1024 .f32)
    (u : Vec Ideal S1024x4096 .f32) (d : Vec Ideal S4096x1024 .f32) (g'' : Vec Ideal S1x1024 .f32) (r : Fin 32768) (l : Fin 1024) :
    ffnA x a s w g g' u d g'' (ix2 r l) =
      ffn (fun l => x (ix2 r l)) (fun k => a (ix2 r k)) (fun k => s (ix2 r k)) (fun k l => w (ix2 k l)) (fun l => g (ix2 0 l)) (fun l => g' (ix2 0 l))
        (fun k f => u (ix2 k f)) (fun f l => d (ix2 f l)) (fun l => g'' (ix2 0 l)) l := by
  have hadd : ∀ y z : FVec Ideal S32768x1024 .f32, ∀ l, addf y z (ix2 r l) = y (ix2 r l) + z (ix2 r l) := by
    intro y z l
    pointwise []
  unfold ffnA
  simp only [hadd, rmsA_apply, ffA_apply, mixA_apply]
  rfl

end Cert.FfnRefRow

end
-- ==== Proof.FfnArray.lean ====
/-
  From the blocks to the whole array: what the feed-forward kernel leaves in its result, at any index, is the layer's row
  function of that row of its arguments; and the reference leaves the same.
-/
module

public import proofs.«01_k».proof.Proof.FfnSlab
public import proofs.«01_k».proof.Proof.FfnRefRow
public import Idealize.ShloMosaic.Lib.Pipeline.Value
public import Idealize.ShloMosaic.Lib.Pipeline.ValueKit.Tiles

@[expose] public section

set_option maxRecDepth 16384

noncomputable section

open Idealize.ShloMosaic Idealize.ShloMosaic.TcCoe Idealize.SL.Sem
open Idealize.ShloMosaic.Pipeline (Dat)

namespace Cert.FfnArray

open Cert.FfnIdeal Cert.FfnIdeal.Gen Cert.RowSpec Cert.FfnSlab

/-- The block at an index: row `r` of what the body leaves is the row function of row `r` of its blocks. -/
theorem block_apply (x0 : Vec Ideal S1024x1024 .f32) (x1 x2 : Vec Ideal S1024x512 .bf16) (x3 : Vec Ideal S1024x1024 .bf16) (x4 x5 : Vec Ideal S1x1024 .f32)
    (x6 : Vec Ideal S1024x4096 .bf16) (x7 : Vec Ideal S4096x1024 .bf16) (x8 : Vec Ideal S1x1024 .f32) (r l : Fin 1024) :
    out0_9 x0 x1 x2 x3 x4 x5 x6 x7 x8 (ix2 r l) =
      ffn (fun l => x0 (ix2 r l)) (fun k => x1 (ix2 r k)) (fun k => x2 (ix2 r k)) (fun k l => x3 (ix2 k l)) (fun l => x4 (ix2 0 l))
        (fun l => x5 (ix2 0 l)) (fun k f => x6 (ix2 k f)) (fun f l => x7 (ix2 f l)) (fun l => x8 (ix2 0 l)) l := by
  -- one slab, whose rows start at row `o` of the block
  have key : ∀ (o : ℕ) (ix : ∀ a, (![o, 0] : Fin 2 → ℕ) a + S256x1024.size a ≤ S1024x1024.size a)
      (ia : ∀ a, (![o, 0] : Fin 2 → ℕ) a + S256x512.size a ≤ S1024x512.size a),
      View.TileAt (Val := Elt Ideal) (S := S1024x1024) (e := .f32) (ix2 r l) ![o, 0] S256x1024.size
        (slab (View.ld x0 (Rect.unit (s := S1024x1024) ![o, 0] S256x1024.size ix)) (View.ld x1 (Rect.unit (s := S1024x512) ![o, 0] S256x512.size ia))
          (View.ld x2 (Rect.unit (s := S1024x512) ![o, 0] S256x512.size ia)) (View.ld x3 r0_1) (View.ld x3 r0_2) (View.ld x4 r0_7) (View.ld x5 r0_7)
          (View.ld x6 r0_8) (View.ld x6 r0_10) (View.ld x6 r0_12) (View.ld x6 r0_14)
          (View.ld x7 r0_9) (View.ld x7 r0_11) (View.ld x7 r0_13) (View.ld x7 r0_15) (View.ld x8 r0_7))
        (ffn (fun l => x0 (ix2 r l)) (fun k => x1 (ix2 r k)) (fun k => x2 (ix2 r k)) (fun k l => x3 (ix2 k l)) (fun l => x4 (ix2 0 l))
          (fun l => x5 (ix2 0 l)) (fun k f => x6 (ix2 k f)) (fun f l => x7 (ix2 f l)) (fun l => x8 (ix2 0 l)) l) := by
    intro o ix ia q hq
    obtain ⟨r', l', rfl⟩ : ∃ (r' : Fin 256) (l' : Fin 1024), q = ix2 r' l' := ⟨q 0, q 1, by funext a; match a with | ⟨0, _⟩ => rfl | ⟨1, _⟩ => rfl⟩
    have h0 : (r : ℕ) = o + r' := hq 0
    have h1 : (l : ℕ) = 0 + l' := hq 1
    obtain rfl : l = l' := Fin.ext (by omega)
    refine (slab_apply _ _ _ _ _ _ _ _ _ _ _ _ _ _ _ _ (fun k l => x3 (ix2 k l)) (fun k f => x6 (ix2 k f)) (fun f l => x7 (ix2 f l))
      ?_ ?_ ?_ ?_ ?_ ?_ ?_ ?_ ?_ ?_ r' l).trans ?_
    all_goals first
      | (intro k f; refine View.ld_unit_apply_of _ _ _ _ _ _ fun a => ?_; match a with
          | ⟨0, _⟩ => first | rfl | exact (Nat.zero_add _).symm
          | ⟨1, _⟩ => first | rfl | exact (Nat.zero_add _).symm)
      | skip
    have e0 : (fun l : Fin 1024 => View.ld x0 (Rect.unit (s := S1024x1024) ![o, 0] S256x1024.size ix) (ix2 r' l)) = fun l => x0 (ix2 r l) :=
      funext fun l => View.ld_unit_apply_of _ _ _ _ _ _ fun a => match a with
        | ⟨0, _⟩ => h0
        | ⟨1, _⟩ => (Nat.zero_add _).symm
    have e1 : ∀ x : Vec Ideal S1024x512 .bf16, (fun k : Fin 512 => View.ld x (Rect.unit (s := S1024x512) ![o, 0] S256x512.size ia) (ix2 r' k)) = fun k => x (ix2 r k) := fun x =>
      funext fun l => View.ld_unit_apply_of _ _ _ _ _ _ fun a => match a with
        | ⟨0, _⟩ => h0
        | ⟨1, _⟩ => (Nat.zero_add _).symm
    have e2 : ∀ x : Vec Ideal S1x1024 .f32, (fun l : Fin 1024 => View.ld x r0_7 (ix2 0 l)) = fun l => x (ix2 0 l) := fun x =>
      funext fun l => View.ld_unit_apply_of _ _ _ _ _ _ fun a => match a with
        | ⟨0, _⟩ => rfl
        | ⟨1, _⟩ => (Nat.zero_add _).symm
    simp only [e0, e1, e2]
  rw [out_eq]
  refine View.canon_eq_of_allAt _ _ _ (cover0_9 _ _ _ _ _) ?_
  exact View.allAt_cons_unit _ _ _ _ _ (key 768 _ _) (View.allAt_cons_unit _ _ _ _ _ (key 512 _ _)
    (View.allAt_cons_unit _ _ _ _ _ (key 256 _ _) (View.allAt_cons_unit _ _ _ _ _ (key 0 _ _) (View.allAt_nil _ _))))

variable (m : (ℓ : Loc nD τ sig) → Buf (Elt Ideal) ℓ) (ρ : Dev nD → PrngReg)

/-- Where the row blocks of windows 0, 1, 2 and 9 start, at every point of the grid. -/
theorem row_start : ∀ t : Fin grid0.N,
    (win0_0.index t 0 * win0_0.size 0 = 1024 * t.val ∧ win0_0.index t 1 * win0_0.size 1 = 0)
    ∧ (win0_1.index t 0 * win0_1.size 0 = 1024 * t.val ∧ win0_1.index t 1 * win0_1.size 1 = 0)
    ∧ (win0_2.index t 0 * win0_2.size 0 = 1024 * t.val ∧ win0_2.index t 1 * win0_2.size 1 = 0)
    ∧ (win0_9.index t 0 * win0_9.size 0 = 1024 * t.val ∧ win0_9.index t 1 * win0_9.size 1 = 0) := by decide +kernel

/-- The blocks of the weights and gains are the whole arrays, at every point of the grid. -/
theorem whole_start : ∀ t : Fin grid0.N,
    (win0_3.index t 0 * win0_3.size 0 = 0 ∧ win0_3.index t 1 * win0_3.size 1 = 0)
    ∧ (win0_4.index t 0 * win0_4.size 0 = 0 ∧ win0_4.index t 1 * win0_4.size 1 = 0)
    ∧ (win0_5.index t 0 * win0_5.size 0 = 0 ∧ win0_5.index t 1 * win0_5.size 1 = 0)
    ∧ (win0_6.index t 0 * win0_6.size 0 = 0 ∧ win0_6.index t 1 * win0_6.size 1 = 0)
    ∧ (win0_7.index t 0 * win0_7.size 0 = 0 ∧ win0_7.index t 1 * win0_7.size 1 = 0)
    ∧ (win0_8.index t 0 * win0_8.size 0 = 0 ∧ win0_8.index t 1 * win0_8.size 1 = 0) := by decide +kernel

/-- Row `r` of point `t`'s block is row `1024·t + r` of the array. -/
def rowOf (t : Fin cfg0.N) (r : Fin 1024) : Fin 32768 := ⟨1024 * t.val + r, by have := t.isLt; have h : cfg0.N = 32 := N_0; omega⟩

theorem iblk0 (c : Dev nD) (t : Fin cfg0.N) (r l : Fin 1024) :
    iblk m c 0 t (ix2 r l) = m ((c : Thread nD τ).loc main_arg0) (ix2 (rowOf t r) l) := by
  refine (congrFun (V_main_arg0 m c) _).trans (congrArg (m ((c : Thread nD τ).loc main_arg0)) (funext fun a => Fin.ext ?_))
  match a with
  | ⟨0, _⟩ => show win0_0.index t 0 * win0_0.size 0 + 1 * r.val = 1024 * t.val + r.val; have := row_start t; omega
  | ⟨1, _⟩ => show win0_0.index t 1 * win0_0.size 1 + 1 * l.val = l.val; have := row_start t; omega

theorem iblk1 (c : Dev nD) (t : Fin cfg0.N) (r : Fin 1024) (l : Fin 512) :
    iblk m c 1 t (ix2 r l) = m ((c : Thread nD τ).loc main_arg1) (ix2 (rowOf t r) l) := by
  refine (congrFun (V_main_arg1 m c) _).trans (congrArg (m ((c : Thread nD τ).loc main_arg1)) (funext fun a => Fin.ext ?_))
  match a with
  | ⟨0, _⟩ => show win0_1.index t 0 * win0_1.size 0 + 1 * r.val = 1024 * t.val + r.val; have := row_start t; omega
  | ⟨1, _⟩ => show win0_1.index t 1 * win0_1.size 1 + 1 * l.val = l.val; have := row_start t; omega

theorem iblk2 (c : Dev nD) (t : Fin cfg0.N) (r : Fin 1024) (l : Fin 512) :
    iblk m c 2 t (ix2 r l) = m ((c : Thread nD τ).loc main_arg2) (ix2 (rowOf t r) l) := by
  refine (congrFun (V_main_arg2 m c) _).trans (congrArg (m ((c : Thread nD τ).loc main_arg2)) (funext fun a => Fin.ext ?_))
  match a with
  | ⟨0, _⟩ => show win0_2.index t 0 * win0_2.size 0 + 1 * r.val = 1024 * t.val + r.val; have := row_start t; omega
  | ⟨1, _⟩ => show win0_2.index t 1 * win0_2.size 1 + 1 * l.val = l.val; have := row_start t; omega

/-- The narrowed output projection the region finds holds the argument's values (a narrowing keeps its value here). -/
theorem V_v0 (c : Dev nD) (i : S1024x1024.Idx) : V m c main_v0 i = m ((c : Thread nD τ).loc main_arg3) i := by
  have e : V m c main_v0 = truncf (F := Ideal) (s := S1024x1024) (φ := .f32) .bf16 (m ((c : Thread nD τ).loc main_arg3)) bitsLt_bf16_f32 := rfl
  rw [e]
  rfl

/-- Likewise the narrowed up projection, -/
theorem V_v1 (c : Dev nD) (i : S1024x4096.Idx) : V m c main_v1 i = m ((c : Thread nD τ).loc main_arg6) i := by
  have e : V m c main_v1 = truncf (F := Ideal) (s := S1024x4096) (φ := .f32) .bf16 (m ((c : Thread nD τ).loc main_arg6)) bitsLt_bf16_f32 := rfl
  rw [e]
  rfl

/-- and the narrowed down projection. -/
theorem V_v2 (c : Dev nD) (i : S4096x1024.Idx) : V m c main_v2 i = m ((c : Thread nD τ).loc main_arg7) i := by
  have e : V m c main_v2 = truncf (F := Ideal) (s := S4096x1024) (φ := .f32) .bf16 (m ((c : Thread nD τ).loc main_arg7)) bitsLt_bf16_f32 := rfl
  rw [e]
  rfl

theorem iblk3 (c : Dev nD) (t : Fin cfg0.N) (r l : Fin 1024) :
    iblk m c 3 t (ix2 r l) = m ((c : Thread nD τ).loc main_arg3) (ix2 r l) := by
  refine (V_v0 m c _).trans (congrArg (m ((c : Thread nD τ).loc main_arg3)) (funext fun a => Fin.ext ?_))
  match a with
  | ⟨0, _⟩ => show win0_3.index t 0 * win0_3.size 0 + 1 * r.val = r.val; have := whole_start t; omega
  | ⟨1, _⟩ => show win0_3.index t 1 * win0_3.size 1 + 1 * l.val = l.val; have := whole_start t; omega

theorem iblk4 (c : Dev nD) (t : Fin cfg0.N) (l : Fin 1024) :
    iblk m c 4 t (ix2 0 l) = m ((c : Thread nD τ).loc main_arg4) (ix2 0 l) := by
  refine (congrFun (V_main_arg4 m c) _).trans (congrArg (m ((c : Thread nD τ).loc main_arg4)) (funext fun a => Fin.ext ?_))
  match a with
  | ⟨0, _⟩ => show win0_4.index t 0 * win0_4.size 0 + 1 * 0 = 0; have := whole_start t; omega
  | ⟨1, _⟩ => show win0_4.index t 1 * win0_4.size 1 + 1 * l.val = l.val; have := whole_start t; omega

theorem iblk5 (c : Dev nD) (t : Fin cfg0.N) (l : Fin 1024) :
    iblk m c 5 t (ix2 0 l) = m ((c : Thread nD τ).loc main_arg5) (ix2 0 l) := by
  refine (congrFun (V_main_arg5 m c) _).trans (congrArg (m ((c : Thread nD τ).loc main_arg5)) (funext fun a => Fin.ext ?_))
  match a with
  | ⟨0, _⟩ => show win0_5.index t 0 * win0_5.size 0 + 1 * 0 = 0; have := whole_start t; omega
  | ⟨1, _⟩ => show win0_5.index t 1 * win0_5.size 1 + 1 * l.val = l.val; have := whole_start t; omega

theorem iblk6 (c : Dev nD) (t : Fin cfg0.N) (r : Fin 1024) (l : Fin 4096) :
    iblk m c 6 t (ix2 r l) = m ((c : Thread nD τ).loc main_arg6) (ix2 r l) := by
  refine (V_v1 m c _).trans (congrArg (m ((c : Thread nD τ).loc main_arg6)) (funext fun a => Fin.ext ?_))
  match a with
  | ⟨0, _⟩ => show win0_6.index t 0 * win0_6.size 0 + 1 * r.val = r.val; have := whole_start t; omega
  | ⟨1, _⟩ => show win0_6.index t 1 * win0_6.size 1 + 1 * l.val = l.val; have := whole_start t; omega

theorem iblk7 (c : Dev nD) (t : Fin cfg0.N) (r : Fin 4096) (l : Fin 1024) :
    iblk m c 7 t (ix2 r l) = m ((c : Thread nD τ).loc main_arg7) (ix2 r l) := by
  refine (V_v2 m c _).trans (congrArg (m ((c : Thread nD τ).loc main_arg7)) (funext fun a => Fin.ext ?_))
  match a with
  | ⟨0, _⟩ => show win0_7.index t 0 * win0_7.size 0 + 1 * r.val = r.val; have := whole_start t; omega
  | ⟨1, _⟩ => show win0_7.index t 1 * win0_7.size 1 + 1 * l.val = l.val; have := whole_start t; omega

theorem iblk8 (c : Dev nD) (t : Fin cfg0.N) (l : Fin 1024) :
    iblk m c 8 t (ix2 0 l) = m ((c : Thread nD τ).loc main_arg8) (ix2 0 l) := by
  refine (congrFun (V_main_arg8 m c) _).trans (congrArg (m ((c : Thread nD τ).loc main_arg8)) (funext fun a => Fin.ext ?_))
  match a with
  | ⟨0, _⟩ => show win0_8.index t 0 * win0_8.size 0 + 1 * 0 = 0; have := whole_start t; omega
  | ⟨1, _⟩ => show win0_8.index t 1 * win0_8.size 1 + 1 * l.val = l.val; have := whole_start t; omega

/-- What the result is shown to hold: the reference's function of device `c`'s argument arrays. -/
abbrev goal (c : Dev nD) : Buf (Elt Ideal) ((c : Thread nD τ).loc main_v3) :=
  FfnRefRow.ffnA (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- What point `t` writes back is block `t` of the reference's function. -/
theorem flushed_eq (c : Dev nD) (t : Fin cfg0.N) :
    (dats m 0 c).flushed 9 t = (win0_9.blk t).view.read (Elt Ideal) (goal m c) := by
  rw [Value.flushed9]
  funext j
  obtain ⟨r, l, rfl⟩ : ∃ (r l : Fin 1024), j = ix2 r l := ⟨j 0, j 1, by funext a; match a with | ⟨0, _⟩ => rfl | ⟨1, _⟩ => rfl⟩
  have hi : (win0_9.blk t).view.emb (ix2 r l) = ix2 (rowOf t r) l := by
    funext a
    apply Fin.ext
    match a with
    | ⟨0, _⟩ => show win0_9.index t 0 * win0_9.size 0 + 1 * r.val = 1024 * t.val + r.val; have := row_start t; omega
    | ⟨1, _⟩ => show win0_9.index t 1 * win0_9.size 1 + 1 * l.val = l.val; have := row_start t; omega
  show out0_9 (iblk m c 0 t) (iblk m c 1 t) (iblk m c 2 t) (iblk m c 3 t) (iblk m c 4 t) (iblk m c 5 t) (iblk m c 6 t) (iblk m c 7 t) (iblk m c 8 t) (ix2 r l)
    = goal m c ((win0_9.blk t).view.emb (ix2 r l))
  rw [hi, block_apply]
  refine Eq.trans ?_ (FfnRefRow.ffnA_apply _ _ _ _ _ _ _ _ _ (rowOf t r) l).symm
  simp only [iblk0, iblk1, iblk2, iblk3, iblk4, iblk5, iblk6, iblk7, iblk8]

/-- Every index of the result is in some point's block. -/
theorem cover (i : S32768x1024.Idx) : ∃ t : Fin cfg0.N, (cfg0.win 9).flush t = true ∧ i ∈ ((cfg0.win 9).blk t).view.set := by
  have h0 : (i 0 : Nat) < 32768 := (i 0).isLt
  have h1 : (i 1 : Nat) < 1024 := (i 1).isLt
  have hN : cfg0.N = 32 := N_0
  refine ⟨⟨(i 0 : Nat) / 1024, by omega⟩, flush0_9 _, ?_⟩
  generalize ht : (⟨(i 0 : Nat) / 1024, by omega⟩ : Fin cfg0.N) = t
  have htv : (i 0 : Nat) / 1024 = t.val := congrArg Fin.val ht
  refine Finset.mem_map.mpr ⟨ix2 ⟨(i 0 : Nat) % 1024, by omega⟩ ⟨(i 1 : Nat), h1⟩, Finset.mem_univ _, ?_⟩
  funext a
  apply Fin.ext
  match a with
  | ⟨0, _⟩ => show win0_9.index t 0 * win0_9.size 0 + 1 * ((i 0 : Nat) % 1024) = (i 0 : Nat); have := row_start t; omega
  | ⟨1, _⟩ => show win0_9.index t 1 * win0_9.size 1 + 1 * (i 1 : Nat) = (i 1 : Nat); have := row_start t; omega

/-- So the result array ends holding the reference's function of the arguments. -/
theorem final_out (c : Dev nD) : (dats m 0 c).arrAt 9 cfg0.N = goal m c :=
  (dats m 0 c).arrAt_eq_of_cover 9 (goal m c) (fun t _ => flushed_eq m c t) cover

end Cert.FfnArray

end
-- ==== Proof.FfnClaims.lean ====
/-
  The claims about the feed-forward call: the frames of its programs and the equality with the reference.
-/
module

public import proofs.«01_k».proof.Proof.FfnArray
public import proofs.«01_k».proof.Proof.Gen.Ffn.Frame
public import Idealize.ShloMosaic.Lib.Quiescent

@[expose] public section

noncomputable section

open Idealize.ShloMosaic Idealize.ShloMosaic.TcCoe Idealize.SL.Sem

namespace Cert.Proof.Ffn

/-- The kernel terminates, its arguments unchanged and its counters at zero. -/
theorem frame : Cert.quiescent_Ffn := fun m ρ _ => Cert.Ffn.Gen.frame m ρ

/-- So does the kernel over the extended reals, -/
theorem frame_ideal : Cert.quiescent_FfnIdeal := fun m ρ _ => Cert.FfnIdeal.Gen.frame m ρ

/-- and so does the reference. -/
theorem frame_ref : Cert.quiescent_FfnRefIdeal := fun m ρ _ =>
  (θ_run Cert.FfnRefIdeal.defs _ _).mono (fun r h => ⟨fun c => (h c).2,
      Idealize.ShloMosaic.sem_eq_zero_of_no_sems (by decide) r.2⟩)
    (Cert.FfnRefIdeal.Value.run (F := Ideal) m ρ)

/-- Over the extended reals the kernel's result is the reference's, of the same arguments. -/
theorem algebraic : Cert.algebraic_FfnIdeal_FfnRefIdeal := by
  intro m ρ m' ρ' _ hag
  refine ⟨fun c => Cert.FfnArray.goal m c, ?_, ?_⟩
  · exact (θ_run Cert.FfnIdeal.defs _ _).mono (fun _ h c => ⟨(h c).1.trans (Cert.FfnArray.final_out m c), (h c).2⟩)
      (Cert.FfnIdeal.Value.run_blocks (F := Ideal) m ρ)
  · refine (θ_run Cert.FfnRefIdeal.defs _ _).mono (fun _ h c => ⟨(h c).1.trans ?_, (h c).2⟩) (Cert.FfnRefIdeal.Value.run (F := Ideal) m' ρ')
    obtain ⟨e0, e1, e2, e3, e4, e5, e6, e7, e8⟩ := hag c
    refine (Cert.FfnRefRow.res_eq m' c).trans ?_
    rw [e0, e1, e2, e3, e4, e5, e6, e7, e8]

end Cert.Proof.Ffn

end
-- ==== Proof.SwaRun.lean ====
/-
  One grid point of the windowed attention, run once: whatever the output window and the scratch hold on entry, the body
  ends with the output window at the contents `swaRun` names.
-/
module

public import proofs.«01_k».proof.Proof.Gen.SwaIdeal.Launch
public import proofs.«01_k».proof.Proof.Gen.SwaIdeal.Skeleton
public import proofs.«01_k».proof.Proof.Gen.SwaIdeal.Loops
public import proofs.«01_k».proof.Proof.Gen.SwaIdeal.Points
public import Idealize.ShloMosaic.Lib.Pipeline.FrameBody
public import Idealize.ShloMosaic.Lib.Tactic

@[expose] public section

set_option maxRecDepth 16384

noncomputable section

namespace Cert.Proof.Swa

open Cert.SwaIdeal Cert.SwaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 2000000 in
/-- The body at one grid point: the contents it leaves in the output window, a function of what the inputs hold and of
    what the output window and the scratch held, with the triple that says so. -/
@[irreducible] def swaRun (c : Dev nD) (i : grid1.Coords)
  (arg2 : Memref sig .tc .vmem S4096x256 .bf16) (harg2 : arg2.IsWhole)
  (arg3 : Memref sig .tc .vmem S4096x128 .bf16) (harg3 : arg3.IsWhole)
  (arg4 : Memref sig .tc .vmem S4096x128 .bf16) (harg4 : arg4.IsWhole)
  (arg5 : Memref sig .tc .vmem S3x2x128x768 .f32) (harg5 : arg5.IsWhole)
  (arg6 : Memref sig .tc .smem S8 .f32) (harg6 : arg6.IsWhole)
  (arg7 : Memref sig .tc .vmem S4096x256 .bf16) (harg7 : arg7.IsWhole)
  (arg8 : Memref sig .tc .vmem S4352x128 .bf16) (harg8 : arg8.IsWhole)
  (arg9 : Memref sig .tc .vmem S4352x128 .bf16) (harg9 : arg9.IsWhole)
  (arg10 : Memref sig .tc .vmem S4352x256 .bf16) (harg10 : arg10.IsWhole)
  (arg11 : Memref sig .tc .vmem S4352x256 .bf16) (harg11 : arg11.IsWhole)
  (arg12 : Memref sig .tc .vmem S2x128x768 .f32) (harg12 : arg12.IsWhole)
  (arg13 : Memref sig .tc .vmem S2x128x768 .bf16) (harg13 : arg13.IsWhole)
  (arg14 : Memref sig .tc .vmem S2x128x128 .f32) (harg14 : arg14.IsWhole)
  (x0 : Vec F S4096x256 .bf16) (x1 : Vec F S4096x128 .bf16) (x2 : Vec F S4096x128 .bf16) (x3 : Vec F S3x2x128x768 .f32) (x4 : Vec F S8 .f32) :
    { W : BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg7.view.ty // ∀ (E : Set ℕ) (K : PUnit → sProp 𝕄) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty),
      iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (arg7.view.loc (c : Thread nD τ) ↦[arg7.view.set]{fullShare} W f7 f8 f9 f10 f11 f12 f13 f14) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
      ⊢ wp frame (wpE (defs₀ (F := F)) Variants.none c none) E (cc1_swa i arg2 harg2 arg3 harg3 arg4 harg4 arg5 harg5 arg6 harg6 arg7 harg7 arg8 harg8 arg9 harg9 arg10 harg10 arg11 harg11 arg12 harg12 arg13 harg13 arg14 harg14) K } := by
  refine ⟨?_, fun E K f7 f8 f9 f10 f11 f12 f13 f14 => ?run⟩
  case run =>
    simp only [cc1_swa_eq_skeleton]; unfold cc1_swa_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton]
    unfold owns
    iintro ⟨⟨%f0, %hf0, H0⟩, ⟨%f1, %hf1, H1⟩, ⟨%f2, %hf2, H2⟩, ⟨%f3, %hf3, H3⟩, ⟨%f4, %hf4, H4⟩, H5, HS0, HS1, HS2, HS3, HS4, HS5, HS6, Hk⟩
    obtain rfl := harg2.eq_unread hf0; obtain rfl := harg3.eq_unread hf1; obtain rfl := harg4.eq_unread hf2
    obtain rfl := harg5.eq_unread hf3; obtain rfl := harg6.eq_unread hf4
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexact H5
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    iexists _, _; isplitr; swap; · iexact HS6
    ipureintro; rfl

end Cert.Proof.Swa

end
-- ==== Proof.SwaBias.lean ====
/-
  One grid point of the call that tabulates the bias, run once: whatever the output window holds on entry, the body ends
  with it at the contents `biasRun` names, and those are the same for every content found on entry.
-/
module

public import proofs.«01_k».proof.Proof.Gen.SwaIdeal.Launch
public import proofs.«01_k».proof.Proof.Gen.SwaIdeal.Skeleton
public import proofs.«01_k».proof.Proof.Gen.SwaIdeal.Loops
public import proofs.«01_k».proof.Proof.Gen.SwaIdeal.Points
public import Idealize.ShloMosaic.Lib.Pipeline.FrameBody
public import Idealize.ShloMosaic.Lib.Tactic

@[expose] public section

set_option maxRecDepth 16384

noncomputable section

namespace Cert.Proof.Swa

open Cert.SwaIdeal Cert.SwaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 2000000 in
/-- The tabulation at one grid point: the contents it leaves in the output window, with the triple that says so. -/
@[irreducible] def biasRun (c : Dev nD) (i : grid0.Coords)
  (arg1 : Memref sig .tc .vmem S128x384 .i32) (harg1 : arg1.IsWhole)
  (arg2 : Memref sig .tc .smem S32x8 .f32) (harg2 : arg2.IsWhole)
  (arg3 : Memref sig .tc .vmem S3x1x128x768 .f32) (harg3 : arg3.IsWhole)
  (x0 : Vec F S128x384 .i32) (x1 : Vec F S32x8 .f32) :
    { W : BufTy.Contents (Elt F) arg3.view.ty → BufTy.Contents (Elt F) arg3.view.ty // ∀ (E : Set ℕ) (K : PUnit → sProp 𝕄) (f : BufTy.Contents (Elt F) arg3.view.ty),
      iprop(owns (c : Thread nD τ) arg1 fullShare x0 ∗ owns (c : Thread nD τ) arg2 fullShare x1 ∗ (arg3.view.loc (c : Thread nD τ) ↦[arg3.view.set]{fullShare} f)
        ∗ (iprop(owns (c : Thread nD τ) arg1 fullShare x0 ∗ owns (c : Thread nD τ) arg2 fullShare x1 ∗ (arg3.view.loc (c : Thread nD τ) ↦[arg3.view.set]{fullShare} W f)) -∗ K ⟨⟩))
      ⊢ wp frame (wpE (defs₀ (F := F)) Variants.none c none) E (cc0_swa_bias i arg1 harg1 arg2 harg2 arg3 harg3) K } := by
  refine ⟨?_, fun E K f => ?run⟩
  case run =>
    simp only [cc0_swa_bias_eq_skeleton]; unfold cc0_swa_bias_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, H2, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    iexact H2

/-- The six stores tile the output window. -/
theorem bias_cover (p0 : Vec F S1x1x128x384 .f32) (p1 : Vec F S1x1x128x384 .f32) (p2 : Vec F S1x1x128x384 .f32) (p3 : Vec F S1x1x128x384 .f32) (p4 : Vec F S1x1x128x384 .f32) (p5 : Vec F S1x1x128x384 .f32) (y : S3x1x128x768.Idx) :
    ∃ pc ∈ ([⟨Rect.unit (s := S3x1x128x768) ![2, 0, 0, 384] S1x1x128x384.size inb_S3x1x128x768_S1x1x128x384_2_0_0_384, p0⟩, ⟨Rect.unit (s := S3x1x128x768) ![1, 0, 0, 384] S1x1x128x384.size inb_S3x1x128x768_S1x1x128x384_1_0_0_384, p1⟩, ⟨Rect.unit (s := S3x1x128x768) ![0, 0, 0, 384] S1x1x128x384.size inb_S3x1x128x768_S1x1x128x384_0_0_0_384, p2⟩, ⟨Rect.unit (s := S3x1x128x768) ![2, 0, 0, 0] S1x1x128x384.size inb_S3x1x128x768_S1x1x128x384_2_0_0_0, p3⟩, ⟨Rect.unit (s := S3x1x128x768) ![1, 0, 0, 0] S1x1x128x384.size inb_S3x1x128x768_S1x1x128x384_1_0_0_0, p4⟩, ⟨Rect.unit (s := S3x1x128x768) ![0, 0, 0, 0] S1x1x128x384.size inb_S3x1x128x768_S1x1x128x384_0_0_0_0, p5⟩] : List (View.Piece (Elt F) S3x1x128x768 .f32)), y ∈ pc.1.set :=
  View.cover_of_tiled [⟨Rect.unit (s := S3x1x128x768) ![2, 0, 0, 384] S1x1x128x384.size inb_S3x1x128x768_S1x1x128x384_2_0_0_384, p0⟩, ⟨Rect.unit (s := S3x1x128x768) ![1, 0, 0, 384] S1x1x128x384.size inb_S3x1x128x768_S1x1x128x384_1_0_0_384, p1⟩, ⟨Rect.unit (s := S3x1x128x768) ![0, 0, 0, 384] S1x1x128x384.size inb_S3x1x128x768_S1x1x128x384_0_0_0_384, p2⟩, ⟨Rect.unit (s := S3x1x128x768) ![2, 0, 0, 0] S1x1x128x384.size inb_S3x1x128x768_S1x1x128x384_2_0_0_0, p3⟩, ⟨Rect.unit (s := S3x1x128x768) ![1, 0, 0, 0] S1x1x128x384.size inb_S3x1x128x768_S1x1x128x384_1_0_0_0, p4⟩, ⟨Rect.unit (s := S3x1x128x768) ![0, 0, 0, 0] S1x1x128x384.size inb_S3x1x128x768_S1x1x128x384_0_0_0_0, p5⟩] S1x1x128x384.size (by rfl) y

/-- What the output window reads after a point does not depend on what it held before. -/
theorem bias_any (c : Dev nD) (i : grid0.Coords)
  (arg1 : Memref sig .tc .vmem S128x384 .i32) (harg1 : arg1.IsWhole)
  (arg2 : Memref sig .tc .smem S32x8 .f32) (harg2 : arg2.IsWhole)
  (arg3 : Memref sig .tc .vmem S3x1x128x768 .f32) (harg3 : arg3.IsWhole)
  (x0 : Vec F S128x384 .i32) (x1 : Vec F S32x8 .f32) (f f' : BufTy.Contents (Elt F) arg3.view.ty) :
    arg3.view.read (Elt F) ((biasRun c i arg1 harg1 arg2 harg2 arg3 harg3 x0 x1).1 f)
      = arg3.view.read (Elt F) ((biasRun c i arg1 harg1 arg2 harg2 arg3 harg3 x0 x1).1 f') := by
  unfold biasRun
  dsimp only
  refine (View.read_writes_eq_canon _ _ _ ?_).trans (View.read_writes_eq_canon _ _ _ ?_).symm
  · exact bias_cover _ _ _ _ _ _
  · exact bias_cover _ _ _ _ _ _

end Cert.Proof.Swa

end
-- ==== Proof.SwaLaunch.lean ====
/-
  The whole windowed attention, run: the call that tabulates the bias and then the attention call, as two regions of one
  program. The statement is over any float values; where the attention's output cannot be named it is forgotten (`b`).
-/
module

public import proofs.«01_k».proof.Proof.SwaRun
public import proofs.«01_k».proof.Proof.SwaBias
public import proofs.«01_k».proof.Proof.Gen.SwaIdeal.Regions
public import Idealize.ShloMosaic.Lib.Pipeline.FrameTail
public import Idealize.ShloMosaic.Lib.Pipeline.RegionsForget
public import Idealize.ShloMosaic.Lib.Pipeline.RegionArraysF
public import Idealize.ShloMosaic.Lib.Pipeline.RegionsLoop

@[expose] public section

set_option maxRecDepth 16384

noncomputable section

namespace Cert.Proof.Swa

open Cert.SwaIdeal Cert.SwaIdeal.Gen
open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat RDat Cfg Window BodyObligation BodyObligationLoose ucRefs)
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The first region: the bias tables -/

/-- Window `w`'s block at point `t` of region 0, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V1 m c (Pipeline.arrRef spec0 w))

abbrev ms0_0 (t : Fin cfg0.N) : Memref sig .tc .vmem S128x384 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S32x8 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3x1x128x768 .f32 := win0_2.stage (cfg0.slots t 2)
abbrev hs0_2 (t : Fin cfg0.N) : (ms0_2 t).IsWhole := hstage0_2 ((cfg0.slots t 2).cast nbuf0_2)

/-- The tables the first region leaves in its output window at point `t`. -/
def tables (c : Dev nD) (t : Fin cfg0.N) : Vec F S3x1x128x768 .f32 :=
  (ms0_2 t).view.read (Elt F) ((biasRun c (grid0.coords t) (ms0_0 t) (hs0_0 t) (ms0_1 t) (hs0_1 t) (ms0_2 t) (hs0_2 t) (iblk0 m c 0 t) (iblk0 m c 1 t)).1
    ((hs0_2 t).unread (constant S3x1x128x768 .f32 0x00000000#32)))

/-- The first region's proof data. -/
def dat0 (c : Dev nD) : Dat τ (Elt F) Unit ℕ (UR sig nD τ) ℕ cfg0 c where
  A w := V1 m c (Pipeline.arrRef spec0 w)
  after w t := match w with
    | ⟨0, _⟩ => iblk0 m c 0 t
    | ⟨1, _⟩ => iblk0 m c 1 t
    | ⟨2, _⟩ => tables m c t
  Φ _ := Pipeline.ΦA spec0 c
  q _ := fullShare
  owed _ := 0

theorem before0_0 (c : Dev nD) (t : Fin cfg0.N) (d) : (dat0 m c).before 0 t d = iblk0 m c 0 t :=
  ((dat0 m c).before_in_eq_fetched 0 rfl (fun _ => rfl) (fun _ _ _ => rfl) (fun t => by unfold Dat.blockOf; rfl) t d).trans
    (by unfold Dat.fetched Dat.blockOf iblk0; rfl)
theorem before0_1 (c : Dev nD) (t : Fin cfg0.N) (d) : (dat0 m c).before 1 t d = iblk0 m c 1 t :=
  ((dat0 m c).before_in_eq_fetched 1 rfl (fun _ => rfl) (fun _ _ _ => rfl) (fun t => by unfold Dat.blockOf; rfl) t d).trans
    (by unfold Dat.fetched Dat.blockOf iblk0; rfl)

/-- The first region's body at any point. -/
theorem sound0 (c : Dev nD) (t : Fin cfg0.N) :
    iprop((dat0 m c).Φ t.castSucc ∗ (dat0 m c).owesAt () t.castSucc
      ∗ (∃ d, owns (c : Thread nD τ) (ms0_0 t) fullShare ((dat0 m c).before 0 t d))
      ∗ (∃ d, owns (c : Thread nD τ) (ms0_1 t) fullShare ((dat0 m c).before 1 t d))
      ∗ (∃ d, owns (c : Thread nD τ) (ms0_2 t) fullShare ((dat0 m c).before 2 t d)))
    ⊢ wp frame (wpE (defs₀ (F := F)) Variants.none c none) Set.univ (bodyAt0 t) (fun _ =>
      iprop((dat0 m c).Φ t.succ ∗ (dat0 m c).owesAt () t.succ
        ∗ owns (c : Thread nD τ) (ms0_0 t) fullShare ((dat0 m c).after 0 t)
        ∗ owns (c : Thread nD τ) (ms0_1 t) fullShare ((dat0 m c).after 1 t)
        ∗ owns (c : Thread nD τ) (ms0_2 t) fullShare ((dat0 m c).after 2 t))) := by
  simp only [before0_0, before0_1]
  rw [show (dat0 m c).after 0 t = iblk0 m c 0 t by dsimp only [dat0], show (dat0 m c).after 1 t = iblk0 m c 1 t by dsimp only [dat0],
    show (dat0 m c).after 2 t = tables m c t by dsimp only [dat0]]
  rw [show (dat0 m c).Φ t.succ = (dat0 m c).Φ t.castSucc from rfl,
    show (dat0 m c).owesAt () t.succ = (dat0 m c).owesAt () t.castSucc from rfl]
  iintro ⟨HΦ, Ho, ⟨%d0, H0⟩, ⟨%d1, H1⟩, ⟨%d2, H2⟩⟩
  ihave H2' := (show owns (c : Thread nD τ) (ms0_2 t) fullShare ((dat0 m c).before 2 t d2)
      ⊢ (iprop(∃ f, ⌜(ms0_2 t).view.read (Elt F) f = (dat0 m c).before 2 t d2⌝ ∗ ((ms0_2 t).view.loc (c : Thread nD τ) ↦[(ms0_2 t).view.set]{fullShare} f)) : sProp 𝕄) from by unfold owns; exact .rfl) $$ H2
  icases H2' with ⟨%f, -, H2⟩
  iapply ((biasRun c (grid0.coords t) (ms0_0 t) (hs0_0 t) (ms0_1 t) (hs0_1 t) (ms0_2 t) (hs0_2 t) (iblk0 m c 0 t) (iblk0 m c 1 t)).2 Set.univ _ f)
  isplitl [H0]; · iexact H0
  isplitl [H1]; · iexact H1
  isplitl [H2]; · iexact H2
  iintro ⟨H0, H1, H2⟩
  isplitl [HΦ]; · iexact HΦ
  isplitl [Ho]; · iexact Ho
  isplitl [H0]; · iexact H0
  isplitl [H1]; · iexact H1
  unfold owns
  iexists _; isplitr
  swap; · iexact H2
  ipureintro
  exact bias_any c _ _ _ _ _ _ _ _ _ _ _

/-- The first region's body obligation. -/
theorem body0 (c : Dev nD) : BodyObligation (dat0 (F := F) m c) (defs₀ (F := F)) Variants.none () Set.univ := fun t => by
  rw [bigSep_W0, bigSep_W0, show defs₀ (F := F) .tc cfg0.body (cfg0.bodyArgs t (cfg0.slots t)) = bodyAt0 t by unfold defs₀; rw [Defs.onTc_tc]]
  exact triple_restated (sound0 m c t) rfl .rfl fun _ => .rfl

/-- Every unscoped buffer after the first region. -/
def Va (c : Dev nD) : Valuation τ sig (Elt F) := Pipeline.afterRegion (dat0 m c) (V1 m c)

/-! ## The second region: the attention -/

/-- Window `w`'s block at point `t` of region 1, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (Va m c (Pipeline.arrRef spec1 w))

abbrev ms1_0 (t : Fin cfg1.N) : Memref sig .tc .vmem S4096x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4096x128 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S3x2x128x768 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .smem S8 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S4096x256 .bf16 := win1_5.stage (cfg1.slots t 5)
abbrev hs1_5 (t : Fin cfg1.N) : (ms1_5 t).IsWhole := hstage1_5 ((cfg1.slots t 5).cast nbuf1_5)
abbrev sc0 : Memref sig .tc .vmem S4352x128 .bf16 := Memref.whole cc1_scratch0
abbrev sc1 : Memref sig .tc .vmem S4352x128 .bf16 := Memref.whole cc1_scratch1
abbrev sc2 : Memref sig .tc .vmem S4352x256 .bf16 := Memref.whole cc1_scratch2
abbrev sc3 : Memref sig .tc .vmem S4352x256 .bf16 := Memref.whole cc1_scratch3
abbrev sc4 : Memref sig .tc .vmem S2x128x768 .f32 := Memref.whole cc1_scratch4
abbrev sc5 : Memref sig .tc .vmem S2x128x768 .bf16 := Memref.whole cc1_scratch5
abbrev sc6 : Memref sig .tc .vmem S2x128x128 .f32 := Memref.whole cc1_scratch6

/-- What the second region's output window reads after the body at point `t`, from what it and the scratch held. -/
def left (c : Dev nD) (t : Fin cfg1.N) (f7 : BufTy.Contents (Elt F) (ms1_5 t).view.ty) (f8 : BufTy.Contents (Elt F) sc0.view.ty) (f9 : BufTy.Contents (Elt F) sc1.view.ty) (f10 : BufTy.Contents (Elt F) sc2.view.ty) (f11 : BufTy.Contents (Elt F) sc3.view.ty) (f12 : BufTy.Contents (Elt F) sc4.view.ty) (f13 : BufTy.Contents (Elt F) sc5.view.ty) (f14 : BufTy.Contents (Elt F) sc6.view.ty) : Vec F S4096x256 .bf16 :=
  (ms1_5 t).view.read (Elt F) ((swaRun c (grid1.coords t) (ms1_0 t) (hs1_0 t) (ms1_1 t) (hs1_1 t) (ms1_2 t) (hs1_2 t) (ms1_3 t) (hs1_3 t) (ms1_4 t) (hs1_4 t) (ms1_5 t) (hs1_5 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) (iblk1 m c 0 t) (iblk1 m c 1 t) (iblk1 m c 2 t) (iblk1 m c 3 t) (iblk1 m c 4 t)).1 f7 f8 f9 f10 f11 f12 f13 f14)

variable (b : Bool) (v : (c : Dev nD) → Fin cfg1.N → Vec F S4096x256 .bf16)

/-- The second region's proof data, its output named `v`. -/
def dat1 (c : Dev nD) : Dat τ (Elt F) Unit ℕ (UR sig nD τ) ℕ cfg1 c where
  A w := Va m c (Pipeline.arrRef spec1 w)
  after w t := match w with
    | ⟨0, _⟩ => iblk1 m c 0 t
    | ⟨1, _⟩ => iblk1 m c 1 t
    | ⟨2, _⟩ => iblk1 m c 2 t
    | ⟨3, _⟩ => iblk1 m c 3 t
    | ⟨4, _⟩ => iblk1 m c 4 t
    | ⟨5, _⟩ => v c t
  Φ _ := Pipeline.ΦA spec1 c
  q _ := fullShare
  owed _ := 0

/-- The output window is forgotten when `b` says so. -/
def fg1 : Fin cfg1.W → Bool := fun w => b && w.val == 5

theorem before1_0 (c : Dev nD) (t : Fin cfg1.N) (d) : (dat1 m v c).before 0 t d = iblk1 m c 0 t :=
  ((dat1 m v c).before_in_eq_fetched 0 rfl (fun _ => rfl) (fun _ _ _ => rfl) (fun t => by unfold Dat.blockOf; rfl) t d).trans
    (by unfold Dat.fetched Dat.blockOf iblk1; rfl)
theorem before1_1 (c : Dev nD) (t : Fin cfg1.N) (d) : (dat1 m v c).before 1 t d = iblk1 m c 1 t :=
  ((dat1 m v c).before_in_eq_fetched 1 rfl (fun _ => rfl) (fun _ _ _ => rfl) (fun t => by unfold Dat.blockOf; rfl) t d).trans
    (by unfold Dat.fetched Dat.blockOf iblk1; rfl)
theorem before1_2 (c : Dev nD) (t : Fin cfg1.N) (d) : (dat1 m v c).before 2 t d = iblk1 m c 2 t :=
  ((dat1 m v c).before_in_eq_fetched 2 rfl (fun _ => rfl) (fun _ _ _ => rfl) (fun t => by unfold Dat.blockOf; rfl) t d).trans
    (by unfold Dat.fetched Dat.blockOf iblk1; rfl)
theorem before1_3 (c : Dev nD) (t : Fin cfg1.N) (d) : (dat1 m v c).before 3 t d = iblk1 m c 3 t :=
  ((dat1 m v c).before_in_eq_fetched 3 rfl (fun _ => rfl) (fun _ _ _ => rfl) (fun t => by unfold Dat.blockOf; rfl) t d).trans
    (by unfold Dat.fetched Dat.blockOf iblk1; rfl)
theorem before1_4 (c : Dev nD) (t : Fin cfg1.N) (d) : (dat1 m v c).before 4 t d = iblk1 m c 4 t :=
  ((dat1 m v c).before_in_eq_fetched 4 rfl (fun _ => rfl) (fun _ _ _ => rfl) (fun t => by unfold Dat.blockOf; rfl) t d).trans
    (by unfold Dat.fetched Dat.blockOf iblk1; rfl)

/-- The invariant of the second region with the scratch as memrefs owned at some contents. -/
theorem inv1_eq (c : Dev nD) :
    (Pipeline.ΦA spec1 c : sProp 𝕄) = iprop(((∃ f : Buf (Elt F) ((c : Thread nD τ).loc cc0_stg0_0), ((c : Thread nD τ).loc cc0_stg0_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d) ∗ (∃ d, owns (c : Thread nD τ) sc6 fullShare d) ∗ (∃ f : Buf (Elt F) ((c : Thread nD τ).loc cc0_stg1_0), ((c : Thread nD τ).loc cc0_stg1_0) ↦{fullShare} f)) ∗ ∃ r, prngReg c r) := by
  unfold Pipeline.ΦA; rw [scopedRest1_eq]; simp only [sc0, sc1, sc2, sc3, sc4, sc5, sc6, owns_whole]; try rfl

/-- What the body leaves of the output window: at `v`, or at some contents where it is forgotten. -/
def leaves (c : Dev nD) (t : Fin cfg1.N) : sProp 𝕄 := match b with
  | true => iprop(∃ X, owns (c : Thread nD τ) (ms1_5 t) fullShare X)
  | false => owns (c : Thread nD τ) (ms1_5 t) fullShare (v c t)

/-- The output window at contents the run names is what the body is to leave. -/
theorem leaves_of (c : Dev nD) (t : Fin cfg1.N) (X) (h : b = false → X = v c t) :
    owns (c : Thread nD τ) (ms1_5 t) fullShare X ⊢ leaves b v c t := by
  unfold leaves
  cases b with
  | true => iintro H; iexists X; iexact H
  | false => rw [h rfl]

/-- A memref owned is its points-to at some contents. -/
theorem owns_some {sp : Space} {s : Shape} {e : EltTy} (c : Dev nD) (M : Memref sig .tc sp s e) :
    iprop(∃ d, owns (c : Thread nD τ) M fullShare d) ⊢ (iprop(∃ f, M.view.loc (c : Thread nD τ) ↦[M.view.set]{fullShare} f) : sProp 𝕄) := by
  unfold owns
  iintro ⟨%d, %f, -, H⟩
  iexists f; iexact H

set_option maxHeartbeats 2000000 in
/-- The second region's body at any point. -/
theorem sound1 (hv : b = false → ∀ c t f7 f8 f9 f10 f11 f12 f13 f14, left m c t f7 f8 f9 f10 f11 f12 f13 f14 = v c t) (c : Dev nD) (t : Fin cfg1.N) :
    iprop((dat1 m v c).Φ t.castSucc ∗ (dat1 m v c).owesAt () t.castSucc
      ∗ (∃ d, owns (c : Thread nD τ) (ms1_0 t) fullShare ((dat1 m v c).before 0 t d))
      ∗ (∃ d, owns (c : Thread nD τ) (ms1_1 t) fullShare ((dat1 m v c).before 1 t d))
      ∗ (∃ d, owns (c : Thread nD τ) (ms1_2 t) fullShare ((dat1 m v c).before 2 t d))
      ∗ (∃ d, owns (c : Thread nD τ) (ms1_3 t) fullShare ((dat1 m v c).before 3 t d))
      ∗ (∃ d, owns (c : Thread nD τ) (ms1_4 t) fullShare ((dat1 m v c).before 4 t d))
      ∗ (∃ d, owns (c : Thread nD τ) (ms1_5 t) fullShare d))
    ⊢ wp frame (wpE (defs₀ (F := F)) Variants.none c none) Set.univ (bodyAt1 t) (fun _ =>
      iprop((dat1 m v c).Φ t.succ ∗ (dat1 m v c).owesAt () t.succ
        ∗ owns (c : Thread nD τ) (ms1_0 t) fullShare ((dat1 m v c).after 0 t)
        ∗ owns (c : Thread nD τ) (ms1_1 t) fullShare ((dat1 m v c).after 1 t)
        ∗ owns (c : Thread nD τ) (ms1_2 t) fullShare ((dat1 m v c).after 2 t)
        ∗ owns (c : Thread nD τ) (ms1_3 t) fullShare ((dat1 m v c).after 3 t)
        ∗ owns (c : Thread nD τ) (ms1_4 t) fullShare ((dat1 m v c).after 4 t)
        ∗ leaves b v c t)) := by
  simp only [before1_0, before1_1, before1_2, before1_3, before1_4]
  rw [show (dat1 m v c).after 0 t = iblk1 m c 0 t by dsimp only [dat1], show (dat1 m v c).after 1 t = iblk1 m c 1 t by dsimp only [dat1], show (dat1 m v c).after 2 t = iblk1 m c 2 t by dsimp only [dat1], show (dat1 m v c).after 3 t = iblk1 m c 3 t by dsimp only [dat1], show (dat1 m v c).after 4 t = iblk1 m c 4 t by dsimp only [dat1]]
  rw [show (dat1 m v c).Φ t.succ = (dat1 m v c).Φ t.castSucc from rfl,
    show (dat1 m v c).owesAt () t.succ = (dat1 m v c).owesAt () t.castSucc from rfl,
    show (dat1 m v c).Φ t.castSucc = Pipeline.ΦA spec1 c from rfl, inv1_eq]
  iintro ⟨⟨⟨HA, HB, HC, HS0, HS1, HS2, HS3, HS4, HS5, HS6, HD⟩, Hg⟩, Ho, ⟨%d0, H0⟩, ⟨%d1, H1⟩, ⟨%d2, H2⟩, ⟨%d3, H3⟩, ⟨%d4, H4⟩, H5⟩
  ihave HS0' := (owns_some c sc0) $$ HS0
  icases HS0' with ⟨%f8, HS0⟩
  ihave HS1' := (owns_some c sc1) $$ HS1
  icases HS1' with ⟨%f9, HS1⟩
  ihave HS2' := (owns_some c sc2) $$ HS2
  icases HS2' with ⟨%f10, HS2⟩
  ihave HS3' := (owns_some c sc3) $$ HS3
  icases HS3' with ⟨%f11, HS3⟩
  ihave HS4' := (owns_some c sc4) $$ HS4
  icases HS4' with ⟨%f12, HS4⟩
  ihave HS5' := (owns_some c sc5) $$ HS5
  icases HS5' with ⟨%f13, HS5⟩
  ihave HS6' := (owns_some c sc6) $$ HS6
  icases HS6' with ⟨%f14, HS6⟩
  ihave H5' := (owns_some c (ms1_5 t)) $$ H5
  icases H5' with ⟨%f7, H5⟩
  iapply ((swaRun c (grid1.coords t) (ms1_0 t) (hs1_0 t) (ms1_1 t) (hs1_1 t) (ms1_2 t) (hs1_2 t) (ms1_3 t) (hs1_3 t) (ms1_4 t) (hs1_4 t) (ms1_5 t) (hs1_5 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) (iblk1 m c 0 t) (iblk1 m c 1 t) (iblk1 m c 2 t) (iblk1 m c 3 t) (iblk1 m c 4 t)).2 Set.univ _ f7 f8 f9 f10 f11 f12 f13 f14)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  iintro ⟨H0, H1, H2, H3, H4, H5, HS0, HS1, HS2, HS3, HS4, HS5, HS6⟩
  isplitl [HA HB HC HS0 HS1 HS2 HS3 HS4 HS5 HS6 HD Hg]
  · isplitr [Hg]
    · isplitl [HA]; · iexact HA
      isplitl [HB]; · iexact HB
      isplitl [HC]; · iexact HC
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      iexact HD
    iexact Hg
  isplitl [Ho]; · iexact Ho
  isplitl [H0]; · iexact H0
  isplitl [H1]; · iexact H1
  isplitl [H2]; · iexact H2
  isplitl [H3]; · iexact H3
  isplitl [H4]; · iexact H4
  iapply (leaves_of b v c t _ fun hb => hv hb c t f7 f8 f9 f10 f11 f12 f13 f14)
  unfold owns
  iexists _; isplitr
  swap; · iexact H5
  ipureintro; rfl

/-- The second region's body obligation, its output window forgotten when `b` says so. -/
theorem body1 (hv : b = false → ∀ c t f7 f8 f9 f10 f11 f12 f13 f14, left m c t f7 f8 f9 f10 f11 f12 f13 f14 = v c t) (c : Dev nD) :
    BodyObligation (dat1 (F := F) m v c) (defs₀ (F := F)) Variants.none () Set.univ (fg1 b) := fun t => by
  rw [bigSep_W1, bigSep_W1, show defs₀ (F := F) .tc cfg1.body (cfg1.bodyArgs t (cfg1.slots t)) = bodyAt1 t by unfold defs₀; rw [Defs.onTc_tc]]
  cases b with
  | true => exact triple_restated (sound1 m true v hv c t) rfl .rfl fun _ => .rfl
  | false =>
    refine triple_restated (sound1 m false v hv c t) rfl ?_ fun _ => ?_
    · refine sep_mono .rfl (sep_mono .rfl (sep_mono .rfl (sep_mono .rfl (sep_mono .rfl (sep_mono .rfl (sep_mono .rfl ?_))))))
      exact (show iprop(∃ d, owns (c : Thread nD τ) (ms1_5 t) fullShare ((dat1 m v c).before 5 t d))
        ⊢ (iprop(∃ d, owns (c : Thread nD τ) (ms1_5 t) fullShare d) : sProp 𝕄) from by iintro ⟨%d, H⟩; iexists _; iexact H)
    · exact .rfl

end Cert.Proof.Swa

end
-- ==== Proof.SwaRegions.lean ====
/-
  The two regions as segments of one program, and the program's run from any memory.
-/
module

public import proofs.«01_k».proof.Proof.SwaLaunch

@[expose] public section

set_option maxRecDepth 16384

noncomputable section

namespace Cert.Proof.Swa

open Cert.SwaIdeal Cert.SwaIdeal.Gen
open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat RDat Cfg Window BodyObligation BodyObligationLoose ucRefs)
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
variable (b : Bool) (v : (c : Dev nD) → Fin cfg1.N → Vec F S4096x256 .bf16)

/-- Both regions' proof data. -/
def pdats (p : Fin 2) (c : Dev nD) : Dat τ (Elt F) Unit ℕ (UR sig nD τ) ℕ (cfgs p) c := match p with
  | 0 => dat0 m c
  | 1 => dat1 m v c

/-- The windows forgotten: the attention's output when `b` says so. -/
def fg (p : Fin 2) : Fin (cfgs p).W → Bool := match p with
  | 0 => fun _ => false
  | 1 => fg1 b

/-- Both regions' proof data with those windows forgotten. -/
def rdats (p : Fin 2) (c : Dev nD) : RDat τ (Elt F) Unit ℕ (UR sig nD τ) ℕ (cfgs p) c := (pdats m v p c).toRForget (fg b p)

abbrev L : GSem nD τ sig → Finset Unit := fun _ => ∅
abbrev lv : GSem nD τ sig → Unit → ℕ := fun _ _ => 0

/-- What rides beside the buffers: the generator register and the core owing nothing. -/
def Rest (c : Dev nD) : sProp 𝕄 := iprop((∃ r, prngReg c r) ∗ ∃ W, owes (c : Thread nD τ) (0 : CellTallies nD τ sig Unit) W)

/-- Every unscoped buffer after the second region, its output at `X`. -/
def Vb (c : Dev nD) (X : Buf (Elt F) ((c : Thread nD τ).loc main_v6)) : Valuation τ sig (Elt F) := Function.update (Va m c) main_v6 X

theorem Vb_out (c : Dev nD) (X : Buf (Elt F) ((c : Thread nD τ).loc main_v6)) : Vb m c X main_v6 = X := by
  unfold Vb; exact Function.update_self _ _ _

theorem Vb_ne (c : Dev nD) (X : Buf (Elt F) ((c : Thread nD τ).loc main_v6)) (r : Ref sig .tc) (h : r ≠ main_v6) : Vb m c X r = Va m c r := by
  unfold Vb; exact Function.update_of_ne (StableHlo.devRef_ne_of_ne h : (Proc.devRef .tc r : DevRef τ sig) ≠ Proc.devRef .tc main_v6) _ _

set_option maxHeartbeats 1600000 in
/-- Region 0: entered from every unscoped buffer at its contents, its arrays split out and put back. -/
def reg0 : Pipeline.RDat.RegionSeg (pcfgs (F := F)) adm (rdats m b v) () defs₀ Variants.none L lv 0 where
  win := launch0.win.to₀
  block_pos := launch0.block_pos
  stage_whole := launch0.stage_whole
  K := PEmpty
  osem k := k.elim
  ho := Pipeline.OwnSemFacts.none _
  hbody c := (body0 m c).toRForget
  hwaits := Pipeline.RDat.hwaits_of_owed_zero _ _ _ _ L lv 0 fun _ _ => rfl
  pre c := iprop(StableHlo.held (c : Thread nD τ) (ucRefs τ sig) (V1 m c) ∗ Rest c)
  post c := iprop(StableHlo.held (c : Thread nD τ) (ucRefs τ sig) (Va m c) ∗ Rest c)
  X c := iprop(∃ r, prngReg c r)
  Y c := iprop(∃ r, prngReg c r)
  Z c := Pipeline.unscopedRest (Ix := Unit) (Name := ℕ) (U := UR sig nD τ) (Lvl := ℕ) spec0 c (fun r => V1 m c (Proc.devRef .tc r))
  hentry c := by
    rw [Pipeline.ownSems0_none, ← Pipeline.unscopedBufs_held (Ix := Unit) (Name := ℕ) (U := UR sig nD τ) (Lvl := ℕ) c (V1 m c)]
    have hsplit := Pipeline.RDat.arrays_of_unscopedBufs (p := 0) (pcfgs (F := F)) adm (rdats m b v) launch0.win launch0.arr_whole c
      ((dat0 m c).share_full fun _ => rfl) (fun r => V1 m c (Proc.devRef .tc r)) fun _ => rfl
    unfold Rest
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m b v 0 c).Φ 0 = Pipeline.ΦA spec0 c from rfl]; unfold Pipeline.ΦA
    iintro ⟨Hp, -, Hr⟩
    isplitl [Hr] <;> iassumption
  hout c := by
    rw [Pipeline.ownSems0_none, show (rdats m b v 0 c).Φ (Fin.last _) = Pipeline.ΦA spec0 c from rfl]; unfold Pipeline.ΦA
    iintro ⟨Hr, Hp⟩
    isplitl [Hp]; · iexact Hp
    isplitr; · iempintro
    iexact Hr
  hexit c := by
    iintro ⟨Ha, HO, Hp, Hrest⟩
    ihave Ha' := (show (rdats m b v 0 c).arraysAt (Pipeline.pin (pcfgs (F := F)) adm 0).N ⊢ iprop(∃ A, ⌜∀ w, fg b 0 w = false → A w = (dat0 m c).arrAt w cfg0.N⌝ ∗ (dat0 m c).arrays A)
      from Pipeline.Dat.arraysAt_forget (dat0 m c) (fg b 0) cfg0.N) $$ Ha
    icases Ha' with ⟨%A, %hA, Ha⟩
    have hjoin := Pipeline.unscopedBufs_of_arrays (p := 0) (pcfgs (F := F)) adm (Ix := Unit) (Name := ℕ) (U := UR sig nD τ) (Lvl := ℕ) launch0.win launch0.arr_whole c
      (pdats m v) ((dat0 m c).share_full fun _ => rfl) (fun r => V1 m c (Proc.devRef .tc r)) (fun r => Va m c (Proc.devRef .tc r)) A
      (fun w => (hA w rfl).trans (Pipeline.afterRegion_arr (dat0 m c) (V1 m c) launch0.win.arr_inj w).symm)
      (fun r hr => Pipeline.afterRegion_of_not_arr (dat0 m c) (V1 m c) fun w h => hr (h ▸ Finset.mem_image.mpr ⟨w, Finset.mem_univ _, rfl⟩))
    rw [← Pipeline.unscopedBufs_held (Ix := Unit) (Name := ℕ) (U := UR sig nD τ) (Lvl := ℕ) c (Va m c)]
    imodintro
    isplitl [Ha Hrest]
    · iapply hjoin; isplitl [Ha]; · iexact Ha
      iexact Hrest
    unfold Rest
    isplitl [Hp]; · iexact Hp
    unfold Pipeline.RDat.owesAt Pipeline.owesWithin
    icases HO with ⟨%W, -, HO⟩; iexists W; iexact HO

variable (hv : b = false → ∀ c t f7 f8 f9 f10 f11 f12 f13 f14, left m c t f7 f8 f9 f10 f11 f12 f13 f14 = v c t)

set_option maxHeartbeats 1600000 in
/-- Region 1: entered from every unscoped buffer at its contents, its arrays split out and put back. -/
def reg1 : Pipeline.RDat.RegionSeg (pcfgs (F := F)) adm (rdats m b v) () defs₀ Variants.none L lv 1 where
  win := launch1.win.to₀
  block_pos := launch1.block_pos
  stage_whole := launch1.stage_whole
  K := PEmpty
  osem k := k.elim
  ho := Pipeline.OwnSemFacts.none _
  hbody c := (body1 m b v hv c).toRForget
  hwaits := Pipeline.RDat.hwaits_of_owed_zero _ _ _ _ L lv 1 fun _ _ => rfl
  pre c := iprop(StableHlo.held (c : Thread nD τ) (ucRefs τ sig) (Va m c) ∗ Rest c)
  post c := iprop(∃ X, ⌜b = false → X = (dat1 m v c).arrAt 5 cfg1.N⌝ ∗ StableHlo.held (c : Thread nD τ) (ucRefs τ sig) (Vb m c X) ∗ Rest c)
  X c := iprop(∃ r, prngReg c r)
  Y c := iprop(∃ r, prngReg c r)
  Z c := Pipeline.unscopedRest (Ix := Unit) (Name := ℕ) (U := UR sig nD τ) (Lvl := ℕ) spec1 c (fun r => Va m c (Proc.devRef .tc r))
  hentry c := by
    rw [Pipeline.ownSems0_none, ← Pipeline.unscopedBufs_held (Ix := Unit) (Name := ℕ) (U := UR sig nD τ) (Lvl := ℕ) c (Va m c)]
    have hsplit := Pipeline.RDat.arrays_of_unscopedBufs (p := 1) (pcfgs (F := F)) adm (rdats m b v) launch1.win launch1.arr_whole c
      ((dat1 m v c).share_full fun _ => rfl) (fun r => Va m c (Proc.devRef .tc r)) fun _ => rfl
    unfold Rest
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m b v 1 c).Φ 0 = Pipeline.ΦA spec1 c from rfl]; unfold Pipeline.ΦA
    iintro ⟨Hp, -, Hr⟩
    isplitl [Hr] <;> iassumption
  hout c := by
    rw [Pipeline.ownSems0_none, show (rdats m b v 1 c).Φ (Fin.last _) = Pipeline.ΦA spec1 c from rfl]; unfold Pipeline.ΦA
    iintro ⟨Hr, Hp⟩
    isplitl [Hp]; · iexact Hp
    isplitr; · iempintro
    iexact Hr
  hexit c := by
    iintro ⟨Ha, HO, Hp, Hrest⟩
    ihave Ha' := (show (rdats m b v 1 c).arraysAt (Pipeline.pin (pcfgs (F := F)) adm 1).N ⊢ iprop(∃ A, ⌜∀ w, fg b 1 w = false → A w = (dat1 m v c).arrAt w cfg1.N⌝ ∗ (dat1 m v c).arrays A)
      from Pipeline.Dat.arraysAt_forget (dat1 m v c) (fg b 1) cfg1.N) $$ Ha
    icases Ha' with ⟨%A, %hA, Ha⟩
    have hjoin := Pipeline.unscopedBufs_of_arrays (p := 1) (pcfgs (F := F)) adm (Ix := Unit) (Name := ℕ) (U := UR sig nD τ) (Lvl := ℕ) launch1.win launch1.arr_whole c
      (pdats m v) ((dat1 m v c).share_full fun _ => rfl) (fun r => Va m c (Proc.devRef .tc r)) (fun r => Vb m c (A 5) (Proc.devRef .tc r)) A
      (fun w => by
        fin_cases w
        · exact (hA 0 (Bool.and_false b)).trans (((dat1 m v c).arrAt_in 0 rfl _).trans (Vb_ne m c (A 5) main_v2 (by decide)).symm)
        · exact (hA 1 (Bool.and_false b)).trans (((dat1 m v c).arrAt_in 1 rfl _).trans (Vb_ne m c (A 5) main_v3 (by decide)).symm)
        · exact (hA 2 (Bool.and_false b)).trans (((dat1 m v c).arrAt_in 2 rfl _).trans (Vb_ne m c (A 5) main_v4 (by decide)).symm)
        · exact (hA 3 (Bool.and_false b)).trans (((dat1 m v c).arrAt_in 3 rfl _).trans (Vb_ne m c (A 5) main_v5 (by decide)).symm)
        · exact (hA 4 (Bool.and_false b)).trans (((dat1 m v c).arrAt_in 4 rfl _).trans (Vb_ne m c (A 5) main_arg4 (by decide)).symm)
        · exact (Vb_out m c (A 5)).symm)
      (fun r hr => Vb_ne m c (A 5) r fun h => hr (h ▸ Finset.mem_image.mpr ⟨5, Finset.mem_univ _, rfl⟩))
    imodintro
    iexists (A 5)
    isplitr; · ipureintro; exact fun hb => hA 5 (by subst hb; rfl)
    rw [← Pipeline.unscopedBufs_held (Ix := Unit) (Name := ℕ) (U := UR sig nD τ) (Lvl := ℕ) c (Vb m c (A 5))]
    isplitl [Ha Hrest]
    · iapply hjoin; isplitl [Ha]; · iexact Ha
      iexact Hrest
    unfold Rest
    isplitl [Hp]; · iexact Hp
    unfold Pipeline.RDat.owesAt Pipeline.owesWithin
    icases HO with ⟨%W, -, HO⟩; iexists W; iexact HO

/-- An argument ends as launched: no host operation and no region writes it. -/
theorem args_kept (c : Dev nD) (X : Buf (Elt F) ((c : Thread nD τ).loc main_v6)) (r : Ref sig .tc) (h6 : r ≠ main_v6) (h5 : r ≠ main_v5)
    (h0 : r ∉ hostOps0_W) : Vb m c X r = m ((c : Thread nD τ).loc r) := by
  refine (Vb_ne m c X r h6).trans ?_
  by_cases h : ∃ w, Pipeline.arrRef spec0 w = r
  · obtain ⟨w, rfl⟩ := h
    refine (Pipeline.afterRegion_arr (dat0 m c) (V1 m c) launch0.win.arr_inj w).trans ?_
    have hw : (cfg0.win w).isOut = false := by
      fin_cases w
      · rfl
      · rfl
      · exact absurd rfl h5
    exact ((dat0 m c).arrAt_in w hw _).trans ((V1_of m c _ h0).trans rfl)
  · exact (Pipeline.afterRegion_of_not_arr (dat0 m c) (V1 m c) fun w hw => h ⟨w, hw.symm⟩).trans ((V1_of m c r h0).trans rfl)

include hv in
set_option backward.isDefEq.respectTransparency.types false in
set_option maxHeartbeats 1600000 in
/-- From any memory, every run of the program ends with its arguments as launched and every counter at zero, and, when
    the attention's output is named, with that output in the result. -/
theorem run_main : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ (b = false → r.2.mem ((c.tc : Thread nD τ).loc main_v6) = (dat1 m v c).arrAt 5 cfg1.N))
      ∧ r.2.sem = fun _ => 0) := by
  refine Pipeline.RDat.θ_run_regions_kit_sems (pcfgs (F := F)) adm (rdats m b v) () cellOf_inj emb₁ defs₀ Variants.none L lv m ρ main
    [.host (seg0 m Variants.none L lv fun _ => Rest), .region (reg0 m b v), .region (reg1 m b v hv)]
    (fun c Q => by
      rewrite [main_chain c, Pipeline.RDat.Seg.run_eq_chain]
      exact .rfl)
    (by simp only [Pipeline.RDat.Seg.pipes_host, Pipeline.RDat.Seg.pipes_region, Pipeline.RDat.Seg.pipes_nil]; decide) (O₀ := 0) (hL := fun _ _ => rfl)
    (G := fun _ => iprop(emp)) (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (ucRefs τ sig) (V0 m c) ∗ Rest c))
    (Tₙ := fun c => iprop(∃ X, ⌜b = false → X = (dat1 m v c).arrAt 5 cfg1.N⌝ ∗ StableHlo.held (c : Thread nD τ) (ucRefs τ sig) (Vb m c X)))
    (hch := ⟨fun _ => .rfl, fun _ => .rfl, fun _ => .rfl, fun c => by
      change (iprop(∃ X, ⌜b = false → X = (dat1 m v c).arrAt 5 cfg1.N⌝ ∗ StableHlo.held (c : Thread nD τ) (ucRefs τ sig) (Vb m c X) ∗ Rest c) : sProp 𝕄) ⊢ _
      unfold Rest
      iintro ⟨%X, %hX, Hh, -, HO⟩
      isplitl [Hh]
      · iexists X; isplitr; · ipureintro; exact hX
        iexact Hh
      iexact HO⟩)
    (hinit := by
      refine Pipeline.initEach L lv fun c => ?_
      rw [show unscopedBufs c (fun r => m ((c.tc : Thread nD τ).loc r)) = StableHlo.held (c.tc : Thread nD τ) (ucRefs τ sig) (V0 m c)
          from Pipeline.unscopedBufs_held (Ix := Unit) (Name := ℕ) (U := UR sig nD τ) (Lvl := ℕ) c (V0 m c)]
      unfold Rest
      iintro ⟨⟨Hh, -, HO, -, Hp, -⟩, -⟩
      imodintro
      isplitl [Hh]; · iexact Hh
      isplitl [Hp]; · iexists _; iexact Hp
      iexists _; iexact HO)
    (QY := fun c s => (s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4))
      ∧ (b = false → s.mem ((c.tc : Thread nD τ).loc main_v6) = (dat1 m v c).arrAt 5 cfg1.N))
    (hfin := fun c s' => by
      unfold StableHlo.held
      iintro ⟨⟨%X, %hX, Hh⟩, HSI⟩
      ihave Hr := (pointsTo_read_all (ucRefs τ sig) (fun r => ((c : Thread nD τ).1, r)) (Vb m c X) s') $$ [Hh HSI]
      · isplitl [Hh] <;> iassumption
      icases Hr with ⟨%h, HSI⟩
      imodintro
      isplitr
      · ipureintro
        have hr : ∀ r : Ref sig .tc, (Proc.devRef .tc r : DevRef τ sig).isScoped = false → s'.mem.mem ((c.tc : Thread nD τ).loc r) = Vb m c X r :=
          fun r hs => h (Proc.devRef .tc r) (Finset.mem_filter.mpr ⟨StableHlo.devRef_mem_tcRefs r, by rw [hs]; decide⟩)
        exact ⟨⟨(hr main_arg0 rfl).trans (args_kept m c X main_arg0 (by decide) (by decide) (by decide)),
          (hr main_arg1 rfl).trans (args_kept m c X main_arg1 (by decide) (by decide) (by decide)),
          (hr main_arg2 rfl).trans (args_kept m c X main_arg2 (by decide) (by decide) (by decide)),
          (hr main_arg3 rfl).trans (args_kept m c X main_arg3 (by decide) (by decide) (by decide)),
          (hr main_arg4 rfl).trans (args_kept m c X main_arg4 (by decide) (by decide) (by decide))⟩,
          fun hb => (hr main_v6 rfl).trans ((Vb_out m c X).trans (hX hb))⟩
      iexact HSI)
    (hQ := fun _ h hz => ⟨h, funext fun g => hz g (.inr (regions_no_unscoped g.2))⟩)

/-- The frame at any float values: forget the output and nothing need be named. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => (h.1 c).1, h.2⟩)
    (run_main m ρ true (fun _ _ _ => FloatOps.ofBits .bf16 0#16) (fun h => absurd h (by decide)))

end Cert.Proof.Swa

end
-- ==== Proof.SwaRef.lean ====
/-
  The reference attention, at an index. Its composed term is first written with its stages named, then each stage is read
  at an entry: the banded keys and values, the logits, their maximum, the exponentials, the denominator and the output.
-/
module

public import proofs.«01_k».proof.Proof.Gen.SwaRefIdeal.Run
public import Idealize.ShloMosaic.Lib.ValueIdxRank6
public import Idealize.ShloMosaic.Lib.KernelVsHost
public import Idealize.ShloMosaic.Lib.IdealHost
public import Idealize.ShloMosaic.Lib.MatmulPlain

@[expose] public section

set_option maxRecDepth 16384

noncomputable section

namespace Cert.Proof.SwaRef

open Cert.SwaRefIdeal Cert.SwaRefIdeal.Gen
open Idealize.ShloMosaic Idealize.ShloMosaic.TcCoe Idealize.ShloMosaic.ValueIdx

/-! ## The stages -/

/-- The queries by batch entry, key head, head of its group, block, row of the block and lane. -/
def headsQ (x : FVec Ideal S32768x512 .f32) : FVec Ideal S8x2x4x32x128x64 .f32 :=
  shapeCast _ (transpose S8x8x4096x64 [0, 2, 1, 3] (shapeCast _ x shapeCasts_S32768x512_S8x4096x8x64) transposes_S8x4096x8x64_S8x8x4096x64_0_2_1_3) shapeCasts_S8x8x4096x64_S8x2x4x32x128x64

/-- Keys or values, padded by a block of zeros at either end and cut in blocks. -/
def padA (x : FVec Ideal S32768x128 .f32) : FVec Ideal S8x2x34x128x64 .f32 :=
  shapeCast _ (pad S8x2x4352x64 ![0, 0, 128, 0] ![0, 0, 128, 0] ![0, 0, 0, 0] (transpose S8x2x4096x64 [0, 2, 1, 3] (shapeCast _ x shapeCasts_S32768x128_S8x4096x2x64) transposes_S8x4096x2x64_S8x2x4096x64_0_2_1_3) (sitofp .f32 (constantI S_ 32 0#32)) pads_S8x2x4096x64_S8x2x4352x64_000_000_1281280_000 h_S_) shapeCasts_S8x2x4352x64_S8x2x34x128x64

/-- Each block with its neighbours. -/
def bandA (x : FVec Ideal S32768x128 .f32) : FVec Ideal S8x2x32x384x64 .f32 :=
  concatenate S8x2x32x384x64 3 [⟨S8x2x32x128x64, ((extractStridedSlice S8x2x32x128x64 ![0, 0, 0, 0, 0] (padA x) slices_S8x2x34x128x64_S8x2x32x128x64_0_0_0_0_0) : FVec Ideal S8x2x32x128x64 .f32)⟩,
    ⟨S8x2x32x128x64, ((extractStridedSlice S8x2x32x128x64 ![0, 0, 1, 0, 0] (padA x) slices_S8x2x34x128x64_S8x2x32x128x64_0_0_1_0_0) : FVec Ideal S8x2x32x128x64 .f32)⟩,
    ⟨S8x2x32x128x64, ((extractStridedSlice S8x2x32x128x64 ![0, 0, 2, 0, 0] (padA x) slices_S8x2x34x128x64_S8x2x32x128x64_0_0_2_0_0) : FVec Ideal S8x2x32x128x64 .f32)⟩] concatenates_S8x2x32x128x64_S8x2x32x128x64_S8x2x32x128x64_S8x2x32x384x64_d3

/-- The mask. -/
def maskA : IVec S32x128x384 1 :=
  andi (broadcastInDim S32x128x384 ![0, 1, 2] bcast_S1x128x384_S32x128x384_0_1_2 ((fun i => lit0 (S1x128x384.rowMajor i)))) (broadcastInDim S32x128x384 ![0, 1, 2] bcast_S32x1x384_S32x128x384_0_1_2 ((fun i => lit1 (S32x1x384.rowMajor i))))

/-- The bucket numbers the bias is read at. -/
def buckA : IVec S128x384x1 32 :=
  broadcastInDim S128x384x1 ![0, 1] bcast_S128x384_S128x384x1_0_1 (select (cmpi .slt ((fun i => lit2 (S128x384.rowMajor i))) (broadcastInDim S128x384 ![] bcast_S_S128x384 (constantI S_ 32 0#32))) (addi ((fun i => lit2 (S128x384.rowMajor i))) (broadcastInDim S128x384 ![] bcast_S_S128x384 (constantI S_ 32 32#32))) ((fun i => lit2 (S128x384.rowMajor i))))

/-- The bias by head, row and lane. -/
def biasA (x : FVec Ideal S32x8 .f32) : FVec Ideal S2x4x1x128x384 .f32 :=
  shapeCast _ (transpose S8x128x384 [2, 0, 1] (Host.gather gather_S32x8_S128x384x1_S128x384x8_2_0_n_n_0_2_18 x buckA) transposes_S128x384x8_S8x128x384_2_0_1) shapeCasts_S8x128x384_S2x4x1x128x384

/-- The sinks by head. -/
def sinkA (x : FVec Ideal S8 .f32) : FVec Ideal S8x2x4x32x128x1 .f32 :=
  broadcastInDim S8x2x4x32x128x1 ![0, 1, 2, 3, 4, 5] bcast_S1x2x4x1x1x1_S8x2x4x32x128x1_0_1_2_3_4_5 (broadcastInDim S1x2x4x1x1x1 ![1, 2, 3, 4, 5] bcast_S2x4x1x1x1_S1x2x4x1x1x1_1_2_3_4_5 (shapeCast _ x shapeCasts_S8_S2x4x1x1x1))

/-- The products of queries and banded keys. -/
def qkA (q : FVec Ideal S8x2x4x32x128x64 .f32) (k : FVec Ideal S8x2x32x384x64 .f32) : FVec Ideal S8x2x4x32x128x384 .f32 :=
  transpose S8x2x4x32x128x384 [0, 1, 4, 2, 5, 3] (Host.dotGeneral dot_S8x2x32x384x64_S8x2x4x32x128x64_S8x2x32x384x4x128_4_5_3_24_012_013 none k q) transposes_S8x2x32x384x4x128_S8x2x4x32x128x384_0_1_4_2_5_3

/-- The masked logits. -/
def logA (qk : FVec Ideal S8x2x4x32x128x384 .f32) (bi : FVec Ideal S2x4x1x128x384 .f32) : FVec Ideal S8x2x4x32x128x384 .f32 :=
  select (broadcastInDim S8x2x4x32x128x384 ![3, 4, 5] bcast_S32x128x384_S8x2x4x32x128x384_3_4_5 maskA)
    (addf (mulf qk (broadcastInDim S8x2x4x32x128x384 ![] bcast_S_S8x2x4x32x128x384 (constant (F := Ideal) S_ .f32 0x3E000000#32)))
      (broadcastInDim S8x2x4x32x128x384 ![0, 1, 2, 3, 4, 5] bcast_S1x2x4x1x128x384_S8x2x4x32x128x384_0_1_2_3_4_5 (broadcastInDim S1x2x4x1x128x384 ![1, 2, 3, 4, 5] bcast_S2x4x1x128x384_S1x2x4x1x128x384_1_2_3_4_5 bi)))
    (broadcastInDim S8x2x4x32x128x384 ![] bcast_S_S8x2x4x32x128x384 (id (constant (F := Ideal) S_ .f32 0xFF800000#32)))

/-- A row's maximum, its sink included. -/
def maxA (lg : FVec Ideal S8x2x4x32x128x384 .f32) (sk : FVec Ideal S8x2x4x32x128x1 .f32) : FVec Ideal S8x2x4x32x128x1 .f32 :=
  maximumf (broadcastInDim S8x2x4x32x128x1 ![0, 1, 2, 3, 4] bcast_S8x2x4x32x128_S8x2x4x32x128x1_0_1_2_3_4 (Host.reduce FloatOps.maximumf lg (constant (F := Ideal) S_ .f32 0xFF800000#32) reducesTo_S8x2x4x32x128x384_S8x2x4x32x128_d5 h_S_)) sk

/-- The exponentials. -/
def expA (lg : FVec Ideal S8x2x4x32x128x384 .f32) (mx : FVec Ideal S8x2x4x32x128x1 .f32) : FVec Ideal S8x2x4x32x128x384 .f32 :=
  Host.exp (subf lg (broadcastInDim S8x2x4x32x128x384 ![0, 1, 2, 3, 4, 5] bcast_S8x2x4x32x128x1_S8x2x4x32x128x384_0_1_2_3_4_5 mx))

/-- The denominators. -/
def denA (pr : FVec Ideal S8x2x4x32x128x384 .f32) (sk mx : FVec Ideal S8x2x4x32x128x1 .f32) : FVec Ideal S8x2x4x32x128x1 .f32 :=
  addf (broadcastInDim S8x2x4x32x128x1 ![0, 1, 2, 3, 4] bcast_S8x2x4x32x128_S8x2x4x32x128x1_0_1_2_3_4 (Host.reduceAdd pr (constant (F := Ideal) S_ .f32 0x00000000#32) reducesTo_S8x2x4x32x128x384_S8x2x4x32x128_d5 h_S_)) (Host.exp (subf sk mx))

/-- The probabilities. -/
def probA (pr : FVec Ideal S8x2x4x32x128x384 .f32) (de : FVec Ideal S8x2x4x32x128x1 .f32) : FVec Ideal S8x2x4x32x128x384 .f32 :=
  Host.divf pr (broadcastInDim S8x2x4x32x128x384 ![0, 1, 2, 3, 4, 5] bcast_S8x2x4x32x128x1_S8x2x4x32x128x384_0_1_2_3_4_5 de)

/-- The products with the banded values, back in the layout of the queries. -/
def backA (v : FVec Ideal S8x2x32x384x64 .f32) (p : FVec Ideal S8x2x4x32x128x384 .f32) : FVec Ideal S32768x512 .bf16 :=
  truncf .bf16 (shapeCast _ (shapeCast S8x4096x512 (transpose S8x4096x8x64 [0, 2, 1, 3] (shapeCast S8x8x4096x64 (transpose S8x2x4x32x128x64 [0, 1, 4, 2, 5, 3] (Host.dotGeneral dot_S8x2x32x384x64_S8x2x4x32x128x384_S8x2x32x64x4x128_3_5_4_24_012_013 none v p) transposes_S8x2x32x64x4x128_S8x2x4x32x128x64_0_1_4_2_5_3) shapeCasts_S8x2x4x32x128x64_S8x8x4096x64) transposes_S8x8x4096x64_S8x4096x8x64_0_2_1_3) shapeCasts_S8x4096x8x64_S8x4096x512) shapeCasts_S8x4096x512_S32768x512) bitsLt_bf16_f32

/-- The logits of the arguments, -/
def logits (x0 : FVec Ideal S32768x512 .f32) (x1 : FVec Ideal S32768x128 .f32) (x3 : FVec Ideal S32x8 .f32) : FVec Ideal S8x2x4x32x128x384 .f32 :=
  logA (qkA (headsQ x0) (bandA x1)) (biasA x3)

/-- and the whole result. -/
def swaA (x0 : FVec Ideal S32768x512 .f32) (x1 x2 : FVec Ideal S32768x128 .f32) (x3 : FVec Ideal S32x8 .f32) (x4 : FVec Ideal S8 .f32) : FVec Ideal S32768x512 .bf16 :=
  backA (bandA x2) (probA (expA (logits x0 x1 x3) (maxA (logits x0 x1 x3) (sinkA x4)))
    (denA (expA (logits x0 x1 x3) (maxA (logits x0 x1 x3) (sinkA x4))) (sinkA x4) (maxA (logits x0 x1 x3) (sinkA x4))))

set_option maxHeartbeats 4000000 in
/-- The term the reference's run ends at is that result. -/
theorem res_eq (m : (ℓ : Loc nD τ sig) → Buf (Elt Ideal) ℓ) (c : Dev nD) :
    Value.res_main_v63 (F := Ideal) m c = swaA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold Value.res_main_v63 swaA logits backA probA denA expA maxA logA qkA sinkA biasA buckA maskA bandA padA headsQ
  rfl

end Cert.Proof.SwaRef

end
-- ==== Proof.SwaFrames.lean ====
/-
  The frames of the attention's programs over the extended reals, and the named constant.
-/
module

public import proofs.«01_k».proof.Defs
public import proofs.«01_k».proof.Proof.SwaRegions
public import proofs.«01_k».proof.Proof.SwaRef
public import Idealize.ShloMosaic.Lib.Quiescent

@[expose] public section

noncomputable section

open Idealize.ShloMosaic Idealize.ShloMosaic.TcCoe Idealize.SL.Sem

namespace Cert.Proof.Swa

/-- The kernel over the extended reals terminates, its arguments unchanged and its counters at zero, -/
theorem frame_ideal : Cert.quiescent_SwaIdeal := fun m ρ _ => frame_any (F := Ideal) m ρ

/-- and so does the reference. -/
theorem frame_ref : Cert.quiescent_SwaRefIdeal := fun m ρ _ =>
  (θ_run Cert.SwaRefIdeal.defs _ _).mono (fun r h => ⟨fun c => (h c).2,
      Idealize.ShloMosaic.sem_eq_zero_of_no_sems (by decide) r.2⟩)
    (Cert.SwaRefIdeal.Value.run (F := Ideal) m ρ)

/-- Over the extended reals the mask's number stands for minus infinity. -/
theorem preserves : Cert.preserves_Swa_SwaIdeal :=
  IdealRules.named_const.statement Cert.SwaIdeal.κ "mask" .f32 0xF149F2CA#32 ⊥ rfl

end Cert.Proof.Swa

end
-- ==== Proof.SwaMap.lean ====
/-
  The constants of the attention agree. Both programs carry tables over the 128 rows of a block and the 384 lanes of a row's
  window: the kernel one of bucket numbers with an out-of-range number where a key is too far away, the reference one of
  bucket numbers and one of whether the key is near enough. Here is the comparison of one entry, and of a stretch of entries.
-/
module

public import proofs.«01_k».proof.SwaIdeal
public import proofs.«01_k».proof.SwaRefIdeal

@[expose] public section

noncomputable section

namespace Cert.Proof.Swa

/-- Where the reference's mask is set the two bucket numbers are one number below 32; elsewhere the kernel's is out of range. -/
def agree (b : BitVec 1) (k r : BitVec 32) : Bool := bif b == 1#1 then k == r && Nat.blt r.toNat 32 else Nat.ble 32 k.toNat

/-- A test holds of every number below `n`. -/
def allUpTo (p : ℕ → Bool) (n : ℕ) : Bool := Nat.rec true (fun k ih => p k && ih) n

theorem of_allUpTo (p : ℕ → Bool) (n : ℕ) (h : allUpTo p n = true) : ∀ k < n, p k = true := by
  induction n with
  | zero => intro k hk; omega
  | succ n ih =>
    have h' : (p n && allUpTo p n) = true := h
    rw [Bool.and_eq_true] at h'
    intro k hk
    rcases Nat.lt_succ_iff_lt_or_eq.mp hk with h1 | rfl
    · exact ih h'.2 k h1
    · exact h'.1

/-- Sixteen runs of 128 entries from `o` on agree. -/
def stretch (o : ℕ) : Bool := allUpTo (fun j => allUpTo (fun k =>
  agree (Cert.SwaRefIdeal.lit0t (o + 128 * j + k)) (Cert.SwaIdeal.lit0t (o + 128 * j + k)) (Cert.SwaRefIdeal.lit2t (o + 128 * j + k))) 128) 16

theorem of_stretch (o : ℕ) (h : stretch o = true) (i : ℕ) (h0 : o ≤ i) (h1 : i < o + 2048) :
    agree (Cert.SwaRefIdeal.lit0t i) (Cert.SwaIdeal.lit0t i) (Cert.SwaRefIdeal.lit2t i) = true := by
  have := of_allUpTo _ _ (of_allUpTo _ _ h ((i - o) / 128) (by omega)) ((i - o) % 128) (by omega)
  rw [show o + 128 * ((i - o) / 128) + (i - o) % 128 = i by omega] at this
  exact this

/-- The reference's other mask, in eight blocks from block `o` on: the key's position is within the batch entry. -/
def edges (o : ℕ) : Bool := allUpTo (fun j => allUpTo (fun t =>
  (Cert.SwaRefIdeal.lit1t (384 * (o + j) + t) == 1#1) == (Nat.ble 128 (128 * (o + j) + t) && Nat.blt (128 * (o + j) + t) 4224)) 384) 8

theorem of_edges (o : ℕ) (h : edges o = true) (n t : ℕ) (h0 : o ≤ n) (h1 : n < o + 8) (ht : t < 384) :
    (Cert.SwaRefIdeal.lit1t (384 * n + t) == 1#1) = (Nat.ble 128 (128 * n + t) && Nat.blt (128 * n + t) 4224) := by
  have := of_allUpTo _ _ (of_allUpTo _ _ h (n - o) (by omega)) t ht
  rw [show o + (n - o) = n by omega] at this
  exact eq_of_beq this

end Cert.Proof.Swa

end
-- ==== Proof.SwaMapA.lean ====
/-
  A third of the tables' entries, from entry 0 on, compared by evaluation.
-/
module

public import proofs.«01_k».proof.Proof.SwaMap

@[expose] public section

set_option maxRecDepth 65536

namespace Cert.Proof.Swa

/-! Stretches of 2048 entries, each by evaluation. -/

theorem stretch0 : stretch 0 = true := by decide +kernel
theorem stretch1 : stretch 2048 = true := by decide +kernel
theorem stretch2 : stretch 4096 = true := by decide +kernel
theorem stretch3 : stretch 6144 = true := by decide +kernel
theorem stretch4 : stretch 8192 = true := by decide +kernel
theorem stretch5 : stretch 10240 = true := by decide +kernel
theorem stretch6 : stretch 12288 = true := by decide +kernel
theorem stretch7 : stretch 14336 = true := by decide +kernel

end Cert.Proof.Swa
-- ==== Proof.SwaMapB.lean ====
/-
  A third of the tables' entries, from entry 16384 on, compared by evaluation.
-/
module

public import proofs.«01_k».proof.Proof.SwaMap

@[expose] public section

set_option maxRecDepth 65536

namespace Cert.Proof.Swa

/-! Stretches of 2048 entries, each by evaluation. -/

theorem stretch8 : stretch 16384 = true := by decide +kernel
theorem stretch9 : stretch 18432 = true := by decide +kernel
theorem stretch10 : stretch 20480 = true := by decide +kernel
theorem stretch11 : stretch 22528 = true := by decide +kernel
theorem stretch12 : stretch 24576 = true := by decide +kernel
theorem stretch13 : stretch 26624 = true := by decide +kernel
theorem stretch14 : stretch 28672 = true := by decide +kernel
theorem stretch15 : stretch 30720 = true := by decide +kernel

end Cert.Proof.Swa
-- ==== Proof.SwaMapC.lean ====
/-
  A third of the tables' entries, from entry 32768 on, compared by evaluation.
-/
module

public import proofs.«01_k».proof.Proof.SwaMap

@[expose] public section

set_option maxRecDepth 65536

namespace Cert.Proof.Swa

/-! Stretches of 2048 entries, each by evaluation. -/

theorem stretch16 : stretch 32768 = true := by decide +kernel
theorem stretch17 : stretch 34816 = true := by decide +kernel
theorem stretch18 : stretch 36864 = true := by decide +kernel
theorem stretch19 : stretch 38912 = true := by decide +kernel
theorem stretch20 : stretch 40960 = true := by decide +kernel
theorem stretch21 : stretch 43008 = true := by decide +kernel
theorem stretch22 : stretch 45056 = true := by decide +kernel
theorem stretch23 : stretch 47104 = true := by decide +kernel

end Cert.Proof.Swa
-- ==== Proof.SwaMapE.lean ====
/-
  The reference's mask of the edges of a batch entry, compared by evaluation.
-/
module

public import proofs.«01_k».proof.Proof.SwaMap

@[expose] public section

set_option maxRecDepth 65536

namespace Cert.Proof.Swa

/-! Eight blocks each, by evaluation. -/

theorem edges0 : edges 0 = true := by decide +kernel
theorem edges1 : edges 8 = true := by decide +kernel
theorem edges2 : edges 16 = true := by decide +kernel
theorem edges3 : edges 24 = true := by decide +kernel

end Cert.Proof.Swa
-- ==== Proof.SwaBlock.lean ====
/-
  The four vector computations of the windowed attention on one block of 128 queries, read at an index over the extended
  reals: the logits of a pair of heads, the exponentials, the sink terms and the quotient.
-/
module

public import proofs.«01_k».proof.Proof.Gen.SwaIdeal.Skeleton
public import Idealize.ShloMosaic.Lib.WordCmp
public import Idealize.ShloMosaic.Lib.Pointwise
public import Idealize.ShloMosaic.PureOps.Ideal

@[expose] public section

set_option maxRecDepth 16384

noncomputable section

namespace Cert.Proof.Swa

open Cert.SwaIdeal Cert.SwaIdeal.Gen
open Idealize.ShloMosaic

/-- The greatest of a family, taken from `-∞` on. -/
def rmax {n : ℕ} (f : Fin n → EReal) : EReal := (Finset.univ : Finset (Fin n)).fold max (Ideal.ofBits .f32 4286578688#32) f

/-- A choice by whether a lane's number is below 64. -/
theorem select_slt_64 {α : Type} (l : ℕ) (hl : l < 128) (x y : α) :
    Scalar.select (IntOp.cmpi .slt (BitVec.ofNat 32 l) 64#32) x y = if l < 64 then x else y := by
  rw [show (64#32 : BitVec 32) = BitVec.ofNat 32 64 from rfl, WordCmp.cmpi_slt_ofNat (by omega) (by omega)]
  by_cases h : l < 64
  · rw [if_pos h, decide_eq_true h]; rfl
  · rw [if_neg h, decide_eq_false h]; rfl

/-- The logits of one pair of heads: a query row against the key rows of the band, the first head's and then the
    second's, and the bias. -/
theorem logits_apply (ka kb : FVec Ideal S384x128 .bf16) (q : FVec Ideal S128x128 .bf16)
    (b : FVec Ideal S1x1x128x768 .f32) (a : Fin 128) (s : Fin 768) :
    k1_pay52 (F := Ideal) ka kb q b (ix3 0 a s)
      = (∑ l : Fin 128, (q (ix2 a l) : EReal)
          * (if h : s.val < 384 then ka (ix2 ⟨s.val, h⟩ l) else kb (ix2 ⟨s.val - 384, by omega⟩ l)))
        + b (ix4 0 0 a s) := by
  pointwise [k1_pay52, k1_pay51]

/-- The exponentials of one head's logits, its running maximum taken off. -/
theorem expo_apply (lg : FVec Ideal S1x128x384 .f32) (k : Ideal .f32) (a : Fin 128) (s : Fin 384) :
    k1_pay57 (F := Ideal) lg k (ix3 0 a s)
      = Ideal.exp (lg (ix3 0 a s) - max (rmax fun t : Fin 384 => lg (ix3 0 a t)) k) := by
  pointwise [k1_pay57, k1_pay56, k1_pay55, rmax]

/-- The sink terms of one pair of heads, the first head's in the lower 64 lanes. -/
theorem sinks_apply (lgA lgB : FVec Ideal S1x128x384 .f32) (k k' : Ideal .f32) (a : Fin 128) (l : Fin 128) :
    k1_pay69 (F := Ideal) k1_pay50 k (k1_pay64 lgA k) lgB k' (ix3 0 a l)
      = if l.val < 64 then Ideal.exp (k - max (rmax fun t : Fin 384 => lgA (ix3 0 a t)) k)
        else Ideal.exp (k' - max (rmax fun t : Fin 384 => lgB (ix3 0 a t)) k') := by
  rw [← select_slt_64 l.val l.isLt]
  pointwise [k1_pay69, k1_pay64, k1_pay63, k1_pay50, k1_pay67, k1_pay66, rmax]

/-- The output of one pair of heads: the weighted sum of the value rows over the weights' sum and the sink term. -/
theorem quotient_apply (va vb : FVec Ideal S384x256 .bf16) (p : FVec Ideal S1x128x768 .bf16)
    (st : FVec Ideal S1x128x128 .f32) (a : Fin 128) (l : Fin 128) :
    k1_pay76 (F := Ideal) (k1_pay75 va vb) p st (ix2 a l)
      = Ideal.div
          (∑ s : Fin 768, (p (ix3 0 a s) : EReal)
            * (if h : s.val < 384 then va (ix2 ⟨s.val, h⟩ ⟨l.val, by omega⟩) else vb (ix2 ⟨s.val - 384, by omega⟩ ⟨l.val, by omega⟩)))
          ((∑ s : Fin 768, (p (ix3 0 a s) : EReal)
            * (if h : s.val < 384 then va (ix2 ⟨s.val, h⟩ ⟨128 + l.val, by omega⟩) else vb (ix2 ⟨s.val - 384, by omega⟩ ⟨128 + l.val, by omega⟩)))
            + st (ix3 0 a l)) := by
  pointwise [k1_pay76, k1_pay75]

end Cert.Proof.Swa
-- ==== Proof.SwaLanes.lean ====
/-
  What the staging of a block of keys or values writes in a lane: the kept half of the row, in the lower 64 lanes of one
  buffer and the upper 64 of the other.
-/
module

public import proofs.«01_k».proof.Proof.SwaBlock

@[expose] public section

set_option maxRecDepth 16384

noncomputable section

namespace Cert.Proof.Swa

open Cert.SwaIdeal Cert.SwaIdeal.Gen
open Idealize.ShloMosaic

/-- The lane mask of the staging: one in the lower 64 lanes. -/
theorem lanes_low (r : Fin 512) (l : Fin 128) : k1_pay34 (ix2 r l) = if l.val < 64 then 1#1 else 0#1 := by
  have h : k1_pay34 (ix2 r l) = IntOp.cmpi .slt (BitVec.ofNat 16 l.val) 64#16 := by pointwise [k1_pay34]
  rw [h, show (64#16 : BitVec 16) = BitVec.ofNat 16 64 from rfl, WordCmp.cmpi_slt_ofNat (by omega) (by omega)]
  by_cases hl : l.val < 64
  · rw [if_pos hl, decide_eq_true hl]; rfl
  · rw [if_neg hl, decide_eq_false hl]; rfl

/-- The mask of the lanes that keep their own half: the lower ones of the first key head, the upper ones of the second. -/
theorem lanes_own (i : grid1.Coords) (r : Fin 512) (l : Fin 128) :
    k1_pay35 i (ix2 r l) = if (l.val < 64 ↔ (i 1).val = 0) then 1#1 else 0#1 := by
  have h : k1_pay35 i (ix2 r l)
      = IntOp.xori (IntOp.xori (k1_pay34 (ix2 r l)) (Scalar.cmpi .eq (BitVec.ofNat 32 (i 1).val) 0#32)) 1#1 := by
    pointwise [k1_pay35]
  rw [h, lanes_low]
  obtain ⟨j, hj⟩ : ∃ j : Fin 2, (i 1) = j := ⟨i 1, rfl⟩
  rw [hj]
  clear hj h
  by_cases hl : l.val < 64
  · rw [if_pos hl]; simp only [hl, true_iff]; revert j; decide
  · rw [if_neg hl]; simp only [hl, false_iff]; revert j; decide

/-- The row half of key head `i 1`, in lane `l`'s place. -/
theorem kept (i : grid1.Coords) (x : FVec Ideal S512x128 .bf16) (r : Fin 512) (l : Fin 128) :
    select (k1_pay35 i) x (dynamicRotate 1 64#32 none x rotates_S512x128_d1) (ix2 r l)
      = x (ix2 r ⟨64 * (i 1).val + l.val % 64, by have : (i 1).val < 2 := (i 1).isLt; omega⟩) := by
  have hi : (i 1).val < 2 := (i 1).isLt
  have hrot : dynamicRotate 1 64#32 none x rotates_S512x128_d1 (ix2 r l) = x (ix2 r ⟨(l.val + 64) % 128, by omega⟩) := by
    pointwise []
    exact congrArg x (congrArg (ix2 r) (Fin.ext (show (l.val + 128 - 64) % 128 = (l.val + 64) % 128 by omega)))
  show Scalar.select (k1_pay35 i (ix2 r l)) (x (ix2 r l)) (dynamicRotate 1 64#32 none x rotates_S512x128_d1 (ix2 r l)) = _
  rw [hrot, lanes_own]
  by_cases h : (l.val < 64 ↔ (i 1).val = 0)
  · rw [if_pos h, ValueIdx.select_one]
    exact congrArg x (congrArg (ix2 r) (Fin.ext (show l.val = 64 * (i 1).val + l.val % 64 by omega)))
  · rw [if_neg h, ValueIdx.select_zero]
    exact congrArg x (congrArg (ix2 r) (Fin.ext (show (l.val + 64) % 128 = 64 * (i 1).val + l.val % 64 by omega)))

/-- A choice by the lane mask. -/
theorem select_low {φ : FTy} (x y : FVec Ideal S512x128 φ) (r : Fin 512) (l : Fin 128) :
    select k1_pay34 x y (ix2 r l) = if l.val < 64 then x (ix2 r l) else y (ix2 r l) := by
  show Scalar.select (k1_pay34 (ix2 r l)) (x (ix2 r l)) (y (ix2 r l)) = _
  rw [lanes_low]
  by_cases hl : l.val < 64
  · rw [if_pos hl, if_pos hl, ValueIdx.select_one]
  · rw [if_neg hl, if_neg hl, ValueIdx.select_zero]

end Cert.Proof.Swa
-- ==== Proof.SwaStage.lean ====
/-
  The staged keys and values: what the four padded buffers read after the staging loop.
-/
module

public import proofs.«01_k».proof.Proof.SwaLanes
public import proofs.«01_k».proof.Proof.Gen.SwaIdeal.Loops
public import Idealize.ShloMosaic.Lib.WritesUnit

@[expose] public section

set_option maxRecDepth 16384

noncomputable section

namespace Cert.Proof.Swa

open Cert.SwaIdeal Cert.SwaIdeal.Gen
open Idealize.ShloMosaic Idealize.ShloMosaic.TcCoe

/-- An array of 4096 rows read at numbers, zero outside it. -/
def rowAt (y : FVec Ideal S4096x128 .bf16) (R d : ℕ) : EReal :=
  if h : R < 4096 ∧ d < 128 then y (ix2 ⟨R, h.1⟩ ⟨d, h.2⟩) else 0

/-- The array with 128 rows of zeros before it (and zeros after it). -/
def padAt (y : FVec Ideal S4096x128 .bf16) (R d : ℕ) : EReal := if 128 ≤ R then rowAt y (R - 128) d else 0

/-- One on the rows of the padded array that hold a row of the array. -/
def oneAt (R : ℕ) : EReal := if 128 ≤ R ∧ R < 4224 then 1 else 0

/-- The first key buffer: the half row of key head `j` in the lower lanes. -/
def keyA (j : ℕ) (y : FVec Ideal S4096x128 .bf16) (R l : ℕ) : EReal := if l < 64 then padAt y R (64 * j + l % 64) else 0

/-- The second key buffer: the same half row in the upper lanes. -/
def keyB (j : ℕ) (y : FVec Ideal S4096x128 .bf16) (R l : ℕ) : EReal := if l < 64 then 0 else padAt y R (64 * j + l % 64)

/-- The first value buffer: the first key buffer's layout, then ones in the same lanes. -/
def valA (j : ℕ) (y : FVec Ideal S4096x128 .bf16) (R l : ℕ) : EReal :=
  if l < 128 then keyA j y R l else if l < 192 then oneAt R else 0

/-- The second value buffer: the second key buffer's layout, then ones in the same lanes. -/
def valB (j : ℕ) (y : FVec Ideal S4096x128 .bf16) (R l : ℕ) : EReal :=
  if l < 128 then keyB j y R l else if l < 192 then 0 else oneAt R

/-- A list of row blocks, one per trip, each of 512 rows from row 128 on: a row of the first `k` blocks reads its block, any
    other row what the rest of the list left. -/
theorem read_row_blocks {κ : Kind} {sp : Space} {C : ℕ} (v : View sig κ sp (⟨2, ![4352, C]⟩ : Shape) .bf16)
    (f : v.ty.Contents (Elt Ideal)) (P : ℕ → List (View.Piece (Elt Ideal) (⟨2, ![4352, C]⟩ : Shape) .bf16)) (h0 : P 0 = [])
    (val : ℕ → ℕ → EReal)
    (hP : ∀ k : Fin 8, ∃ (off : Fin 2 → ℕ) (inb : ∀ a : Fin 2, off a + (![512, C] : Fin 2 → ℕ) a ≤ (![4352, C] : Fin 2 → ℕ) a)
      (w : (⟨2, ![512, C]⟩ : Shape).Idx → Elt Ideal .bf16), off = ![512 * k.val + 128, 0]
        ∧ P (k.val + 1) = ⟨Rect.unit (s := ⟨2, ![4352, C]⟩) off ![512, C] inb, w⟩ :: P k.val
        ∧ ∀ (r : Fin 512) (l : Fin C), w (ix2 r l) = val (512 * k.val + 128 + r.val) l.val)
    (L : List (View.Piece (Elt Ideal) (⟨2, ![4352, C]⟩ : Shape) .bf16)) (k : ℕ) (hk : k ≤ 8) (r : Fin 4352) (l : Fin C) :
    v.read (Elt Ideal) (v.writes (Elt Ideal) f (P k ++ L)) (ix2 r l)
      = if 128 ≤ r.val ∧ r.val < 512 * k + 128 then val r.val l.val else v.read (Elt Ideal) (v.writes (Elt Ideal) f L) (ix2 r l) := by
  induction k with
  | zero => rw [h0, List.nil_append, if_neg (by omega)]
  | succ k ih =>
    obtain ⟨off, inb, w, hoff, hS, hw⟩ := hP ⟨k, by omega⟩
    have hS' : P (k + 1) = ⟨Rect.unit (s := ⟨2, ![4352, C]⟩) off ![512, C] inb, w⟩ :: P k := hS
    rw [hS', List.cons_append]
    by_cases h : 512 * k + 128 ≤ r.val ∧ r.val < 512 * k + 128 + 512
    · rw [if_pos (by omega)]
      refine (View.read_writes_cons_rows_of_mem v f inb w (P k ++ L) (ix2 r l) (ix2 ⟨r.val - (512 * k + 128), by omega⟩ l) hoff ?_ rfl).trans ?_
      · show r.val = 512 * k + 128 + (r.val - (512 * k + 128)); omega
      · exact (hw _ _).trans (congrArg (fun n => val n l.val) (show 512 * k + 128 + (r.val - (512 * k + 128)) = r.val by omega))
    · rw [View.read_writes_cons_rows_of_not_mem (o := 512 * k + 128) (W := 512) v f inb w (P k ++ L) (ix2 r l) hoff rfl (show r.val < 512 * k + 128 ∨ 512 * k + 128 + 512 ≤ r.val by omega), ih (by omega)]
      by_cases h' : 128 ≤ r.val ∧ r.val < 512 * k + 128
      · rw [if_pos h', if_pos (by omega)]
      · rw [if_neg h', if_neg (by omega)]

/-- The same where a trip writes its 512 rows in two halves of 128 lanes. -/
theorem read_row_blocks_halves {κ : Kind} {sp : Space} (v : View sig κ sp S4352x256 .bf16)
    (f : v.ty.Contents (Elt Ideal)) (P : ℕ → List (View.Piece (Elt Ideal) S4352x256 .bf16)) (h0 : P 0 = [])
    (val : ℕ → ℕ → EReal)
    (hP : ∀ k : Fin 8, ∃ (off off' : Fin 2 → ℕ) (inb : ∀ a, off a + S512x128.size a ≤ S4352x256.size a)
      (inb' : ∀ a, off' a + S512x128.size a ≤ S4352x256.size a)
      (w w' : S512x128.Idx → Elt Ideal .bf16), off = ![512 * k.val + 128, 128] ∧ off' = ![512 * k.val + 128, 0]
        ∧ P (k.val + 1) = ⟨Rect.unit (s := S4352x256) off S512x128.size inb, w⟩ :: ⟨Rect.unit (s := S4352x256) off' S512x128.size inb', w'⟩ :: P k.val
        ∧ (∀ (r : Fin 512) (l : Fin 128), w (ix2 r l) = val (512 * k.val + 128 + r.val) (128 + l.val))
        ∧ ∀ (r : Fin 512) (l : Fin 128), w' (ix2 r l) = val (512 * k.val + 128 + r.val) l.val)
    (L : List (View.Piece (Elt Ideal) S4352x256 .bf16)) (k : ℕ) (hk : k ≤ 8) (r : Fin 4352) (l : Fin 256) :
    v.read (Elt Ideal) (v.writes (Elt Ideal) f (P k ++ L)) (ix2 r l)
      = if 128 ≤ r.val ∧ r.val < 512 * k + 128 then val r.val l.val else v.read (Elt Ideal) (v.writes (Elt Ideal) f L) (ix2 r l) := by
  induction k with
  | zero => rw [h0, List.nil_append, if_neg (by omega)]
  | succ k ih =>
    obtain ⟨off, off', inb, inb', w, w', hoff, hoff', hS, hw, hw'⟩ := hP ⟨k, by omega⟩
    have hS' : P (k + 1) = ⟨Rect.unit (s := S4352x256) off S512x128.size inb, w⟩ :: ⟨Rect.unit (s := S4352x256) off' S512x128.size inb', w'⟩ :: P k := hS
    rw [hS', List.cons_append, List.cons_append]
    by_cases h : 512 * k + 128 ≤ r.val ∧ r.val < 512 * k + 128 + 512
    · rw [if_pos (by omega)]
      by_cases hl : l.val < 128
      · rw [View.read_writes_cons_unit_of_not_mem v f inb w _ (ix2 r l) hoff 1 (show l.val < 128 ∨ 128 + 128 ≤ l.val by omega)]
        refine (View.read_writes_cons_unit_of_mem v f inb' w' (P k ++ L) (ix2 r l) (ix2 ⟨r.val - (512 * k + 128), by omega⟩ ⟨l.val, hl⟩) hoff' ?_).trans ?_
        · intro a
          match a with
          | ⟨0, _⟩ => show r.val = 512 * k + 128 + (r.val - (512 * k + 128)); omega
          | ⟨1, _⟩ => show l.val = 0 + l.val; omega
        · exact (hw' _ _).trans (congrArg (fun n => val n l.val) (show 512 * k + 128 + (r.val - (512 * k + 128)) = r.val by omega))
      · refine (View.read_writes_cons_unit_of_mem v f inb w _ (ix2 r l) (ix2 ⟨r.val - (512 * k + 128), by omega⟩ ⟨l.val - 128, by omega⟩) hoff ?_).trans ?_
        · intro a
          match a with
          | ⟨0, _⟩ => show r.val = 512 * k + 128 + (r.val - (512 * k + 128)); omega
          | ⟨1, _⟩ => show l.val = 128 + (l.val - 128); omega
        · exact (hw _ _).trans (congrArg₂ val (show 512 * k + 128 + (r.val - (512 * k + 128)) = r.val by omega) (show 128 + (l.val - 128) = l.val by omega))
    · rw [View.read_writes_cons_unit_of_not_mem v f inb w _ (ix2 r l) hoff 0 (show r.val < 512 * k + 128 ∨ 512 * k + 128 + 512 ≤ r.val by omega),
        View.read_writes_cons_unit_of_not_mem v f inb' w' _ (ix2 r l) hoff' 0 (show r.val < 512 * k + 128 ∨ 512 * k + 128 + 512 ≤ r.val by omega), ih (by omega)]
      by_cases h' : 128 ≤ r.val ∧ r.val < 512 * k + 128
      · rw [if_pos h', if_pos (by omega)]
      · rw [if_neg h', if_neg (by omega)]

/-- The two padding blocks: rows before 128 and from 4224 on read zero. -/
theorem read_padding {κ : Kind} {sp : Space} {C : ℕ} (v : View sig κ sp (⟨2, ![4352, C]⟩ : Shape) .bf16)
    (f : v.ty.Contents (Elt Ideal)) (inb : ∀ a : Fin 2, (![4224, 0] : Fin 2 → ℕ) a + (![128, C] : Fin 2 → ℕ) a ≤ (![4352, C] : Fin 2 → ℕ) a)
    (inb' : ∀ a : Fin 2, (![0, 0] : Fin 2 → ℕ) a + (![128, C] : Fin 2 → ℕ) a ≤ (![4352, C] : Fin 2 → ℕ) a)
    (w w' : (⟨2, ![128, C]⟩ : Shape).Idx → Elt Ideal .bf16) (hw : ∀ x, w x = (0 : EReal)) (hw' : ∀ x, w' x = (0 : EReal))
    (r : Fin 4352) (l : Fin C) (h : r.val < 128 ∨ 4224 ≤ r.val) :
    v.read (Elt Ideal) (v.writes (Elt Ideal) f [⟨Rect.unit (s := ⟨2, ![4352, C]⟩) ![4224, 0] ![128, C] inb, w⟩,
      ⟨Rect.unit (s := ⟨2, ![4352, C]⟩) ![0, 0] ![128, C] inb', w'⟩]) (ix2 r l) = (0 : EReal) := by
  by_cases h' : 4224 ≤ r.val
  · exact (View.read_writes_cons_rows_of_mem v f inb w _ (ix2 r l) (ix2 ⟨r.val - 4224, by omega⟩ l) rfl
      (show r.val = 4224 + (r.val - 4224) by omega) rfl).trans (hw _)
  · rw [View.read_writes_cons_rows_of_not_mem (o := 4224) (W := 128) v f inb w _ (ix2 r l) rfl rfl (show r.val < 4224 ∨ 4224 + 128 ≤ r.val by omega)]
    exact (View.read_writes_cons_rows_of_mem v f inb' w' _ (ix2 r l) (ix2 ⟨r.val, by omega⟩ l) rfl
      (show r.val = 0 + r.val by omega) rfl).trans (hw' _)

/-- Outside the array's rows the padded array is zero. -/
theorem padAt_out (y : FVec Ideal S4096x128 .bf16) (R d : ℕ) (h : R < 128 ∨ 4224 ≤ R) : padAt y R d = 0 := by
  unfold padAt rowAt
  by_cases h' : 128 ≤ R
  · rw [if_pos h', dif_neg (by omega)]
  · rw [if_neg h']

theorem keyA_out (j : ℕ) (y : FVec Ideal S4096x128 .bf16) (R l : ℕ) (h : R < 128 ∨ 4224 ≤ R) : keyA j y R l = 0 := by
  unfold keyA; rw [padAt_out y R _ h, ite_self]

theorem keyB_out (j : ℕ) (y : FVec Ideal S4096x128 .bf16) (R l : ℕ) (h : R < 128 ∨ 4224 ≤ R) : keyB j y R l = 0 := by
  unfold keyB; rw [padAt_out y R _ h, ite_self]

theorem oneAt_out (R : ℕ) (h : R < 128 ∨ 4224 ≤ R) : oneAt R = 0 := by unfold oneAt; rw [if_neg (by omega)]

theorem valA_out (j : ℕ) (y : FVec Ideal S4096x128 .bf16) (R l : ℕ) (h : R < 128 ∨ 4224 ≤ R) : valA j y R l = 0 := by
  unfold valA; rw [keyA_out j y R l h, oneAt_out R h, ite_self, ite_self]

theorem valB_out (j : ℕ) (y : FVec Ideal S4096x128 .bf16) (R l : ℕ) (h : R < 128 ∨ 4224 ≤ R) : valB j y R l = 0 := by
  unfold valB; rw [keyB_out j y R l h, oneAt_out R h, ite_self, ite_self]

/-- The two constants of the staging. -/
theorem stage_zero (x : S512x128.Idx) : (trip_k1_t1.sl.v542 (F := Ideal) x : EReal) = 0 := by
  show Ideal.ofBits .bf16 0#16 = 0
  simp [Ideal.ofBits, Ideal.ieee]

theorem stage_one (x : S512x128.Idx) : (trip_k1_t1.sl.v543 (F := Ideal) x : EReal) = 1 := by
  show Ideal.ofBits .bf16 16256#16 = 1
  simp [Ideal.ofBits, Ideal.ieee, -EReal.coe_mul]; norm_num

variable (𝒱 : Variants) (c : Dev nD) (bd : Option 𝒱.V) (i : grid1.Coords) (arg2 : Memref sig .tc .vmem S4096x256 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S3x2x128x768 .f32) (harg5 : arg5.IsWhole) (arg6 : Memref sig .tc .smem S8 .f32) (harg6 : arg6.IsWhole) (arg7 : Memref sig .tc .vmem S4096x256 .bf16) (harg7 : arg7.IsWhole) (arg8 : Memref sig .tc .vmem S4352x128 .bf16) (harg8 : arg8.IsWhole) (arg9 : Memref sig .tc .vmem S4352x128 .bf16) (harg9 : arg9.IsWhole) (arg10 : Memref sig .tc .vmem S4352x256 .bf16) (harg10 : arg10.IsWhole) (arg11 : Memref sig .tc .vmem S4352x256 .bf16) (harg11 : arg11.IsWhole) (arg12 : Memref sig .tc .vmem S2x128x768 .f32) (harg12 : arg12.IsWhole) (arg13 : Memref sig .tc .vmem S2x128x768 .bf16) (harg13 : arg13.IsWhole) (arg14 : Memref sig .tc .vmem S2x128x128 .f32) (harg14 : arg14.IsWhole) (v29 : FVec Ideal S128x256 .bf16) (v30 : Vec Ideal S128x256 .bf16)
  (X_arg3 : BufTy.Contents (Elt Ideal) arg3.view.ty) (X_arg4 : BufTy.Contents (Elt Ideal) arg4.view.ty)

/-- The 512 rows a trip of the staging loop loads. -/
theorem stage_load (m : Memref sig .tc .vmem S4096x128 .bf16) (X : BufTy.Contents (Elt Ideal) m.view.ty) (k : Fin k1_t1_loop.trips)
    (inb : ∀ a, k1_off1 k a + S512x128.size a ≤ S4096x128.size a) (r : Fin 512) (d : Fin 128) :
    (View.readAt (Elt Ideal) m.view (Rect.unit (s := S4096x128) (k1_off1 k) S512x128.size inb).toLoadRect X (ix2 r d) : EReal)
      = rowAt (m.view.read (Elt Ideal) X) (512 * k.val + r.val) d.val := by
  have hk : k.val < 8 := k.isLt
  unfold rowAt
  rw [dif_pos ⟨by omega, d.isLt⟩, View.readAt_apply]
  refine congrArg (m.view.read (Elt Ideal) X) (funext fun a => Fin.ext ?_)
  have ho := k1_off1_eq k
  match a with
  | ⟨0, _⟩ => show k1_off1 k 0 + 1 * r.val = 512 * k.val + r.val; rw [ho]; show 512 * k.val + 1 * r.val = _; omega
  | ⟨1, _⟩ => show k1_off1 k 1 + 1 * d.val = d.val; rw [ho]; show 0 + 1 * d.val = _; omega

/-- The half row a trip keeps, as a row of the padded array. -/
theorem stage_kept (m : Memref sig .tc .vmem S4096x128 .bf16) (X : BufTy.Contents (Elt Ideal) m.view.ty) (k : Fin k1_t1_loop.trips)
    (inb : ∀ a, k1_off1 k a + S512x128.size a ≤ S4096x128.size a) (r : Fin 512) (l : Fin 128) :
    (select (k1_pay35 i) (shapeCast S512x128 (View.readAt (Elt Ideal) m.view (Rect.unit (s := S4096x128) (k1_off1 k) S512x128.size inb).toLoadRect X) shapeCasts_S512x128_S512x128)
      (dynamicRotate 1 64#32 none (shapeCast S512x128 (View.readAt (Elt Ideal) m.view (Rect.unit (s := S4096x128) (k1_off1 k) S512x128.size inb).toLoadRect X) shapeCasts_S512x128_S512x128) rotates_S512x128_d1) (ix2 r l) : EReal)
      = padAt (m.view.read (Elt Ideal) X) (512 * k.val + 128 + r.val) (64 * (i 1).val + l.val % 64) := by
  rw [kept]
  unfold padAt
  rw [if_pos (by omega), show 512 * k.val + 128 + r.val - 128 = 512 * k.val + r.val by omega]
  refine Eq.trans ?_ (stage_load m X k inb r ⟨64 * (i 1).val + l.val % 64, by have : (i 1).val < 2 := (i 1).isLt; omega⟩)
  exact congrFun (shapeCast_self _ _) _

/-- One more trip: the pieces it puts before the earlier trips' in buffer 8. -/
theorem stage_succA (k : Fin k1_t1_loop.trips) :
    ∃ inb : ∀ a, k1_off2 k a + S512x128.size a ≤ S4352x128.size a, (pb_k1_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 k1_pay34 (k1_pay35 i) v29 v30 X_arg3 X_arg4 (k.val + 1)).1
      = ⟨Rect.unit (k1_off2 k) S512x128.size inb, trip_k1_t1.sl.v548 arg3 k1_pay34 (k1_pay35 i) X_arg3 k⟩ :: (pb_k1_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 k1_pay34 (k1_pay35 i) v29 v30 X_arg3 X_arg4 k.val).1 := by
  rw [pb_k1_t1_succ]
  show ∃ inb : ∀ a, k1_off2 k a + S512x128.size a ≤ S4352x128.size a, (trip_k1_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 k1_pay34 (k1_pay35 i) v29 v30 X_arg3 X_arg4 k).1 ++ _ = ⟨Rect.unit (k1_off2 k) S512x128.size inb, trip_k1_t1.sl.v548 arg3 k1_pay34 (k1_pay35 i) X_arg3 k⟩ :: _
  unfold trip_k1_t1
  exact ⟨_, rfl⟩

/-- One more trip: the pieces it puts before the earlier trips' in buffer 9. -/
theorem stage_succB (k : Fin k1_t1_loop.trips) :
    ∃ inb : ∀ a, k1_off2 k a + S512x128.size a ≤ S4352x128.size a, (pb_k1_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 k1_pay34 (k1_pay35 i) v29 v30 X_arg3 X_arg4 (k.val + 1)).2.1
      = ⟨Rect.unit (k1_off2 k) S512x128.size inb, trip_k1_t1.sl.v553 arg3 k1_pay34 (k1_pay35 i) X_arg3 k⟩ :: (pb_k1_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 k1_pay34 (k1_pay35 i) v29 v30 X_arg3 X_arg4 k.val).2.1 := by
  rw [pb_k1_t1_succ]
  show ∃ inb : ∀ a, k1_off2 k a + S512x128.size a ≤ S4352x128.size a, (trip_k1_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 k1_pay34 (k1_pay35 i) v29 v30 X_arg3 X_arg4 k).2.1 ++ _ = ⟨Rect.unit (k1_off2 k) S512x128.size inb, trip_k1_t1.sl.v553 arg3 k1_pay34 (k1_pay35 i) X_arg3 k⟩ :: _
  unfold trip_k1_t1
  exact ⟨_, rfl⟩

/-- One more trip: the pieces it puts before the earlier trips' in buffer 10. -/
theorem stage_succVA (k : Fin k1_t1_loop.trips) :
    ∃ (inb : ∀ a, k1_off4 k a + S512x128.size a ≤ S4352x256.size a) (inb' : ∀ a, k1_off3 k a + S512x128.size a ≤ S4352x256.size a), (pb_k1_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 k1_pay34 (k1_pay35 i) v29 v30 X_arg3 X_arg4 (k.val + 1)).2.2.1
      = ⟨Rect.unit (k1_off4 k) S512x128.size inb, trip_k1_t1.sl.v563 (F := Ideal) k1_pay34⟩ :: ⟨Rect.unit (k1_off3 k) S512x128.size inb', trip_k1_t1.sl.v558 arg4 k1_pay34 (k1_pay35 i) X_arg4 k⟩ :: (pb_k1_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 k1_pay34 (k1_pay35 i) v29 v30 X_arg3 X_arg4 k.val).2.2.1 := by
  rw [pb_k1_t1_succ]
  show ∃ (inb : ∀ a, k1_off4 k a + S512x128.size a ≤ S4352x256.size a) (inb' : ∀ a, k1_off3 k a + S512x128.size a ≤ S4352x256.size a), (trip_k1_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 k1_pay34 (k1_pay35 i) v29 v30 X_arg3 X_arg4 k).2.2.1 ++ _ = ⟨Rect.unit (k1_off4 k) S512x128.size inb, trip_k1_t1.sl.v563 (F := Ideal) k1_pay34⟩ :: ⟨Rect.unit (k1_off3 k) S512x128.size inb', trip_k1_t1.sl.v558 arg4 k1_pay34 (k1_pay35 i) X_arg4 k⟩ :: _
  unfold trip_k1_t1
  exact ⟨_, _, rfl⟩

/-- One more trip: the pieces it puts before the earlier trips' in buffer 11. -/
theorem stage_succVB (k : Fin k1_t1_loop.trips) :
    ∃ (inb : ∀ a, k1_off4 k a + S512x128.size a ≤ S4352x256.size a) (inb' : ∀ a, k1_off3 k a + S512x128.size a ≤ S4352x256.size a), (pb_k1_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 k1_pay34 (k1_pay35 i) v29 v30 X_arg3 X_arg4 (k.val + 1)).2.2.2
      = ⟨Rect.unit (k1_off4 k) S512x128.size inb, k1_pay49 (F := Ideal) k1_pay34 trip_k1_t1.sl.v542 trip_k1_t1.sl.v543⟩ :: ⟨Rect.unit (k1_off3 k) S512x128.size inb', k1_pay48 (trip_k1_t1.sl.v564 arg4 k1_pay34 (k1_pay35 i) X_arg4 k)⟩ :: (pb_k1_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 k1_pay34 (k1_pay35 i) v29 v30 X_arg3 X_arg4 k.val).2.2.2 := by
  rw [pb_k1_t1_succ]
  show ∃ (inb : ∀ a, k1_off4 k a + S512x128.size a ≤ S4352x256.size a) (inb' : ∀ a, k1_off3 k a + S512x128.size a ≤ S4352x256.size a), (trip_k1_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 k1_pay34 (k1_pay35 i) v29 v30 X_arg3 X_arg4 k).2.2.2.1 ++ _ = ⟨Rect.unit (k1_off4 k) S512x128.size inb, k1_pay49 (F := Ideal) k1_pay34 trip_k1_t1.sl.v542 trip_k1_t1.sl.v543⟩ :: ⟨Rect.unit (k1_off3 k) S512x128.size inb', k1_pay48 (trip_k1_t1.sl.v564 arg4 k1_pay34 (k1_pay35 i) X_arg4 k)⟩ :: _
  unfold trip_k1_t1
  exact ⟨_, _, rfl⟩

/-- What a trip writes in the first key buffer. -/
theorem piece_keyA (m : Memref sig .tc .vmem S4096x128 .bf16) (X : BufTy.Contents (Elt Ideal) m.view.ty) (k : Fin k1_t1_loop.trips)
    (r : Fin 512) (l : Fin 128) :
    (trip_k1_t1.sl.v548 m k1_pay34 (k1_pay35 i) X k (ix2 r l) : EReal) = keyA (i 1).val (m.view.read (Elt Ideal) X) (512 * k.val + 128 + r.val) l.val := by
  refine (congrFun (shapeCast_self _ _) _).trans ((select_low _ _ r l).trans ?_)
  unfold keyA
  rw [stage_zero]
  by_cases hl : l.val < 64
  · rw [if_pos hl, if_pos hl]; exact stage_kept i m X k _ r l
  · rw [if_neg hl, if_neg hl]

/-- What a trip writes in the second key buffer. -/
theorem piece_keyB (m : Memref sig .tc .vmem S4096x128 .bf16) (X : BufTy.Contents (Elt Ideal) m.view.ty) (k : Fin k1_t1_loop.trips)
    (r : Fin 512) (l : Fin 128) :
    (trip_k1_t1.sl.v553 m k1_pay34 (k1_pay35 i) X k (ix2 r l) : EReal) = keyB (i 1).val (m.view.read (Elt Ideal) X) (512 * k.val + 128 + r.val) l.val := by
  refine (congrFun (shapeCast_self _ _) _).trans ((select_low _ _ r l).trans ?_)
  unfold keyB
  rw [stage_zero]
  by_cases hl : l.val < 64
  · rw [if_pos hl, if_pos hl]
  · rw [if_neg hl, if_neg hl]; exact stage_kept i m X k _ r l

/-- What a trip writes in the lower half of the first value buffer. -/
theorem piece_valA (m : Memref sig .tc .vmem S4096x128 .bf16) (X : BufTy.Contents (Elt Ideal) m.view.ty) (k : Fin k1_t1_loop.trips)
    (r : Fin 512) (l : Fin 128) :
    (trip_k1_t1.sl.v558 m k1_pay34 (k1_pay35 i) X k (ix2 r l) : EReal) = valA (i 1).val (m.view.read (Elt Ideal) X) (512 * k.val + 128 + r.val) l.val := by
  unfold valA
  rw [if_pos l.isLt]
  exact piece_keyA i m X k r l

/-- What a trip writes in the lower half of the second value buffer. -/
theorem piece_valB (m : Memref sig .tc .vmem S4096x128 .bf16) (X : BufTy.Contents (Elt Ideal) m.view.ty) (k : Fin k1_t1_loop.trips)
    (r : Fin 512) (l : Fin 128) :
    (k1_pay48 (trip_k1_t1.sl.v564 m k1_pay34 (k1_pay35 i) X k) (ix2 r l) : EReal) = valB (i 1).val (m.view.read (Elt Ideal) X) (512 * k.val + 128 + r.val) l.val := by
  unfold valB
  rw [if_pos l.isLt]
  exact piece_keyB i m X k r l

/-- What a trip writes in the upper half of the first value buffer. -/
theorem piece_oneA (y : FVec Ideal S4096x128 .bf16) (k : Fin 8) (r : Fin 512) (l : Fin 128) :
    (trip_k1_t1.sl.v563 (F := Ideal) k1_pay34 (ix2 r l) : EReal) = valA (i 1).val y (512 * k.val + 128 + r.val) (128 + l.val) := by
  refine (congrFun (shapeCast_self _ _) _).trans ((select_low _ _ r l).trans ?_)
  unfold valA oneAt
  rw [stage_zero, stage_one, if_neg (show ¬ 128 + l.val < 128 by omega), if_pos (show 128 ≤ 512 * k.val + 128 + r.val ∧ 512 * k.val + 128 + r.val < 4224 by omega)]
  by_cases hl : l.val < 64
  · rw [if_pos hl, if_pos (by omega)]
  · rw [if_neg hl, if_neg (by omega)]

/-- What a trip writes in the upper half of the second value buffer. -/
theorem piece_oneB (y : FVec Ideal S4096x128 .bf16) (k : Fin 8) (r : Fin 512) (l : Fin 128) :
    (k1_pay49 (F := Ideal) k1_pay34 trip_k1_t1.sl.v542 trip_k1_t1.sl.v543 (ix2 r l) : EReal) = valB (i 1).val y (512 * k.val + 128 + r.val) (128 + l.val) := by
  refine (congrFun (shapeCast_self _ _) _).trans ((select_low _ _ r l).trans ?_)
  unfold valB oneAt
  rw [stage_zero, stage_one, if_neg (show ¬ 128 + l.val < 128 by omega), if_pos (show 128 ≤ 512 * k.val + 128 + r.val ∧ 512 * k.val + 128 + r.val < 4224 by omega)]
  by_cases hl : l.val < 64
  · rw [if_pos hl, if_pos (by omega)]
  · rw [if_neg hl, if_neg (by omega)]

/-- The zeros of the padding. -/
theorem pad_zero : Ideal.ofBits .bf16 0#16 = (0 : EReal) := by simp [Ideal.ofBits, Ideal.ieee]

/-- The buffer of `keyA` after the staging loop. -/
theorem staged_keyA (f : BufTy.Contents (Elt Ideal) arg8.view.ty) (n : ℕ) (hn : n = 8)
    (inb : ∀ a, (![4224, 0] : Fin 2 → ℕ) a + S128x128.size a ≤ S4352x128.size a) (inb' : ∀ a, (![0, 0] : Fin 2 → ℕ) a + S128x128.size a ≤ S4352x128.size a)
    (r : Fin 4352) (l : Fin 128) :
    (arg8.view.read (Elt Ideal) (arg8.view.writes (Elt Ideal) f ((pb_k1_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 k1_pay34 (k1_pay35 i) v29 v30 X_arg3 X_arg4 n).1
        ++ [⟨Rect.unit (s := S4352x128) ![4224, 0] S128x128.size inb, k1_pay38 (F := Ideal)⟩, ⟨Rect.unit (s := S4352x128) ![0, 0] S128x128.size inb', k1_pay37 (F := Ideal)⟩])) (ix2 r l) : EReal)
      = keyA (i 1).val (arg3.view.read (Elt Ideal) X_arg3) r.val l.val := by
  subst hn
  refine (read_row_blocks arg8.view f (fun k => (pb_k1_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 k1_pay34 (k1_pay35 i) v29 v30 X_arg3 X_arg4 k).1) rfl (keyA (i 1).val (arg3.view.read (Elt Ideal) X_arg3)) ?_ _ 8 (le_refl 8) r l).trans ?_
  · intro k
    obtain ⟨inb, h⟩ := stage_succA 𝒱 c bd i arg2 harg2 arg3 harg3 arg4 harg4 arg5 harg5 arg6 harg6 arg7 harg7 arg8 harg8 arg9 harg9 arg10 harg10 arg11 harg11 arg12 harg12 arg13 harg13 arg14 harg14 v29 v30 X_arg3 X_arg4 k
    exact ⟨_, inb, _, k1_off2_eq k, h, fun r l => piece_keyA i arg3 X_arg3 k r l⟩
  · by_cases h : 128 ≤ r.val ∧ r.val < 512 * 8 + 128
    · rw [if_pos h]
    · rw [if_neg h, keyA_out _ _ _ _ (by omega)]
      exact read_padding arg8.view f inb inb' _ _ (fun x => pad_zero) (fun x => pad_zero) r l (by omega)

/-- The buffer of `keyB` after the staging loop. -/
theorem staged_keyB (f : BufTy.Contents (Elt Ideal) arg9.view.ty) (n : ℕ) (hn : n = 8)
    (inb : ∀ a, (![4224, 0] : Fin 2 → ℕ) a + S128x128.size a ≤ S4352x128.size a) (inb' : ∀ a, (![0, 0] : Fin 2 → ℕ) a + S128x128.size a ≤ S4352x128.size a)
    (r : Fin 4352) (l : Fin 128) :
    (arg9.view.read (Elt Ideal) (arg9.view.writes (Elt Ideal) f ((pb_k1_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 k1_pay34 (k1_pay35 i) v29 v30 X_arg3 X_arg4 n).2.1
        ++ [⟨Rect.unit (s := S4352x128) ![4224, 0] S128x128.size inb, k1_pay41 (F := Ideal)⟩, ⟨Rect.unit (s := S4352x128) ![0, 0] S128x128.size inb', k1_pay40 (F := Ideal)⟩])) (ix2 r l) : EReal)
      = keyB (i 1).val (arg3.view.read (Elt Ideal) X_arg3) r.val l.val := by
  subst hn
  refine (read_row_blocks arg9.view f (fun k => (pb_k1_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 k1_pay34 (k1_pay35 i) v29 v30 X_arg3 X_arg4 k).2.1) rfl (keyB (i 1).val (arg3.view.read (Elt Ideal) X_arg3)) ?_ _ 8 (le_refl 8) r l).trans ?_
  · intro k
    obtain ⟨inb, h⟩ := stage_succB 𝒱 c bd i arg2 harg2 arg3 harg3 arg4 harg4 arg5 harg5 arg6 harg6 arg7 harg7 arg8 harg8 arg9 harg9 arg10 harg10 arg11 harg11 arg12 harg12 arg13 harg13 arg14 harg14 v29 v30 X_arg3 X_arg4 k
    exact ⟨_, inb, _, k1_off2_eq k, h, fun r l => piece_keyB i arg3 X_arg3 k r l⟩
  · by_cases h : 128 ≤ r.val ∧ r.val < 512 * 8 + 128
    · rw [if_pos h]
    · rw [if_neg h, keyB_out _ _ _ _ (by omega)]
      exact read_padding arg9.view f inb inb' _ _ (fun x => pad_zero) (fun x => pad_zero) r l (by omega)

/-- The buffer of `valA` after the staging loop. -/
theorem staged_valA (f : BufTy.Contents (Elt Ideal) arg10.view.ty) (n : ℕ) (hn : n = 8)
    (inb : ∀ a, (![4224, 0] : Fin 2 → ℕ) a + S128x256.size a ≤ S4352x256.size a) (inb' : ∀ a, (![0, 0] : Fin 2 → ℕ) a + S128x256.size a ≤ S4352x256.size a)
    (r : Fin 4352) (l : Fin 256) :
    (arg10.view.read (Elt Ideal) (arg10.view.writes (Elt Ideal) f ((pb_k1_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 k1_pay34 (k1_pay35 i) v29 v30 X_arg3 X_arg4 n).2.2.1
        ++ [⟨Rect.unit (s := S4352x256) ![4224, 0] S128x256.size inb, k1_pay44 (F := Ideal)⟩, ⟨Rect.unit (s := S4352x256) ![0, 0] S128x256.size inb', k1_pay43 (F := Ideal)⟩])) (ix2 r l) : EReal)
      = valA (i 1).val (arg4.view.read (Elt Ideal) X_arg4) r.val l.val := by
  subst hn
  refine (read_row_blocks_halves arg10.view f (fun k => (pb_k1_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 k1_pay34 (k1_pay35 i) v29 v30 X_arg3 X_arg4 k).2.2.1) rfl (valA (i 1).val (arg4.view.read (Elt Ideal) X_arg4)) ?_ _ 8 (le_refl 8) r l).trans ?_
  · intro k
    obtain ⟨inb, inb', h⟩ := stage_succVA 𝒱 c bd i arg2 harg2 arg3 harg3 arg4 harg4 arg5 harg5 arg6 harg6 arg7 harg7 arg8 harg8 arg9 harg9 arg10 harg10 arg11 harg11 arg12 harg12 arg13 harg13 arg14 harg14 v29 v30 X_arg3 X_arg4 k
    exact ⟨_, _, inb, inb', _, _, k1_off4_eq k, k1_off3_eq k, h, fun r l => piece_oneA i _ k r l, fun r l => piece_valA i arg4 X_arg4 k r l⟩
  · by_cases h : 128 ≤ r.val ∧ r.val < 512 * 8 + 128
    · rw [if_pos h]
    · rw [if_neg h, valA_out _ _ _ _ (by omega)]
      exact read_padding arg10.view f inb inb' _ _ (fun x => pad_zero) (fun x => pad_zero) r l (by omega)

/-- The buffer of `valB` after the staging loop. -/
theorem staged_valB (f : BufTy.Contents (Elt Ideal) arg11.view.ty) (n : ℕ) (hn : n = 8)
    (inb : ∀ a, (![4224, 0] : Fin 2 → ℕ) a + S128x256.size a ≤ S4352x256.size a) (inb' : ∀ a, (![0, 0] : Fin 2 → ℕ) a + S128x256.size a ≤ S4352x256.size a)
    (r : Fin 4352) (l : Fin 256) :
    (arg11.view.read (Elt Ideal) (arg11.view.writes (Elt Ideal) f ((pb_k1_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 k1_pay34 (k1_pay35 i) v29 v30 X_arg3 X_arg4 n).2.2.2
        ++ [⟨Rect.unit (s := S4352x256) ![4224, 0] S128x256.size inb, k1_pay47 (F := Ideal) k1_pay45⟩, ⟨Rect.unit (s := S4352x256) ![0, 0] S128x256.size inb', k1_pay46 (F := Ideal) k1_pay45⟩])) (ix2 r l) : EReal)
      = valB (i 1).val (arg4.view.read (Elt Ideal) X_arg4) r.val l.val := by
  subst hn
  refine (read_row_blocks_halves arg11.view f (fun k => (pb_k1_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 k1_pay34 (k1_pay35 i) v29 v30 X_arg3 X_arg4 k).2.2.2) rfl (valB (i 1).val (arg4.view.read (Elt Ideal) X_arg4)) ?_ _ 8 (le_refl 8) r l).trans ?_
  · intro k
    obtain ⟨inb, inb', h⟩ := stage_succVB 𝒱 c bd i arg2 harg2 arg3 harg3 arg4 harg4 arg5 harg5 arg6 harg6 arg7 harg7 arg8 harg8 arg9 harg9 arg10 harg10 arg11 harg11 arg12 harg12 arg13 harg13 arg14 harg14 v29 v30 X_arg3 X_arg4 k
    exact ⟨_, _, inb, inb', _, _, k1_off4_eq k, k1_off3_eq k, h, fun r l => piece_oneB i _ k r l, fun r l => piece_valB i arg4 X_arg4 k r l⟩
  · by_cases h : 128 ≤ r.val ∧ r.val < 512 * 8 + 128
    · rw [if_pos h]
    · rw [if_neg h, valB_out _ _ _ _ (by omega)]
      exact read_padding arg11.view f inb inb' _ _ (fun x => pad_zero) (fun x => pad_zero) r l (by omega)

end Cert.Proof.Swa
-- ==== Proof.SwaState.lean ====
/-
  The attention of one grid point, block by block, in the scratch buffers' own layout, and each of the body's four
  computations as a step of it: from what the buffers read before to what they read after.
-/
module

public import proofs.«01_k».proof.Proof.SwaStage

@[expose] public section

set_option maxRecDepth 16384

noncomputable section

namespace Cert.Proof.Swa

open Cert.SwaIdeal Cert.SwaIdeal.Gen
open Idealize.ShloMosaic Idealize.ShloMosaic.TcCoe

/-- What one grid point computes with: its queries, the staged keys and values, the bias tables and the sinks. -/
structure Pt where
  q : FVec Ideal S4096x256 .bf16
  ka : ℕ → ℕ → EReal
  kb : ℕ → ℕ → EReal
  va : ℕ → ℕ → EReal
  vb : ℕ → ℕ → EReal
  bias : FVec Ideal S3x2x128x768 .f32
  sink : ℕ → EReal

namespace Pt

variable (P : Pt)

/-- A query element, zero outside the array. -/
def qAt (R d : ℕ) : EReal := if h : R < 4096 ∧ d < 256 then P.q (ix2 ⟨R, h.1⟩ ⟨d, h.2⟩) else 0

/-- The bias table of block `n`: the first, the last or the middle one. -/
def tab (n : ℕ) : Fin 3 := if n = 0 then 0 else if n = 31 then 2 else 1

/-- A key column of the band of block `n`: 384 rows of the first buffer, then 384 of the second. -/
def kx (n s l : ℕ) : EReal := if s < 384 then P.ka (128 * n + s) l else P.kb (128 * n + (s - 384)) l

/-- A value row of the band of block `n`. -/
def vx (n s l : ℕ) : EReal := if s < 384 then P.va (128 * n + s) l else P.vb (128 * n + (s - 384)) l

/-- The logits of pair `p` in block `n`. -/
def lg (n : ℕ) (p : Fin 2) (a : Fin 128) (s : Fin 768) : EReal :=
  (∑ l : Fin 128, P.qAt (128 * n + a.val) (128 * p.val + l.val) * P.kx n s.val l.val) + P.bias (ix4 (tab n) p a s)

/-- The running maximum of one head's row, its sink included. -/
def mx (n : ℕ) (p : Fin 2) (a : Fin 128) (e : Fin 2) : EReal :=
  max (rmax fun t : Fin 384 => P.lg n p a ⟨384 * e.val + t.val, by omega⟩) (P.sink (2 * p.val + e.val))

/-- The exponentials. -/
def pr (n : ℕ) (p : Fin 2) (a : Fin 128) (s : Fin 768) : EReal :=
  Ideal.exp (P.lg n p a s - P.mx n p a ⟨s.val / 384, by omega⟩)

/-- One head's sink term. -/
def sk (n : ℕ) (p : Fin 2) (a : Fin 128) (e : Fin 2) : EReal :=
  Ideal.exp (P.sink (2 * p.val + e.val) - P.mx n p a e)

/-- The sink terms of a pair, each over its head's 64 lanes. -/
def st (n : ℕ) (p : Fin 2) (a : Fin 128) (l : Fin 128) : EReal :=
  P.sk n p a ⟨l.val / 64, by omega⟩

/-- The output of pair `p` in block `n`. -/
def out (n : ℕ) (p : Fin 2) (a : Fin 128) (l : Fin 128) : EReal :=
  Ideal.div (∑ s : Fin 768, P.pr n p a s * P.vx n s.val l.val)
    ((∑ s : Fin 768, P.pr n p a s * P.vx n s.val (128 + l.val)) + P.st n p a l)

end Pt

section Loads

variable {κ : Kind} {sp : Space} {s : Shape} {e : EltTy}

/-- A load of a rectangle at an index reads the buffer at the rectangle's corner plus the index. -/
theorem readAt_unit (v : View sig κ sp s e) {off size : Fin s.rank → ℕ} (inb : ∀ a, off a + size a ≤ s.size a)
    (X : v.ty.Contents (Elt Ideal)) (x : (Rect.unit off size inb).shape.Idx) (y : s.Idx) (h : ∀ a, (y a).val = off a + (x a).val) :
    View.readAt (Elt Ideal) v (Rect.unit off size inb).toLoadRect X x = v.read (Elt Ideal) X y := by
  rw [View.readAt_apply]
  refine congrArg (v.read (Elt Ideal) X) (funext fun a => Fin.ext ?_)
  show off a + 1 * (x a).val = (y a).val
  rw [h a, Nat.one_mul]

end Loads

variable (P : Pt)

/-- The logits buffer holds block `n`'s logits. -/
def IsLg (m : Memref sig .tc .vmem S2x128x768 .f32) (X : BufTy.Contents (Elt Ideal) m.view.ty) (n : ℕ) : Prop :=
  ∀ p a s, (m.view.read (Elt Ideal) X (ix3 p a s) : EReal) = P.lg n p a s

/-- The probabilities buffer holds block `n`'s exponentials. -/
def IsPr (m : Memref sig .tc .vmem S2x128x768 .bf16) (X : BufTy.Contents (Elt Ideal) m.view.ty) (n : ℕ) : Prop :=
  ∀ p a s, (m.view.read (Elt Ideal) X (ix3 p a s) : EReal) = P.pr n p a s

/-- The sink-term buffer holds block `n`'s. -/
def IsSt (m : Memref sig .tc .vmem S2x128x128 .f32) (X : BufTy.Contents (Elt Ideal) m.view.ty) (n : ℕ) : Prop :=
  ∀ p a l, (m.view.read (Elt Ideal) X (ix3 p a l) : EReal) = P.st n p a l

/-- A rank-3 buffer after two pieces, one per pair. -/
theorem read_pairs {e : EltTy} {C : ℕ} (m : Memref sig .tc .vmem (⟨3, ![2, 128, C]⟩ : Shape) e) (X : BufTy.Contents (Elt Ideal) m.view.ty)
    (inb1 : ∀ a, (![1, 0, 0] : Fin 3 → ℕ) a + (![1, 128, C] : Fin 3 → ℕ) a ≤ (![2, 128, C] : Fin 3 → ℕ) a)
    (inb0 : ∀ a, (![0, 0, 0] : Fin 3 → ℕ) a + (![1, 128, C] : Fin 3 → ℕ) a ≤ (![2, 128, C] : Fin 3 → ℕ) a)
    (w1 w0 : (⟨3, ![1, 128, C]⟩ : Shape).Idx → Elt Ideal e) (L : List (View.Piece (Elt Ideal) (⟨3, ![2, 128, C]⟩ : Shape) e))
    (val : Fin 2 → Fin 128 → Fin C → Elt Ideal e) (h1 : ∀ a s, w1 (ix3 0 a s) = val 1 a s) (h0 : ∀ a s, w0 (ix3 0 a s) = val 0 a s)
    (p : Fin 2) (a : Fin 128) (s : Fin C) :
    m.view.read (Elt Ideal) (m.view.writes (Elt Ideal) X (⟨Rect.unit (s := ⟨3, ![2, 128, C]⟩) ![1, 0, 0] ![1, 128, C] inb1, w1⟩
      :: ⟨Rect.unit (s := ⟨3, ![2, 128, C]⟩) ![0, 0, 0] ![1, 128, C] inb0, w0⟩ :: L)) (ix3 p a s) = val p a s := by
  match p with
  | ⟨1, _⟩ =>
    refine (View.read_writes_cons_unit_of_mem m.view X inb1 w1 _ (ix3 1 a s) (ix3 0 a s) rfl ?_).trans (h1 a s)
    intro b
    match b with
    | ⟨0, _⟩ => rfl
    | ⟨1, _⟩ => exact (Nat.zero_add _).symm
    | ⟨2, _⟩ => exact (Nat.zero_add _).symm
  | ⟨0, hp⟩ =>
    rw [View.read_writes_cons_unit_of_not_mem m.view X inb1 w1 _ (ix3 ⟨0, hp⟩ a s) rfl 0 (Or.inl (show (0 : ℕ) < 1 from Nat.zero_lt_one))]
    refine (View.read_writes_cons_unit_of_mem m.view X inb0 w0 _ (ix3 0 a s) (ix3 0 a s) rfl ?_).trans (h0 a s)
    intro b
    exact (Nat.zero_add _).symm.trans (by match b with | ⟨0, _⟩ => rfl | ⟨1, _⟩ => rfl | ⟨2, _⟩ => rfl)

/-- The probabilities buffer after four pieces, one per head. -/
theorem read_heads (m : Memref sig .tc .vmem S2x128x768 .bf16) (X : BufTy.Contents (Elt Ideal) m.view.ty)
    (inb11 : ∀ a, (![1, 0, 384] : Fin 3 → ℕ) a + S1x128x384.size a ≤ S2x128x768.size a)
    (inb10 : ∀ a, (![1, 0, 0] : Fin 3 → ℕ) a + S1x128x384.size a ≤ S2x128x768.size a)
    (inb01 : ∀ a, (![0, 0, 384] : Fin 3 → ℕ) a + S1x128x384.size a ≤ S2x128x768.size a)
    (inb00 : ∀ a, (![0, 0, 0] : Fin 3 → ℕ) a + S1x128x384.size a ≤ S2x128x768.size a)
    (w11 w10 w01 w00 : S1x128x384.Idx → Elt Ideal .bf16) (L : List (View.Piece (Elt Ideal) S2x128x768 .bf16))
    (val : Fin 2 → Fin 128 → Fin 768 → EReal)
    (h11 : ∀ a (s : Fin 384), w11 (ix3 0 a s) = val 1 a ⟨384 + s.val, by omega⟩)
    (h10 : ∀ a (s : Fin 384), w10 (ix3 0 a s) = val 1 a ⟨s.val, by omega⟩)
    (h01 : ∀ a (s : Fin 384), w01 (ix3 0 a s) = val 0 a ⟨384 + s.val, by omega⟩)
    (h00 : ∀ a (s : Fin 384), w00 (ix3 0 a s) = val 0 a ⟨s.val, by omega⟩)
    (p : Fin 2) (a : Fin 128) (s : Fin 768) :
    m.view.read (Elt Ideal) (m.view.writes (Elt Ideal) X (⟨Rect.unit (s := S2x128x768) ![1, 0, 384] S1x128x384.size inb11, w11⟩
      :: ⟨Rect.unit (s := S2x128x768) ![1, 0, 0] S1x128x384.size inb10, w10⟩
      :: ⟨Rect.unit (s := S2x128x768) ![0, 0, 384] S1x128x384.size inb01, w01⟩
      :: ⟨Rect.unit (s := S2x128x768) ![0, 0, 0] S1x128x384.size inb00, w00⟩ :: L)) (ix3 p a s) = val p a s := by
  match p with
  | ⟨1, _⟩ =>
    by_cases hs : s.val < 384
    · rw [View.read_writes_cons_unit_of_not_mem m.view X inb11 w11 _ _ rfl 2 (Or.inl hs)]
      refine (View.read_writes_cons_unit_of_mem m.view X inb10 w10 _ (ix3 1 a s) (ix3 0 a ⟨s.val, hs⟩) rfl ?_).trans (h10 a _)
      intro b
      match b with
      | ⟨0, _⟩ => rfl
      | ⟨1, _⟩ => exact (Nat.zero_add _).symm
      | ⟨2, _⟩ => exact (Nat.zero_add _).symm
    · refine (View.read_writes_cons_unit_of_mem m.view X inb11 w11 _ (ix3 1 a s) (ix3 0 a ⟨s.val - 384, by omega⟩) rfl ?_).trans
        ((h11 a _).trans (congrArg (val 1 a) (Fin.ext (show 384 + (s.val - 384) = s.val by omega))))
      intro b
      match b with
      | ⟨0, _⟩ => rfl
      | ⟨1, _⟩ => exact (Nat.zero_add _).symm
      | ⟨2, _⟩ => show s.val = 384 + (s.val - 384); omega
  | ⟨0, _⟩ =>
    rw [View.read_writes_cons_unit_of_not_mem m.view X inb11 w11 _ _ rfl 0 (Or.inl Nat.zero_lt_one),
      View.read_writes_cons_unit_of_not_mem m.view X inb10 w10 _ _ rfl 0 (Or.inl Nat.zero_lt_one)]
    by_cases hs : s.val < 384
    · rw [View.read_writes_cons_unit_of_not_mem m.view X inb01 w01 _ _ rfl 2 (Or.inl hs)]
      refine (View.read_writes_cons_unit_of_mem m.view X inb00 w00 _ (ix3 0 a s) (ix3 0 a ⟨s.val, hs⟩) rfl ?_).trans (h00 a _)
      intro b
      match b with
      | ⟨0, _⟩ => rfl
      | ⟨1, _⟩ => exact (Nat.zero_add _).symm
      | ⟨2, _⟩ => exact (Nat.zero_add _).symm
    · refine (View.read_writes_cons_unit_of_mem m.view X inb01 w01 _ (ix3 0 a s) (ix3 0 a ⟨s.val - 384, by omega⟩) rfl ?_).trans
        ((h01 a _).trans (congrArg (val 0 a) (Fin.ext (show 384 + (s.val - 384) = s.val by omega))))
      intro b
      match b with
      | ⟨0, _⟩ => rfl
      | ⟨1, _⟩ => exact (Nat.zero_add _).symm
      | ⟨2, _⟩ => show s.val = 384 + (s.val - 384); omega

/-- The logits computation is the block's logits. -/
theorem logits_step (m8 m9 : Memref sig .tc .vmem S4352x128 .bf16) (X8 : BufTy.Contents (Elt Ideal) m8.view.ty)
    (X9 : BufTy.Contents (Elt Ideal) m9.view.ty) (m2 : Memref sig .tc .vmem S4096x256 .bf16) (X2 : BufTy.Contents (Elt Ideal) m2.view.ty)
    (m5 : Memref sig .tc .vmem S3x2x128x768 .f32) (X5 : BufTy.Contents (Elt Ideal) m5.view.ty)
    (h8 : ∀ r l, (m8.view.read (Elt Ideal) X8 (ix2 r l) : EReal) = P.ka r.val l.val)
    (h9 : ∀ r l, (m9.view.read (Elt Ideal) X9 (ix2 r l) : EReal) = P.kb r.val l.val)
    (h2 : m2.view.read (Elt Ideal) X2 = P.q) (h5 : m5.view.read (Elt Ideal) X5 = P.bias)
    (n : ℕ) (hn : n < 32) (p : Fin 2) {off off' off2 : Fin 2 → ℕ} {off5 : Fin 4 → ℕ}
    (inb8 : ∀ a, off a + S384x128.size a ≤ S4352x128.size a) (inb9 : ∀ a, off' a + S384x128.size a ≤ S4352x128.size a)
    (inb2 : ∀ a, off2 a + S128x128.size a ≤ S4096x256.size a) (inb5 : ∀ a, off5 a + S1x1x128x768.size a ≤ S3x2x128x768.size a)
    (ho : off = ![128 * n, 0]) (ho' : off' = ![128 * n, 0]) (ho2 : off2 = ![128 * n, 128 * p.val]) (ho5 : off5 = ![(Pt.tab n).val, p.val, 0, 0])
    (a : Fin 128) (s : Fin 768) :
    k1_pay52 (F := Ideal) (View.readAt (Elt Ideal) m8.view (Rect.unit (s := S4352x128) off S384x128.size inb8).toLoadRect X8)
      (View.readAt (Elt Ideal) m9.view (Rect.unit (s := S4352x128) off' S384x128.size inb9).toLoadRect X9)
      (View.readAt (Elt Ideal) m2.view (Rect.unit (s := S4096x256) off2 S128x128.size inb2).toLoadRect X2)
      (View.readAt (Elt Ideal) m5.view (Rect.unit (s := S3x2x128x768) off5 S1x1x128x768.size inb5).toLoadRect X5) (ix3 0 a s)
      = P.lg n p a s := by
  subst ho ho' ho2 ho5
  refine (logits_apply _ _ _ _ a s).trans ?_
  unfold Pt.lg
  refine congrArg₂ (fun x y : EReal => x + y) (Finset.sum_congr rfl fun l _ => congrArg₂ (fun x y : EReal => x * y) ?_ ?_) ?_
  · refine (readAt_unit m2.view inb2 X2 (ix2 a l) (ix2 ⟨128 * n + a.val, by omega⟩ ⟨128 * p.val + l.val, by omega⟩) ?_).trans ?_
    · intro b
      match b with
      | ⟨0, _⟩ => rfl
      | ⟨1, _⟩ => rfl
    · rw [h2]; unfold Pt.qAt; rw [dif_pos ⟨by omega, by omega⟩]
  · unfold Pt.kx
    by_cases hs : s.val < 384
    · rw [dif_pos hs, if_pos hs]
      refine (readAt_unit m8.view inb8 X8 (ix2 ⟨s.val, hs⟩ l) (ix2 ⟨128 * n + s.val, by omega⟩ l) ?_).trans (h8 _ _)
      intro b
      match b with
      | ⟨0, _⟩ => rfl
      | ⟨1, _⟩ => exact (Nat.zero_add _).symm
    · rw [dif_neg hs, if_neg hs]
      refine (readAt_unit m9.view inb9 X9 (ix2 ⟨s.val - 384, by omega⟩ l) (ix2 ⟨128 * n + (s.val - 384), by omega⟩ l) ?_).trans (h9 _ _)
      intro b
      match b with
      | ⟨0, _⟩ => rfl
      | ⟨1, _⟩ => exact (Nat.zero_add _).symm
  · refine (readAt_unit m5.view inb5 X5 (ix4 0 0 a s) (ix4 (Pt.tab n) p a s) ?_).trans (congrFun h5 _)
    intro b
    match b with
    | ⟨0, _⟩ => rfl
    | ⟨1, _⟩ => rfl
    | ⟨2, _⟩ => exact (Nat.zero_add _).symm
    | ⟨3, _⟩ => exact (Nat.zero_add _).symm

/-- A load of one head's logits. -/
theorem load_lg {m : Memref sig .tc .vmem S2x128x768 .f32} {X : BufTy.Contents (Elt Ideal) m.view.ty} {n : ℕ} (h : IsLg P m X n)
    (p e : Fin 2) {off : Fin 3 → ℕ} (inb : ∀ a, off a + S1x128x384.size a ≤ S2x128x768.size a) (ho : off = ![p.val, 0, 384 * e.val])
    (a : Fin 128) (s : Fin 384) :
    (View.readAt (Elt Ideal) m.view (Rect.unit (s := S2x128x768) off S1x128x384.size inb).toLoadRect X (ix3 0 a s) : EReal)
      = P.lg n p a ⟨384 * e.val + s.val, by omega⟩ := by
  subst ho
  refine (readAt_unit m.view inb X (ix3 0 a s) (ix3 p a ⟨384 * e.val + s.val, by omega⟩) ?_).trans (h p a _)
  intro b
  match b with
  | ⟨0, _⟩ => rfl
  | ⟨1, _⟩ => exact (Nat.zero_add _).symm
  | ⟨2, _⟩ => rfl

/-- The exponentials' computation on one head. -/
theorem expo_step {m : Memref sig .tc .vmem S2x128x768 .f32} {X : BufTy.Contents (Elt Ideal) m.view.ty} {n : ℕ} (h : IsLg P m X n)
    (p e : Fin 2) {off : Fin 3 → ℕ} (inb : ∀ a, off a + S1x128x384.size a ≤ S2x128x768.size a) (ho : off = ![p.val, 0, 384 * e.val])
    (k : Ideal .f32) (hk : (k : EReal) = P.sink (2 * p.val + e.val)) (a : Fin 128) (s : Fin 384) :
    k1_pay57 (F := Ideal) (View.readAt (Elt Ideal) m.view (Rect.unit (s := S2x128x768) off S1x128x384.size inb).toLoadRect X) k (ix3 0 a s)
      = P.pr n p a ⟨384 * e.val + s.val, by omega⟩ := by
  refine (expo_apply _ k a s).trans ?_
  unfold Pt.pr Pt.mx
  have he : (⟨(384 * e.val + s.val) / 384, by omega⟩ : Fin 2) = e := Fin.ext (show (384 * e.val + s.val) / 384 = e.val by omega)
  rw [load_lg P h p e inb ho a s, show (fun t : Fin 384 => (View.readAt (Elt Ideal) m.view (Rect.unit (s := S2x128x768) off S1x128x384.size inb).toLoadRect X (ix3 0 a t) : EReal))
    = fun t : Fin 384 => P.lg n p a ⟨384 * e.val + t.val, by omega⟩ from funext fun t => load_lg P h p e inb ho a t, hk]
  rw [he]

/-- The sink terms' computation on one pair. -/
theorem sinks_step {m : Memref sig .tc .vmem S2x128x768 .f32} {X : BufTy.Contents (Elt Ideal) m.view.ty} {n : ℕ} (h : IsLg P m X n)
    (p : Fin 2) {off off' : Fin 3 → ℕ} (inb : ∀ a, off a + S1x128x384.size a ≤ S2x128x768.size a)
    (inb' : ∀ a, off' a + S1x128x384.size a ≤ S2x128x768.size a) (ho : off = ![p.val, 0, 0]) (ho' : off' = ![p.val, 0, 384])
    (k k' : Ideal .f32) (hk : (k : EReal) = P.sink (2 * p.val)) (hk' : (k' : EReal) = P.sink (2 * p.val + 1)) (a : Fin 128) (l : Fin 128) :
    k1_pay69 (F := Ideal) k1_pay50 k (k1_pay64 (View.readAt (Elt Ideal) m.view (Rect.unit (s := S2x128x768) off S1x128x384.size inb).toLoadRect X) k)
      (View.readAt (Elt Ideal) m.view (Rect.unit (s := S2x128x768) off' S1x128x384.size inb').toLoadRect X) k' (ix3 0 a l)
      = P.st n p a l := by
  refine (sinks_apply _ _ k k' a l).trans ?_
  unfold Pt.st
  rw [show (fun t : Fin 384 => (View.readAt (Elt Ideal) m.view (Rect.unit (s := S2x128x768) off S1x128x384.size inb).toLoadRect X (ix3 0 a t) : EReal))
    = fun t : Fin 384 => P.lg n p a ⟨384 * (0 : Fin 2).val + t.val, by have : (0 : Fin 2).val = 0 := rfl; omega⟩ from funext fun t => load_lg P h p 0 inb ho a t,
    show (fun t : Fin 384 => (View.readAt (Elt Ideal) m.view (Rect.unit (s := S2x128x768) off' S1x128x384.size inb').toLoadRect X (ix3 0 a t) : EReal))
    = fun t : Fin 384 => P.lg n p a ⟨384 * (1 : Fin 2).val + t.val, by have : (1 : Fin 2).val = 1 := rfl; omega⟩ from funext fun t => load_lg P h p 1 inb' ho' a t, hk, hk']
  by_cases hl : l.val < 64
  · have he : (⟨l.val / 64, by omega⟩ : Fin 2) = 0 := Fin.ext (show l.val / 64 = 0 by omega)
    rw [if_pos hl, he]; rfl
  · have he : (⟨l.val / 64, by omega⟩ : Fin 2) = 1 := Fin.ext (show l.val / 64 = 1 by omega)
    rw [if_neg hl, he]; rfl

/-- The quotient's computation on one pair. -/
theorem quotient_step (m10 m11 : Memref sig .tc .vmem S4352x256 .bf16) (X10 : BufTy.Contents (Elt Ideal) m10.view.ty)
    (X11 : BufTy.Contents (Elt Ideal) m11.view.ty)
    (h10 : ∀ r l, (m10.view.read (Elt Ideal) X10 (ix2 r l) : EReal) = P.va r.val l.val)
    (h11 : ∀ r l, (m11.view.read (Elt Ideal) X11 (ix2 r l) : EReal) = P.vb r.val l.val)
    {m13 : Memref sig .tc .vmem S2x128x768 .bf16} {X13 : BufTy.Contents (Elt Ideal) m13.view.ty} {n : ℕ} (h13 : IsPr P m13 X13 n)
    {m14 : Memref sig .tc .vmem S2x128x128 .f32} {X14 : BufTy.Contents (Elt Ideal) m14.view.ty} (h14 : IsSt P m14 X14 n)
    (hn : n < 32) (p : Fin 2) {off off' : Fin 2 → ℕ} {off3 off4 : Fin 3 → ℕ}
    (inb10 : ∀ a, off a + S384x256.size a ≤ S4352x256.size a) (inb11 : ∀ a, off' a + S384x256.size a ≤ S4352x256.size a)
    (inb13 : ∀ a, off3 a + S1x128x768.size a ≤ S2x128x768.size a) (inb14 : ∀ a, off4 a + S1x128x128.size a ≤ S2x128x128.size a)
    (ho : off = ![128 * n, 0]) (ho' : off' = ![128 * n, 0]) (ho3 : off3 = ![p.val, 0, 0]) (ho4 : off4 = ![p.val, 0, 0])
    (a : Fin 128) (l : Fin 128) :
    k1_pay76 (F := Ideal) (k1_pay75 (View.readAt (Elt Ideal) m10.view (Rect.unit (s := S4352x256) off S384x256.size inb10).toLoadRect X10)
        (View.readAt (Elt Ideal) m11.view (Rect.unit (s := S4352x256) off' S384x256.size inb11).toLoadRect X11))
      (View.readAt (Elt Ideal) m13.view (Rect.unit (s := S2x128x768) off3 S1x128x768.size inb13).toLoadRect X13)
      (View.readAt (Elt Ideal) m14.view (Rect.unit (s := S2x128x128) off4 S1x128x128.size inb14).toLoadRect X14) (ix2 a l)
      = P.out n p a l := by
  subst ho ho' ho3 ho4
  have hp : ∀ s : Fin 768, (View.readAt (Elt Ideal) m13.view (Rect.unit (s := S2x128x768) ![p.val, 0, 0] S1x128x768.size inb13).toLoadRect X13 (ix3 0 a s) : EReal)
      = P.pr n p a s := by
    intro s
    refine (readAt_unit m13.view inb13 X13 (ix3 0 a s) (ix3 p a s) ?_).trans (h13 p a s)
    intro b
    match b with
    | ⟨0, _⟩ => rfl
    | ⟨1, _⟩ => exact (Nat.zero_add _).symm
    | ⟨2, _⟩ => exact (Nat.zero_add _).symm
  have hst : (View.readAt (Elt Ideal) m14.view (Rect.unit (s := S2x128x128) ![p.val, 0, 0] S1x128x128.size inb14).toLoadRect X14 (ix3 0 a l) : EReal)
      = P.st n p a l := by
    refine (readAt_unit m14.view inb14 X14 (ix3 0 a l) (ix3 p a l) ?_).trans (h14 p a l)
    intro b
    match b with
    | ⟨0, _⟩ => rfl
    | ⟨1, _⟩ => exact (Nat.zero_add _).symm
    | ⟨2, _⟩ => exact (Nat.zero_add _).symm
  have hv : ∀ (s : Fin 768) (d : Fin 256),
      ((if h : s.val < 384 then View.readAt (Elt Ideal) m10.view (Rect.unit (s := S4352x256) ![128 * n, 0] S384x256.size inb10).toLoadRect X10 (ix2 ⟨s.val, h⟩ d)
        else View.readAt (Elt Ideal) m11.view (Rect.unit (s := S4352x256) ![128 * n, 0] S384x256.size inb11).toLoadRect X11 (ix2 ⟨s.val - 384, by omega⟩ d)) : EReal)
        = P.vx n s.val d.val := by
    intro s d
    unfold Pt.vx
    by_cases hs : s.val < 384
    · rw [dif_pos hs, if_pos hs]
      refine (readAt_unit m10.view inb10 X10 (ix2 ⟨s.val, hs⟩ d) (ix2 ⟨128 * n + s.val, by omega⟩ d) ?_).trans (h10 _ _)
      intro b
      match b with
      | ⟨0, _⟩ => rfl
      | ⟨1, _⟩ => exact (Nat.zero_add _).symm
    · rw [dif_neg hs, if_neg hs]
      refine (readAt_unit m11.view inb11 X11 (ix2 ⟨s.val - 384, by omega⟩ d) (ix2 ⟨128 * n + (s.val - 384), by omega⟩ d) ?_).trans (h11 _ _)
      intro b
      match b with
      | ⟨0, _⟩ => rfl
      | ⟨1, _⟩ => exact (Nat.zero_add _).symm
  refine (quotient_apply _ _ _ _ a l).trans ?_
  unfold Pt.out
  exact congrArg₂ Ideal.div (Finset.sum_congr rfl fun s _ => congrArg₂ (fun x y : EReal => x * y) (hp s) (hv s ⟨l.val, by omega⟩))
    (congrArg₂ (fun x y : EReal => x + y) (Finset.sum_congr rfl fun s _ => congrArg₂ (fun x y : EReal => x * y) (hp s) (hv s ⟨128 + l.val, by omega⟩)) hst)

end Cert.Proof.Swa
-- ==== Proof.SwaSteady.lean ====
/-
  The steady loop of one grid point: after `n` of its trips the buffers hold block `n + 1`'s logits, block `n`'s
  exponentials and sink terms, and the output window's first `n` blocks hold their outputs.
-/
module

public import proofs.«01_k».proof.Proof.SwaState

@[expose] public section

set_option maxRecDepth 16384

noncomputable section

namespace Cert.Proof.Swa

open Cert.SwaIdeal Cert.SwaIdeal.Gen
open Idealize.ShloMosaic Idealize.ShloMosaic.TcCoe

/-- The output window's first `n` blocks hold their outputs. -/
def IsOut (P : Pt) (m : Memref sig .tc .vmem S4096x256 .bf16) (X : BufTy.Contents (Elt Ideal) m.view.ty) (n : ℕ) : Prop :=
  ∀ (n' : ℕ) (_ : n' < n) (p : Fin 2) (a l : Fin 128) (hr : 128 * n' + a.val < 4096) (hl : 128 * p.val + l.val < 256),
    (m.view.read (Elt Ideal) X (ix2 ⟨128 * n' + a.val, hr⟩ ⟨128 * p.val + l.val, hl⟩) : EReal) = P.out n' p a l

/-- Two stores of a block's outputs, over stores that left the blocks before it, extend what the window holds by that block. -/
theorem out_step {P : Pt} {m : Memref sig .tc .vmem S4096x256 .bf16} {X : BufTy.Contents (Elt Ideal) m.view.ty}
    {L : List (View.Piece (Elt Ideal) S4096x256 .bf16)} {n : ℕ} (h : IsOut P m (m.view.writes (Elt Ideal) X L) n)
    {o1 o0 : Fin 2 → ℕ} (inb1 : ∀ a, o1 a + S128x128.size a ≤ S4096x256.size a) (inb0 : ∀ a, o0 a + S128x128.size a ≤ S4096x256.size a)
    (ho1 : o1 = ![128 * n, 128]) (ho0 : o0 = ![128 * n, 0]) (w1 w0 : S128x128.Idx → Elt Ideal .bf16)
    (h1 : ∀ a l : Fin 128, (w1 (ix2 a l) : EReal) = P.out n 1 a l) (h0 : ∀ a l : Fin 128, (w0 (ix2 a l) : EReal) = P.out n 0 a l) :
    IsOut P m (m.view.writes (Elt Ideal) X (⟨Rect.unit (s := S4096x256) o1 S128x128.size inb1, w1⟩ :: ⟨Rect.unit (s := S4096x256) o0 S128x128.size inb0, w0⟩ :: L)) (n + 1) := by
  subst ho1 ho0
  intro n' hn' p a l hr hl
  by_cases hlt : n' < n
  · rw [View.read_writes_cons_unit_of_not_mem m.view X inb1 w1 _ (ix2 ⟨128 * n' + a.val, hr⟩ ⟨128 * p.val + l.val, hl⟩) rfl 0 (Or.inl (show 128 * n' + a.val < 128 * n by omega)),
      View.read_writes_cons_unit_of_not_mem m.view X inb0 w0 _ (ix2 ⟨128 * n' + a.val, hr⟩ ⟨128 * p.val + l.val, hl⟩) rfl 0 (Or.inl (show 128 * n' + a.val < 128 * n by omega))]
    exact h n' hlt p a l hr hl
  · obtain rfl : n' = n := by omega
    match p, hl with
    | ⟨0, hp⟩, hl =>
      rw [View.read_writes_cons_unit_of_not_mem m.view X inb1 w1 _ (ix2 ⟨128 * n' + a.val, hr⟩ ⟨128 * 0 + l.val, hl⟩) rfl 1 (Or.inl (show 128 * 0 + l.val < 128 by omega))]
      refine (View.read_writes_cons_unit_of_mem m.view X inb0 w0 _ (ix2 ⟨128 * n' + a.val, hr⟩ ⟨128 * 0 + l.val, hl⟩) (ix2 a l) rfl ?_).trans (h0 a l)
      intro b
      match b with
      | ⟨0, _⟩ => rfl
      | ⟨1, _⟩ => show 128 * 0 + l.val = 0 + l.val; omega
    | ⟨1, hp⟩, hl =>
      refine (View.read_writes_cons_unit_of_mem m.view X inb1 w1 _ (ix2 ⟨128 * n' + a.val, hr⟩ ⟨128 * 1 + l.val, hl⟩) (ix2 a l) rfl ?_).trans (h1 a l)
      intro b
      match b with
      | ⟨0, _⟩ => rfl
      | ⟨1, _⟩ => show 128 * 1 + l.val = 128 + l.val; omega

/-- A sink load. -/
theorem sink_load {P : Pt} {m : Memref sig .tc .smem S8 .f32} {X : BufTy.Contents (Elt Ideal) m.view.ty} {J : ℕ}
    (h : ∀ (x : S8.Idx) (g : ℕ), (x 0).val = 4 * J + g → (m.view.read (Elt Ideal) X x : EReal) = P.sink g)
    (hJ : J < 2) (r e : Fin 2) {off : Fin 1 → ℕ} (inb : ∀ a, off a + S1.size a ≤ S8.size a) (ho : off = ![4 * J + 2 * r.val + e.val])
    (x : S1.Idx) :
    (View.readAt (Elt Ideal) m.view (Rect.unit (s := S8) off S1.size inb).toLoadRect X x : EReal) = P.sink (2 * r.val + e.val) := by
  subst ho
  refine (readAt_unit m.view inb X _ (ix1 ⟨4 * J + 2 * r.val + e.val, by omega⟩) ?_).trans (h _ _ (show 4 * J + 2 * r.val + e.val = 4 * J + (2 * r.val + e.val) by omega))
  intro b
  match b with
  | ⟨0, hb⟩ =>
    have h0 : (x ⟨0, hb⟩).val = 0 := by
      have : (x ⟨0, hb⟩).val < 1 := (x ⟨0, hb⟩).isLt
      omega
    exact congrArg (4 * J + 2 * r.val + e.val + ·) h0.symm

/-- What the loop keeps true: the state after `n` trips. -/
structure Steady (P : Pt) (m7 : Memref sig .tc .vmem S4096x256 .bf16) (m12 : Memref sig .tc .vmem S2x128x768 .f32)
    (m13 : Memref sig .tc .vmem S2x128x768 .bf16) (m14 : Memref sig .tc .vmem S2x128x128 .f32)
    (X7 : BufTy.Contents (Elt Ideal) m7.view.ty) (X12 : BufTy.Contents (Elt Ideal) m12.view.ty)
    (X13 : BufTy.Contents (Elt Ideal) m13.view.ty) (X14 : BufTy.Contents (Elt Ideal) m14.view.ty) (n : ℕ) : Prop where
  lg : IsLg P m12 X12 (n + 1)
  pr : IsPr P m13 X13 n
  st : IsSt P m14 X14 n
  out : IsOut P m7 X7 n

/-- What the loop reads and leaves alone: the staged keys and values, the queries, the tables and the sinks. -/
structure Inputs (P : Pt) (J : ℕ) (m2 : Memref sig .tc .vmem S4096x256 .bf16) (m5 : Memref sig .tc .vmem S3x2x128x768 .f32)
    (m6 : Memref sig .tc .smem S8 .f32) (m8 m9 : Memref sig .tc .vmem S4352x128 .bf16) (m10 m11 : Memref sig .tc .vmem S4352x256 .bf16)
    (X2 : BufTy.Contents (Elt Ideal) m2.view.ty) (X5 : BufTy.Contents (Elt Ideal) m5.view.ty) (X6 : BufTy.Contents (Elt Ideal) m6.view.ty)
    (X8 : BufTy.Contents (Elt Ideal) m8.view.ty) (X9 : BufTy.Contents (Elt Ideal) m9.view.ty)
    (X10 : BufTy.Contents (Elt Ideal) m10.view.ty) (X11 : BufTy.Contents (Elt Ideal) m11.view.ty) : Prop where
  q : m2.view.read (Elt Ideal) X2 = P.q
  bias : m5.view.read (Elt Ideal) X5 = P.bias
  sink : ∀ (x : S8.Idx) (g : ℕ), (x 0).val = 4 * J + g → (m6.view.read (Elt Ideal) X6 x : EReal) = P.sink g
  ka : ∀ r l, (m8.view.read (Elt Ideal) X8 (ix2 r l) : EReal) = P.ka r.val l.val
  kb : ∀ r l, (m9.view.read (Elt Ideal) X9 (ix2 r l) : EReal) = P.kb r.val l.val
  va : ∀ r l, (m10.view.read (Elt Ideal) X10 (ix2 r l) : EReal) = P.va r.val l.val
  vb : ∀ r l, (m11.view.read (Elt Ideal) X11 (ix2 r l) : EReal) = P.vb r.val l.val

variable (𝒱 : Variants) (c : Dev nD) (bd : Option 𝒱.V) (i : grid1.Coords) (arg2 : Memref sig .tc .vmem S4096x256 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S3x2x128x768 .f32) (harg5 : arg5.IsWhole) (arg6 : Memref sig .tc .smem S8 .f32) (harg6 : arg6.IsWhole) (arg7 : Memref sig .tc .vmem S4096x256 .bf16) (harg7 : arg7.IsWhole) (arg8 : Memref sig .tc .vmem S4352x128 .bf16) (harg8 : arg8.IsWhole) (arg9 : Memref sig .tc .vmem S4352x128 .bf16) (harg9 : arg9.IsWhole) (arg10 : Memref sig .tc .vmem S4352x256 .bf16) (harg10 : arg10.IsWhole) (arg11 : Memref sig .tc .vmem S4352x256 .bf16) (harg11 : arg11.IsWhole) (arg12 : Memref sig .tc .vmem S2x128x768 .f32) (harg12 : arg12.IsWhole) (arg13 : Memref sig .tc .vmem S2x128x768 .bf16) (harg13 : arg13.IsWhole) (arg14 : Memref sig .tc .vmem S2x128x128 .f32) (harg14 : arg14.IsWhole)
  (arg1 v171 : BitVec 32) (v174 v176 : Vec Ideal S384x128 .bf16)
  (X2 : BufTy.Contents (Elt Ideal) arg2.view.ty) (X5 : BufTy.Contents (Elt Ideal) arg5.view.ty) (X6 : BufTy.Contents (Elt Ideal) arg6.view.ty)
  (X8 : BufTy.Contents (Elt Ideal) arg8.view.ty) (X9 : BufTy.Contents (Elt Ideal) arg9.view.ty)
  (X10 : BufTy.Contents (Elt Ideal) arg10.view.ty) (X11 : BufTy.Contents (Elt Ideal) arg11.view.ty)
  {P : Pt} (hin : Inputs P (i 1).val arg2 arg5 arg6 arg8 arg9 arg10 arg11 X2 X5 X6 X8 X9 X10 X11)

set_option maxHeartbeats 4000000 in
include hin in
/-- One trip: the state moves one block on. -/
theorem trip_step (k : Fin k1_t2_loop.trips) {f7 : BufTy.Contents (Elt Ideal) arg7.view.ty} {f12 : BufTy.Contents (Elt Ideal) arg12.view.ty}
    {f13 : BufTy.Contents (Elt Ideal) arg13.view.ty} {f14 : BufTy.Contents (Elt Ideal) arg14.view.ty}
    (h : Steady P arg7 arg12 arg13 arg14 f7 f12 f13 f14 k.val) :
    Steady P arg7 arg12 arg13 arg14
      (arg7.view.writes (Elt Ideal) f7 ((trip_k1_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 k1_pay50 v171 v174 v176 X2 X5 X6 X8 X9 X10 X11 k).1 f7 f12 f13 f14))
      (arg12.view.writes (Elt Ideal) f12 ((trip_k1_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 k1_pay50 v171 v174 v176 X2 X5 X6 X8 X9 X10 X11 k).2.1 f7 f12 f13 f14))
      (arg13.view.writes (Elt Ideal) f13 ((trip_k1_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 k1_pay50 v171 v174 v176 X2 X5 X6 X8 X9 X10 X11 k).2.2.1 f7 f12 f13 f14))
      (arg14.view.writes (Elt Ideal) f14 ((trip_k1_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 k1_pay50 v171 v174 v176 X2 X5 X6 X8 X9 X10 X11 k).2.2.2.1 f7 f12 f13 f14)) (k.val + 1) := by
  have hk : k.val < 29 := Nat.lt_of_lt_of_le k.isLt k1_t2_abs.2.1
  have hJ : (i 1).val < 2 := (i 1).isLt
  have htab : Pt.tab (k.val + 1 + 1) = 1 := by unfold Pt.tab; rw [if_neg (by omega), if_neg (by omega)]
  have hs (r e : Fin 2) : k1_off9 i (BitVec.ofNat 32 (2 * r.val)) (BitVec.ofNat 32 e.val) = ![4 * (i 1).val + 2 * r.val + e.val] := k1_off9_eq i r e
  unfold trip_k1_t2
  refine ⟨?_, ?_, ?_, ?_⟩
  · refine read_pairs arg12 f12 _ _ _ _ _ (fun p a s => P.lg (k.val + 1 + 1) p a s) (fun a s => ?_) (fun a s => ?_)
    · exact logits_step P arg8 arg9 X8 X9 arg2 X2 arg5 X5 hin.ka hin.kb hin.q hin.bias (k.val + 1 + 1) (by omega) 1 _ _ _ _
        ((k1_off10_eq k).trans (by rw [show 128 * k.val + 256 = 128 * (k.val + 1 + 1) by omega])) ((k1_off10_eq k).trans (by rw [show 128 * k.val + 256 = 128 * (k.val + 1 + 1) by omega]))
        ((k1_off12_eq k).trans (by rw [show 128 * k.val + 256 = 128 * (k.val + 1 + 1) by omega]; rfl)) (by rw [htab]; rfl) a s
    · exact logits_step P arg8 arg9 X8 X9 arg2 X2 arg5 X5 hin.ka hin.kb hin.q hin.bias (k.val + 1 + 1) (by omega) 0 _ _ _ _
        ((k1_off10_eq k).trans (by rw [show 128 * k.val + 256 = 128 * (k.val + 1 + 1) by omega])) ((k1_off10_eq k).trans (by rw [show 128 * k.val + 256 = 128 * (k.val + 1 + 1) by omega]))
        ((k1_off11_eq k).trans (by rw [show 128 * k.val + 256 = 128 * (k.val + 1 + 1) by omega]; rfl)) (by rw [htab]; rfl) a s
  · refine read_heads arg13 f13 _ _ _ _ _ _ _ _ _ (fun p a s => P.pr (k.val + 1) p a s) (fun a s => ?_) (fun a s => ?_) (fun a s => ?_) (fun a s => ?_)
    · exact expo_step P h.lg 1 1 _ rfl _ (sink_load hin.sink hJ 1 1 _ (hs 1 1) _) a s
    · exact (expo_step P h.lg 1 0 _ rfl _ (sink_load hin.sink hJ 1 0 _ (hs 1 0) _) a s).trans (congrArg (P.pr (k.val + 1) 1 a) (Fin.ext (Nat.zero_add _)))
    · exact expo_step P h.lg 0 1 _ rfl _ (sink_load hin.sink hJ 0 1 _ (hs 0 1) _) a s
    · exact (expo_step P h.lg 0 0 _ rfl _ (sink_load hin.sink hJ 0 0 _ (hs 0 0) _) a s).trans (congrArg (P.pr (k.val + 1) 0 a) (Fin.ext (Nat.zero_add _)))
  · refine read_pairs arg14 f14 _ _ _ _ _ (fun p a s => P.st (k.val + 1) p a s) (fun a s => ?_) (fun a s => ?_)
    · exact sinks_step P h.lg 1 _ _ rfl rfl _ _ (sink_load hin.sink hJ 1 0 _ (hs 1 0) _) (sink_load hin.sink hJ 1 1 _ (hs 1 1) _) a s
    · exact sinks_step P h.lg 0 _ _ rfl rfl _ _ (sink_load hin.sink hJ 0 0 _ (hs 0 0) _) (sink_load hin.sink hJ 0 1 _ (hs 0 1) _) a s
  · refine out_step (L := []) h.out _ _ (k1_off8_eq k) (k1_off7_eq k) _ _ (fun a l => ?_) (fun a l => ?_)
    · exact quotient_step P arg10 arg11 X10 X11 hin.va hin.vb h.pr h.st (by omega) 1 _ _ _ _ (k1_off6_eq k) (k1_off6_eq k) rfl rfl a l
    · exact quotient_step P arg10 arg11 X10 X11 hin.va hin.vb h.pr h.st (by omega) 0 _ _ _ _ (k1_off6_eq k) (k1_off6_eq k) rfl rfl a l

include hin in
/-- The loop: the state after `n` trips from the state before the first. -/
theorem loop_steps {G7 : BufTy.Contents (Elt Ideal) arg7.view.ty} {G12 : BufTy.Contents (Elt Ideal) arg12.view.ty}
    {G13 : BufTy.Contents (Elt Ideal) arg13.view.ty} {G14 : BufTy.Contents (Elt Ideal) arg14.view.ty}
    (h : Steady P arg7 arg12 arg13 arg14 G7 G12 G13 G14 0) (n : ℕ) (hn : n ≤ k1_t2_loop.trips) (N : ℕ) (hN : n = N) :
    Steady P arg7 arg12 arg13 arg14
      (arg7.view.writes (Elt Ideal) G7 (pb_k1_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 k1_pay50 v171 v174 v176 X2 X5 X6 X8 X9 X10 X11 G7 G12 G13 G14 n).1)
      (arg12.view.writes (Elt Ideal) G12 (pb_k1_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 k1_pay50 v171 v174 v176 X2 X5 X6 X8 X9 X10 X11 G7 G12 G13 G14 n).2.1)
      (arg13.view.writes (Elt Ideal) G13 (pb_k1_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 k1_pay50 v171 v174 v176 X2 X5 X6 X8 X9 X10 X11 G7 G12 G13 G14 n).2.2.1)
      (arg14.view.writes (Elt Ideal) G14 (pb_k1_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 k1_pay50 v171 v174 v176 X2 X5 X6 X8 X9 X10 X11 G7 G12 G13 G14 n).2.2.2) N := by
  subst hN
  induction n with
  | zero => exact h
  | succ n ih =>
    have e := pb_k1_t2_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 k1_pay50 v171 v174 v176 X2 X5 X6 X8 X9 X10 X11 G7 G12 G13 G14 ⟨n, hn⟩
    have t := trip_step 𝒱 c bd i arg2 harg2 arg3 harg3 arg4 harg4 arg5 harg5 arg6 harg6 arg7 harg7 arg8 harg8 arg9 harg9 arg10 harg10 arg11 harg11 arg12 harg12 arg13 harg13 arg14 harg14 arg1 v171 v174 v176 X2 X5 X6 X8 X9 X10 X11 hin ⟨n, hn⟩ (ih (Nat.le_of_succ_le hn))
    simp only [← View.writes_append] at t
    rw [show pb_k1_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 k1_pay50 v171 v174 v176 X2 X5 X6 X8 X9 X10 X11 G7 G12 G13 G14 (n + 1) = _ from e]
    exact t

end Cert.Proof.Swa
-- ==== Proof.SwaPoint.lean ====
/-
  One grid point of the attention, whole: what the body's run leaves in the output window, read back, is the 32 blocks'
  outputs over the point's queries, its staged keys and values, the bias tables and the sinks.
-/
module

public import proofs.«01_k».proof.Proof.SwaSteady
public import proofs.«01_k».proof.Proof.SwaRun

@[expose] public section

set_option maxRecDepth 16384

noncomputable section

namespace Cert.Proof.Swa

open Cert.SwaIdeal Cert.SwaIdeal.Gen
open Idealize.ShloMosaic Idealize.ShloMosaic.TcCoe

/-- The point `i` over its windows: the keys and values as the staging leaves them, the sinks from the point's first head. -/
def pointOf (i : grid1.Coords) (x0 : FVec Ideal S4096x256 .bf16) (x1 x2 : FVec Ideal S4096x128 .bf16)
    (x3 : FVec Ideal S3x2x128x768 .f32) (x4 : FVec Ideal S8 .f32) : Pt where
  q := x0
  ka := keyA (i 1).val x1
  kb := keyB (i 1).val x1
  va := valA (i 1).val x2
  vb := valB (i 1).val x2
  bias := x3
  sink g := if h : 4 * (i 1).val + g < 8 then x4 (ix1 ⟨4 * (i 1).val + g, h⟩) else 0

set_option maxHeartbeats 8000000 in
/-- The run of one point leaves the 32 blocks' outputs in the output window. -/
theorem point_out (c : Dev nD) (i : grid1.Coords) (arg2 : Memref sig .tc .vmem S4096x256 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S3x2x128x768 .f32) (harg5 : arg5.IsWhole) (arg6 : Memref sig .tc .smem S8 .f32) (harg6 : arg6.IsWhole) (arg7 : Memref sig .tc .vmem S4096x256 .bf16) (harg7 : arg7.IsWhole) (arg8 : Memref sig .tc .vmem S4352x128 .bf16) (harg8 : arg8.IsWhole) (arg9 : Memref sig .tc .vmem S4352x128 .bf16) (harg9 : arg9.IsWhole) (arg10 : Memref sig .tc .vmem S4352x256 .bf16) (harg10 : arg10.IsWhole) (arg11 : Memref sig .tc .vmem S4352x256 .bf16) (harg11 : arg11.IsWhole) (arg12 : Memref sig .tc .vmem S2x128x768 .f32) (harg12 : arg12.IsWhole) (arg13 : Memref sig .tc .vmem S2x128x768 .bf16) (harg13 : arg13.IsWhole) (arg14 : Memref sig .tc .vmem S2x128x128 .f32) (harg14 : arg14.IsWhole)
    (x0 : FVec Ideal S4096x256 .bf16) (x1 x2 : FVec Ideal S4096x128 .bf16) (x3 : FVec Ideal S3x2x128x768 .f32) (x4 : FVec Ideal S8 .f32)
    (f7 : BufTy.Contents (Elt Ideal) arg7.view.ty) (f8 : BufTy.Contents (Elt Ideal) arg8.view.ty) (f9 : BufTy.Contents (Elt Ideal) arg9.view.ty)
    (f10 : BufTy.Contents (Elt Ideal) arg10.view.ty) (f11 : BufTy.Contents (Elt Ideal) arg11.view.ty) (f12 : BufTy.Contents (Elt Ideal) arg12.view.ty)
    (f13 : BufTy.Contents (Elt Ideal) arg13.view.ty) (f14 : BufTy.Contents (Elt Ideal) arg14.view.ty) :
    IsOut (pointOf i x0 x1 x2 x3 x4) arg7 ((swaRun (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4).1 f7 f8 f9 f10 f11 f12 f13 f14) 32 := by
  have hJ : (i 1).val < 2 := (i 1).isLt
  have hs (r e : Fin 2) : k1_off5 i (BitVec.ofNat 32 (2 * r.val)) (BitVec.ofNat 32 e.val) = ![4 * (i 1).val + 2 * r.val + e.val] := k1_off5_eq i r e
  have hin : Inputs (pointOf i x0 x1 x2 x3 x4) (i 1).val arg2 arg5 arg6 arg8 arg9 arg10 arg11 (harg2.unread x0) (harg5.unread x3) (harg6.unread x4)
      (arg8.view.writes (Elt Ideal) f8 ((pb_k1_t1 (F := Ideal) Variants.none c none i arg2 harg2 arg3 harg3 arg4 harg4 arg5 harg5 arg6 harg6 arg7 harg7 arg8 harg8 arg9 harg9 arg10 harg10 arg11 harg11 arg12 harg12 arg13 harg13 arg14 harg14 k1_pay34 (k1_pay35 i) k1_pay45 (swaRun.sl.r (F := Ideal) arg11 f11) (harg3.unread x1) (harg4.unread x2) (Scf.trips 0#32 (Scalar.addi 0#32 8#32) 1#32)).1 ++ [⟨Rect.unit (s := S4352x128) ![4224, 0] S128x128.size inb_S4352x128_S128x128_4224_0, k1_pay38 (F := Ideal)⟩, ⟨Rect.unit (s := S4352x128) ![0, 0] S128x128.size inb_S4352x128_S128x128_0_0, k1_pay37 (F := Ideal)⟩]))
      (arg9.view.writes (Elt Ideal) f9 ((pb_k1_t1 (F := Ideal) Variants.none c none i arg2 harg2 arg3 harg3 arg4 harg4 arg5 harg5 arg6 harg6 arg7 harg7 arg8 harg8 arg9 harg9 arg10 harg10 arg11 harg11 arg12 harg12 arg13 harg13 arg14 harg14 k1_pay34 (k1_pay35 i) k1_pay45 (swaRun.sl.r (F := Ideal) arg11 f11) (harg3.unread x1) (harg4.unread x2) (Scf.trips 0#32 (Scalar.addi 0#32 8#32) 1#32)).2.1 ++ [⟨Rect.unit (s := S4352x128) ![4224, 0] S128x128.size inb_S4352x128_S128x128_4224_0, k1_pay41 (F := Ideal)⟩, ⟨Rect.unit (s := S4352x128) ![0, 0] S128x128.size inb_S4352x128_S128x128_0_0, k1_pay40 (F := Ideal)⟩]))
      (arg10.view.writes (Elt Ideal) f10 ((pb_k1_t1 (F := Ideal) Variants.none c none i arg2 harg2 arg3 harg3 arg4 harg4 arg5 harg5 arg6 harg6 arg7 harg7 arg8 harg8 arg9 harg9 arg10 harg10 arg11 harg11 arg12 harg12 arg13 harg13 arg14 harg14 k1_pay34 (k1_pay35 i) k1_pay45 (swaRun.sl.r (F := Ideal) arg11 f11) (harg3.unread x1) (harg4.unread x2) (Scf.trips 0#32 (Scalar.addi 0#32 8#32) 1#32)).2.2.1 ++ [⟨Rect.unit (s := S4352x256) ![4224, 0] S128x256.size inb_S4352x256_S128x256_4224_0, k1_pay44 (F := Ideal)⟩, ⟨Rect.unit (s := S4352x256) ![0, 0] S128x256.size inb_S4352x256_S128x256_0_0, k1_pay43 (F := Ideal)⟩]))
      (arg11.view.writes (Elt Ideal) f11 ((pb_k1_t1 (F := Ideal) Variants.none c none i arg2 harg2 arg3 harg3 arg4 harg4 arg5 harg5 arg6 harg6 arg7 harg7 arg8 harg8 arg9 harg9 arg10 harg10 arg11 harg11 arg12 harg12 arg13 harg13 arg14 harg14 k1_pay34 (k1_pay35 i) k1_pay45 (swaRun.sl.r (F := Ideal) arg11 f11) (harg3.unread x1) (harg4.unread x2) (Scf.trips 0#32 (Scalar.addi 0#32 8#32) 1#32)).2.2.2 ++ [⟨Rect.unit (s := S4352x256) ![4224, 0] S128x256.size inb_S4352x256_S128x256_4224_0, k1_pay47 (F := Ideal) k1_pay45⟩, ⟨Rect.unit (s := S4352x256) ![0, 0] S128x256.size inb_S4352x256_S128x256_0_0, k1_pay46 (F := Ideal) k1_pay45⟩])) := by
    refine ⟨harg2.read_unread _, harg5.read_unread _, ?_, ?_, ?_, ?_, ?_⟩
    · intro x g hx
      have hx8 : (x 0).val < 8 := (x 0).isLt
      refine (congrFun (harg6.read_unread (Val := Elt Ideal) x4) x).trans ?_
      show x4 x = if h : 4 * (i 1).val + g < 8 then x4 (ix1 ⟨4 * (i 1).val + g, h⟩) else 0
      rw [dif_pos (by omega)]
      refine congrArg x4 (funext fun b => ?_)
      match b with
      | ⟨0, _⟩ => exact Fin.ext hx
    · intro r l
      refine (staged_keyA _ _ _ _ arg2 harg2 arg3 harg3 arg4 harg4 arg5 harg5 arg6 harg6 arg7 harg7 arg8 harg8 arg9 harg9 arg10 harg10 arg11 harg11 arg12 harg12 arg13 harg13 arg14 harg14 _ _ _ _ _ _ (by decide) _ _ r l).trans ?_
      rw [harg3.read_unread]; rfl
    · intro r l
      refine (staged_keyB _ _ _ _ arg2 harg2 arg3 harg3 arg4 harg4 arg5 harg5 arg6 harg6 arg7 harg7 arg8 harg8 arg9 harg9 arg10 harg10 arg11 harg11 arg12 harg12 arg13 harg13 arg14 harg14 _ _ _ _ _ _ (by decide) _ _ r l).trans ?_
      rw [harg3.read_unread]; rfl
    · intro r l
      refine (staged_valA _ _ _ _ arg2 harg2 arg3 harg3 arg4 harg4 arg5 harg5 arg6 harg6 arg7 harg7 arg8 harg8 arg9 harg9 arg10 harg10 arg11 harg11 arg12 harg12 arg13 harg13 arg14 harg14 _ _ _ _ _ _ (by decide) _ _ r l).trans ?_
      rw [harg4.read_unread]; rfl
    · intro r l
      refine (staged_valB _ _ _ _ arg2 harg2 arg3 harg3 arg4 harg4 arg5 harg5 arg6 harg6 arg7 harg7 arg8 harg8 arg9 harg9 arg10 harg10 arg11 harg11 arg12 harg12 arg13 harg13 arg14 harg14 _ _ _ _ _ _ (by decide) _ _ r l).trans ?_
      rw [harg4.read_unread]; rfl
  generalize hP : pointOf i x0 x1 x2 x3 x4 = P at hin ⊢
  have lg0 : IsLg P arg12 (arg12.view.writes (Elt Ideal) arg12.view.junk (swaRun.sl.HS4_2 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 f8 f9 f11)) 0 := by
    refine read_pairs arg12 _ _ _ _ _ _ (fun p a s => P.lg 0 p a s) (fun a s => ?_) (fun a s => ?_)
    · exact logits_step P arg8 arg9 _ _ arg2 _ arg5 _ hin.ka hin.kb hin.q hin.bias 0 (by omega) 1 _ _ _ _ rfl rfl rfl rfl a s
    · exact logits_step P arg8 arg9 _ _ arg2 _ arg5 _ hin.ka hin.kb hin.q hin.bias 0 (by omega) 0 _ _ _ _ rfl rfl rfl rfl a s
  have pr0 : IsPr P arg13 (arg13.view.writes (Elt Ideal) arg13.view.junk (swaRun.sl.HS5_4 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 f8 f9 f11)) 0 := by
    refine read_heads arg13 _ _ _ _ _ _ _ _ _ _ (fun p a s => P.pr 0 p a s) (fun a s => ?_) (fun a s => ?_) (fun a s => ?_) (fun a s => ?_)
    · exact expo_step P lg0 1 1 _ rfl _ (sink_load hin.sink hJ 1 1 _ (hs 1 1) _) a s
    · exact (expo_step P lg0 1 0 _ rfl _ (sink_load hin.sink hJ 1 0 _ (hs 1 0) _) a s).trans (congrArg (P.pr 0 1 a) (Fin.ext (Nat.zero_add _)))
    · exact expo_step P lg0 0 1 _ rfl _ (sink_load hin.sink hJ 0 1 _ (hs 0 1) _) a s
    · exact (expo_step P lg0 0 0 _ rfl _ (sink_load hin.sink hJ 0 0 _ (hs 0 0) _) a s).trans (congrArg (P.pr 0 0 a) (Fin.ext (Nat.zero_add _)))
  have st0 : IsSt P arg14 (arg14.view.writes (Elt Ideal) arg14.view.junk (swaRun.sl.HS6_2 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 f8 f9 f11)) 0 := by
    refine read_pairs arg14 _ _ _ _ _ _ (fun p a s => P.st 0 p a s) (fun a s => ?_) (fun a s => ?_)
    · exact sinks_step P lg0 1 _ _ rfl rfl _ _ (sink_load hin.sink hJ 1 0 _ (hs 1 0) _) (sink_load hin.sink hJ 1 1 _ (hs 1 1) _) a s
    · exact sinks_step P lg0 0 _ _ rfl rfl _ _ (sink_load hin.sink hJ 0 0 _ (hs 0 0) _) (sink_load hin.sink hJ 0 1 _ (hs 0 1) _) a s
  have lg1 : IsLg P arg12 (arg12.view.writes (Elt Ideal) arg12.view.junk (swaRun.sl.HS4_4 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 f8 f9 f11)) 1 := by
    refine read_pairs arg12 _ _ _ _ _ _ (fun p a s => P.lg 1 p a s) (fun a s => ?_) (fun a s => ?_)
    · exact logits_step P arg8 arg9 _ _ arg2 _ arg5 _ hin.ka hin.kb hin.q hin.bias 1 (by omega) 1 _ _ _ _ rfl rfl rfl rfl a s
    · exact logits_step P arg8 arg9 _ _ arg2 _ arg5 _ hin.ka hin.kb hin.q hin.bias 1 (by omega) 0 _ _ _ _ rfl rfl rfl rfl a s
  have S := loop_steps Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) 128#32
    (swaRun.sl.v174 (F := Ideal) c i arg2 harg2 arg3 harg3 arg4 harg4 arg5 harg5 arg6 harg6 arg7 harg7 arg8 harg8 arg9 harg9 arg10 harg10 arg11 harg11 arg12 harg12 arg13 harg13 arg14 harg14 x1 x2 f8 f11) (swaRun.sl.v176 (F := Ideal) c i arg2 harg2 arg3 harg3 arg4 harg4 arg5 harg5 arg6 harg6 arg7 harg7 arg8 harg8 arg9 harg9 arg10 harg10 arg11 harg11 arg12 harg12 arg13 harg13 arg14 harg14 x1 x2 f9 f11) _ _ _ _ _ _ _ hin
    (G7 := f7) ⟨lg1, pr0, st0, fun n' h => absurd h (Nat.not_lt_zero n')⟩ (Scf.trips 1#32 (Scalar.addi 1#32 29#32) 1#32) (le_refl _) 29 (by decide)
  obtain ⟨lg30, pr29, st29, out29⟩ := S
  simp only [← View.writes_append] at lg30 pr29 st29
  have pr30 : IsPr P arg13 (arg13.view.writes (Elt Ideal) arg13.view.junk (swaRun.sl.HS5_4_1 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 f7 f8 f9 f10 f11)) 30 := by
    refine read_heads arg13 _ _ _ _ _ _ _ _ _ _ (fun p a s => P.pr 30 p a s) (fun a s => ?_) (fun a s => ?_) (fun a s => ?_) (fun a s => ?_)
    · exact expo_step P lg30 1 1 _ rfl _ (sink_load hin.sink hJ 1 1 _ (hs 1 1) _) a s
    · exact (expo_step P lg30 1 0 _ rfl _ (sink_load hin.sink hJ 1 0 _ (hs 1 0) _) a s).trans (congrArg (P.pr 30 1 a) (Fin.ext (Nat.zero_add _)))
    · exact expo_step P lg30 0 1 _ rfl _ (sink_load hin.sink hJ 0 1 _ (hs 0 1) _) a s
    · exact (expo_step P lg30 0 0 _ rfl _ (sink_load hin.sink hJ 0 0 _ (hs 0 0) _) a s).trans (congrArg (P.pr 30 0 a) (Fin.ext (Nat.zero_add _)))
  have st30 : IsSt P arg14 (arg14.view.writes (Elt Ideal) arg14.view.junk (swaRun.sl.HS6_2_1 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 f7 f8 f9 f10 f11)) 30 := by
    refine read_pairs arg14 _ _ _ _ _ _ (fun p a s => P.st 30 p a s) (fun a s => ?_) (fun a s => ?_)
    · exact sinks_step P lg30 1 _ _ rfl rfl _ _ (sink_load hin.sink hJ 1 0 _ (hs 1 0) _) (sink_load hin.sink hJ 1 1 _ (hs 1 1) _) a s
    · exact sinks_step P lg30 0 _ _ rfl rfl _ _ (sink_load hin.sink hJ 0 0 _ (hs 0 0) _) (sink_load hin.sink hJ 0 1 _ (hs 0 1) _) a s
  have lg31 : IsLg P arg12 (arg12.view.writes (Elt Ideal) arg12.view.junk (swaRun.sl.HS4_2_1 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 f7 f8 f9 f10 f11)) 31 := by
    refine read_pairs arg12 _ _ _ _ _ _ (fun p a s => P.lg 31 p a s) (fun a s => ?_) (fun a s => ?_)
    · exact logits_step P arg8 arg9 _ _ arg2 _ arg5 _ hin.ka hin.kb hin.q hin.bias 31 (by omega) 1 _ _ _ _ rfl rfl rfl rfl a s
    · exact logits_step P arg8 arg9 _ _ arg2 _ arg5 _ hin.ka hin.kb hin.q hin.bias 31 (by omega) 0 _ _ _ _ rfl rfl rfl rfl a s
  have pr31 : IsPr P arg13 (arg13.view.writes (Elt Ideal) arg13.view.junk (swaRun.sl.HS5_8 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 f7 f8 f9 f10 f11)) 31 := by
    refine read_heads arg13 _ _ _ _ _ _ _ _ _ _ (fun p a s => P.pr 31 p a s) (fun a s => ?_) (fun a s => ?_) (fun a s => ?_) (fun a s => ?_)
    · exact expo_step P lg31 1 1 _ rfl _ (sink_load hin.sink hJ 1 1 _ (hs 1 1) _) a s
    · exact (expo_step P lg31 1 0 _ rfl _ (sink_load hin.sink hJ 1 0 _ (hs 1 0) _) a s).trans (congrArg (P.pr 31 1 a) (Fin.ext (Nat.zero_add _)))
    · exact expo_step P lg31 0 1 _ rfl _ (sink_load hin.sink hJ 0 1 _ (hs 0 1) _) a s
    · exact (expo_step P lg31 0 0 _ rfl _ (sink_load hin.sink hJ 0 0 _ (hs 0 0) _) a s).trans (congrArg (P.pr 31 0 a) (Fin.ext (Nat.zero_add _)))
  have st31 : IsSt P arg14 (arg14.view.writes (Elt Ideal) arg14.view.junk (swaRun.sl.HS6_4 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 f7 f8 f9 f10 f11)) 31 := by
    refine read_pairs arg14 _ _ _ _ _ _ (fun p a s => P.st 31 p a s) (fun a s => ?_) (fun a s => ?_)
    · exact sinks_step P lg31 1 _ _ rfl rfl _ _ (sink_load hin.sink hJ 1 0 _ (hs 1 0) _) (sink_load hin.sink hJ 1 1 _ (hs 1 1) _) a s
    · exact sinks_step P lg31 0 _ _ rfl rfl _ _ (sink_load hin.sink hJ 0 0 _ (hs 0 0) _) (sink_load hin.sink hJ 0 1 _ (hs 0 1) _) a s
  unfold swaRun
  refine out_step (n := 31) (out_step (n := 30) (out_step (n := 29) out29 _ _ rfl rfl _ _ (fun a l => ?_) (fun a l => ?_)) _ _ rfl rfl _ _ (fun a l => ?_) (fun a l => ?_)) _ _ rfl rfl _ _ (fun a l => ?_) (fun a l => ?_)
  · exact quotient_step P arg10 arg11 _ _ hin.va hin.vb pr29 st29 (by omega) 1 _ _ _ _ rfl rfl rfl rfl a l
  · exact quotient_step P arg10 arg11 _ _ hin.va hin.vb pr29 st29 (by omega) 0 _ _ _ _ rfl rfl rfl rfl a l
  · exact quotient_step P arg10 arg11 _ _ hin.va hin.vb pr30 st30 (by omega) 1 _ _ _ _ rfl rfl rfl rfl a l
  · exact quotient_step P arg10 arg11 _ _ hin.va hin.vb pr30 st30 (by omega) 0 _ _ _ _ rfl rfl rfl rfl a l
  · exact quotient_step P arg10 arg11 _ _ hin.va hin.vb pr31 st31 (by omega) 1 _ _ _ _ rfl rfl rfl rfl a l
  · exact quotient_step P arg10 arg11 _ _ hin.va hin.vb pr31 st31 (by omega) 0 _ _ _ _ rfl rfl rfl rfl a l

end Cert.Proof.Swa
-- ==== Proof.SwaBiasVal.lean ====
/-
  What one grid point of the bias call leaves: every lane of a head's half table holds the head's entry for the lane's
  bucket, or the mask where the bucket is none or the table masks the lane.
-/
module

public import proofs.«01_k».proof.Proof.SwaBias
public import proofs.«01_k».proof.Proof.SwaState
public import Idealize.ShloMosaic.Lib.WholeRead

@[expose] public section

set_option maxRecDepth 16384

noncomputable section

namespace Cert.Proof.Swa

open Cert.SwaIdeal Cert.SwaIdeal.Gen
open Idealize.ShloMosaic Idealize.ShloMosaic.TcCoe

/-- The last of the first `n` entries of `f` whose number is `b`, `z` when there is none. -/
def pick (b : BitVec 32) (z : Ideal .f32) (f : Fin 32 → Ideal .f32) : (n : ℕ) → n ≤ 32 → Ideal .f32
  | 0, _ => z
  | n + 1, h => Scalar.select (Scalar.cmpi .eq b (BitVec.ofNat 32 n)) (f ⟨n, h⟩) (pick b z f n (by omega))

/-- Entries are picked by the number itself. -/
theorem pick_eq (b : BitVec 32) (z : Ideal .f32) (f : Fin 32 → Ideal .f32) (n : ℕ) (hn : n ≤ 32) :
    pick b z f n hn = if h : b.toNat < n then f ⟨b.toNat, by omega⟩ else z := by
  induction n with
  | zero => rfl
  | succ n ih =>
    have hm : (BitVec.ofNat 32 n).toNat = n := by rw [BitVec.toNat_ofNat]; omega
    show (if BitVec.ofBool (b == BitVec.ofNat 32 n) = 1#1 then f ⟨n, hn⟩ else pick b z f n _) = _
    by_cases h : b = BitVec.ofNat 32 n
    · have hb : b.toNat = n := by rw [h, hm]
      rw [beq_iff_eq.mpr h, if_pos (by decide), dif_pos (by omega)]
      exact congrArg f (Fin.ext hb.symm)
    · have h' : b.toNat ≠ n := fun e => h (by apply BitVec.eq_of_toNat_eq; rw [hm, e])
      rw [beq_eq_false_iff_ne.mpr h, if_neg (by decide), ih (by omega)]
      by_cases hb : b.toNat < n
      · rw [dif_pos hb, dif_pos (by omega)]
      · rw [dif_neg hb, dif_neg (by omega)]

/-- The column of the table a half reads: its head. -/
def colOf (i : grid0.Coords) (e : BitVec 32) : ℕ := k0_off1 i e 1

theorem colOf_eq (i : grid0.Coords) : ∀ e : Fin 2, colOf i (BitVec.ofNat 32 e.val) = 2 * (i 0).val + e.val := by
  have h : ∀ (x : Fin 4) (e : Fin 2), (Scalar.indexCast (Scalar.addi (Scalar.muli (2#32) (BitVec.ofNat 32 x.val)) (BitVec.ofNat 32 e.val)) : Index).toNat
      = 2 * x.val + e.val := by decide
  exact h (i 0)

section Point

variable (c : Dev nD) (i : grid0.Coords)
    (arg1 : Memref sig .tc .vmem S128x384 .i32) (harg1 : arg1.IsWhole) (arg2 : Memref sig .tc .smem S32x8 .f32) (harg2 : arg2.IsWhole)
    (arg3 : Memref sig .tc .vmem S3x1x128x768 .f32) (harg3 : arg3.IsWhole) (x0 : Vec Ideal S128x384 .i32) (x1 : FVec Ideal S32x8 .f32)

/-- The bucket map is loaded whole. -/
theorem load_map : biasRun.sl.r_6 (F := Ideal) c arg1 harg1 x0 = x0 := by
  unfold biasRun.sl.r_6
  funext j
  refine (Memref.IsWhole.readAt_unread (Val := Elt Ideal) harg1 x0 _ j).trans (congrArg x0 (funext fun a => Fin.ext ?_))
  match a with
  | ⟨0, _⟩ => exact (Nat.zero_add _).trans (Nat.one_mul _)
  | ⟨1, _⟩ => exact (Nat.zero_add _).trans (Nat.one_mul _)

/-- A half's columns are inside the table. -/
theorem inb_row (e : Fin 2) (k : Fin 32) : ∀ a : Fin 2, (![k.val, colOf i (BitVec.ofNat 32 e.val)] : Fin 2 → ℕ) a + S1x1.size a ≤ S32x8.size a := by
  have hi : (i 0).val < 4 := (i 0).isLt
  intro a
  match a with
  | ⟨0, _⟩ => show k.val + 1 ≤ 32; omega
  | ⟨1, _⟩ => show colOf i _ + 1 ≤ 8; rw [colOf_eq]; omega

/-- A half's entry of row `k`, as loaded. -/
def entry (e : Fin 2) (k : Fin 32) : Ideal .f32 :=
  View.readAt (Elt Ideal) arg2.view (Rect.unit (s := S32x8) ![k.val, colOf i (BitVec.ofNat 32 e.val)] S1x1.size (inb_row i e k)).toLoadRect
    (harg2.unread x1) (Shape.Idx.first (show 0 < S1x1.numel by decide))

/-- It is the head's entry of the table. -/
theorem entry_eq (e : Fin 2) (k : Fin 32) (h : Fin 8) (hh : h.val = 2 * (i 0).val + e.val) : entry i arg2 harg2 x1 e k = x1 (ix2 k h) := by
  refine (Memref.IsWhole.readAt_unread (Val := Elt Ideal) harg2 x1 _ _).trans (congrArg x1 (funext fun a => Fin.ext ?_))
  match a with
  | ⟨0, _⟩ => rfl
  | ⟨1, _⟩ => exact (colOf_eq i e).trans hh.symm

set_option maxHeartbeats 1600000 in
/-- The lower half's values: its head's entries picked by the bucket map. -/
theorem value_lo (a : Fin 128) (t : Fin 384) : biasRun.sl.v196 (F := Ideal) c i arg1 harg1 arg2 harg2 x0 x1 (ix2 a t)
    = pick (biasRun.sl.r_6 (F := Ideal) c arg1 harg1 x0 (ix2 a t)) (k0_pay1 (F := Ideal) (ix2 a t)) (entry i arg2 harg2 x1 0) 32 le_rfl := by
  rfl

set_option maxHeartbeats 1600000 in
/-- The upper half's values. -/
theorem value_hi (a : Fin 128) (t : Fin 384) : k0_pay18 (F := Ideal) (biasRun.sl.r_6 (F := Ideal) c arg1 harg1 x0) (biasRun.sl.v387 (F := Ideal) c i arg1 harg1 arg2 harg2 x0 x1)
            (biasRun.sl.v180 (F := Ideal) c arg1 harg1 x0) (biasRun.sl.r_63 (F := Ideal) c i arg2 harg2 x1) (biasRun.sl.r_64 (F := Ideal) c i arg2 harg2 x1)
            (biasRun.sl.r_65 (F := Ideal) c i arg2 harg2 x1) (ix2 a t)
    = pick (biasRun.sl.r_6 (F := Ideal) c arg1 harg1 x0 (ix2 a t)) (k0_pay1 (F := Ideal) (ix2 a t)) (entry i arg2 harg2 x1 1) 32 le_rfl := by
  rfl

/-- The lanes a table keeps. -/
def table_ok (tb : Fin 3) (t : Fin 384) : Prop := (tb = 0 → 128 ≤ t.val) ∧ (tb = 2 → t.val < 256)

instance (tb : Fin 3) (t : Fin 384) : Decidable (table_ok tb t) := by unfold table_ok; infer_instance

/-- One head's bias at a lane of a table, from its bucket number. -/
def biasAt (b : BitVec 32) (f : Fin 32 → Ideal .f32) (tb : Fin 3) (t : Fin 384) : Ideal .f32 :=
  if table_ok tb t then (if h : b.toNat < 32 then f ⟨b.toNat, h⟩ else (⊥ : EReal)) else (⊥ : EReal)

/-- The mask is −∞. -/
theorem mask_eq (j : S128x384.Idx) : k0_pay1 (F := Ideal) j = (⊥ : EReal) :=
  IdealRules.named_const.ideal_named_scalar _ _ _ _ rfl

/-- A table's block of one head at an index is the plane at the index. -/
theorem plane (x : FVec Ideal S128x384 .f32) (h : S128x384.ShapeCasts S1x1x128x384) (a : Fin 128) (t : Fin 384) :
    shapeCast S1x1x128x384 x h (ix4 0 0 a t) = x (ix2 a t) := by
  refine shapeCast_apply x h _ (ix2 a t) ?_
  rw [Shape.rowMajor_val_two, Shape.rowMajor_val_four]
  show a.val * 384 + t.val = ((0 * 1 + 0) * 128 + a.val) * 384 + t.val
  omega

theorem ge_lane : ∀ t : Fin 384, IntOp.cmpi .sge (BitVec.ofNat 32 t.val) (128#32) = BitVec.ofBool (decide (128 ≤ t.val)) := by decide

theorem lt_lane : ∀ t : Fin 384, IntOp.cmpi .slt (BitVec.ofNat 32 t.val) (256#32) = BitVec.ofBool (decide (t.val < 256)) := by decide

/-- The lane number. -/
theorem lane (a : Fin 128) (t : Fin 384) : biasRun.sl.v1 (ix2 a t) = BitVec.ofNat 32 t.val := by
  unfold biasRun.sl.v1
  exact iota_single_apply ..

set_option maxHeartbeats 1600000 in
/-- Lane `384e + t` of row `a` of table `tb` after the point. -/
theorem bias_read (f : BufTy.Contents (Elt Ideal) arg3.view.ty) (tb : Fin 3) (a : Fin 128) (e : Fin 2) (t : Fin 384) (s : Fin 768) (hs : s.val = 384 * e.val + t.val) :
    arg3.view.read (Elt Ideal) ((biasRun (F := Ideal) c i arg1 harg1 arg2 harg2 arg3 harg3 x0 x1).1 f) (ix4 tb 0 a s)
      = biasAt (x0 (ix2 a t)) (entry i arg2 harg2 x1 e) tb t := by
  unfold biasRun
  dsimp only
  have lo : ∀ (tb : Fin 3), biasAt (x0 (ix2 a t)) (entry i arg2 harg2 x1 0) tb t = (if table_ok tb t then biasRun.sl.v196 (F := Ideal) c i arg1 harg1 arg2 harg2 x0 x1 (ix2 a t) else (⊥ : EReal)) := by
    intro tb; rw [value_lo, load_map, pick_eq, mask_eq]; rfl
  have hi : ∀ (tb : Fin 3), biasAt (x0 (ix2 a t)) (entry i arg2 harg2 x1 1) tb t = (if table_ok tb t then k0_pay18 (F := Ideal) (biasRun.sl.r_6 (F := Ideal) c arg1 harg1 x0) (biasRun.sl.v387 (F := Ideal) c i arg1 harg1 arg2 harg2 x0 x1)
            (biasRun.sl.v180 (F := Ideal) c arg1 harg1 x0) (biasRun.sl.r_63 (F := Ideal) c i arg2 harg2 x1) (biasRun.sl.r_64 (F := Ideal) c i arg2 harg2 x1)
            (biasRun.sl.r_65 (F := Ideal) c i arg2 harg2 x1) (ix2 a t) else (⊥ : EReal)) := by
    intro tb; rw [value_hi, load_map, pick_eq, mask_eq]; rfl
  match e with
  | ⟨0, _⟩ =>
    replace hs : s.val = 384 * 0 + t.val := hs
    have ht := t.isLt
    match tb with
    | ⟨0, htb⟩ =>
      rw [View.read_writes_cons_unit_of_not_mem arg3.view f _ _ _ (ix4 ⟨0, htb⟩ 0 a s) rfl 0 (Or.inl (show (0 : ℕ) < 2 by decide)),
        View.read_writes_cons_unit_of_not_mem arg3.view f _ _ _ (ix4 ⟨0, htb⟩ 0 a s) rfl 0 (Or.inl (show (0 : ℕ) < 1 by decide)),
        View.read_writes_cons_unit_of_not_mem arg3.view f _ _ _ (ix4 ⟨0, htb⟩ 0 a s) rfl 3 (Or.inl (show s.val < 384 by omega)),
        View.read_writes_cons_unit_of_not_mem arg3.view f _ _ _ (ix4 ⟨0, htb⟩ 0 a s) rfl 0 (Or.inl (show (0 : ℕ) < 2 by decide)),
        View.read_writes_cons_unit_of_not_mem arg3.view f _ _ _ (ix4 ⟨0, htb⟩ 0 a s) rfl 0 (Or.inl (show (0 : ℕ) < 1 by decide))]
      refine (View.read_writes_cons_unit_of_mem arg3.view f _ _ _ (ix4 ⟨0, htb⟩ 0 a s) (ix4 0 0 a t) rfl ?_).trans ?_
      · intro b
        match b with
        | ⟨0, _⟩ => rfl
        | ⟨1, _⟩ => rfl
        | ⟨2, _⟩ => exact (Nat.zero_add _).symm
        | ⟨3, _⟩ => exact hs
      · refine (?_ : _ = _).trans (lo ⟨0, htb⟩).symm
        unfold biasRun.sl.v202
        refine (plane _ _ a t).trans ?_
        unfold biasRun.sl.v199
        show (if IntOp.cmpi .sge (biasRun.sl.v1 (ix2 a t)) (128#32) = 1#1 then _ else k0_pay1 (F := Ideal) (ix2 a t)) = _
        rw [lane, ge_lane, mask_eq]
        by_cases ht' : 128 ≤ t.val
        · rw [decide_eq_true ht', if_pos (by decide), if_pos ⟨fun _ => ht', fun h => absurd (congrArg Fin.val h) (show ¬ (0 : ℕ) = 2 by decide)⟩]
        · rw [decide_eq_false ht', if_neg (by decide), if_neg (fun h => ht' (h.1 rfl))]
    | ⟨1, htb⟩ =>
      rw [View.read_writes_cons_unit_of_not_mem arg3.view f _ _ _ (ix4 ⟨1, htb⟩ 0 a s) rfl 0 (Or.inl (show (1 : ℕ) < 2 by decide)),
        View.read_writes_cons_unit_of_not_mem arg3.view f _ _ _ (ix4 ⟨1, htb⟩ 0 a s) rfl 3 (Or.inl (show s.val < 384 by omega)),
        View.read_writes_cons_unit_of_not_mem arg3.view f _ _ _ (ix4 ⟨1, htb⟩ 0 a s) rfl 0 (Or.inr (show 0 + 1 ≤ (1 : ℕ) by decide)),
        View.read_writes_cons_unit_of_not_mem arg3.view f _ _ _ (ix4 ⟨1, htb⟩ 0 a s) rfl 0 (Or.inl (show (1 : ℕ) < 2 by decide))]
      refine (View.read_writes_cons_unit_of_mem arg3.view f _ _ _ (ix4 ⟨1, htb⟩ 0 a s) (ix4 0 0 a t) rfl ?_).trans ?_
      · intro b
        match b with
        | ⟨0, _⟩ => rfl
        | ⟨1, _⟩ => rfl
        | ⟨2, _⟩ => exact (Nat.zero_add _).symm
        | ⟨3, _⟩ => exact hs
      · refine (?_ : _ = _).trans (lo ⟨1, htb⟩).symm
        rw [if_pos ⟨fun h => absurd (congrArg Fin.val h) (show ¬ (1 : ℕ) = 0 by decide), fun h => absurd (congrArg Fin.val h) (show ¬ (1 : ℕ) = 2 by decide)⟩]
        exact plane _ _ a t
    | ⟨2, htb⟩ =>
      rw [View.read_writes_cons_unit_of_not_mem arg3.view f _ _ _ (ix4 ⟨2, htb⟩ 0 a s) rfl 3 (Or.inl (show s.val < 384 by omega)),
        View.read_writes_cons_unit_of_not_mem arg3.view f _ _ _ (ix4 ⟨2, htb⟩ 0 a s) rfl 0 (Or.inr (show 1 + 1 ≤ (2 : ℕ) by decide)),
        View.read_writes_cons_unit_of_not_mem arg3.view f _ _ _ (ix4 ⟨2, htb⟩ 0 a s) rfl 0 (Or.inr (show 0 + 1 ≤ (2 : ℕ) by decide))]
      refine (View.read_writes_cons_unit_of_mem arg3.view f _ _ _ (ix4 ⟨2, htb⟩ 0 a s) (ix4 0 0 a t) rfl ?_).trans ?_
      · intro b
        match b with
        | ⟨0, _⟩ => rfl
        | ⟨1, _⟩ => rfl
        | ⟨2, _⟩ => exact (Nat.zero_add _).symm
        | ⟨3, _⟩ => exact hs
      · refine (?_ : _ = _).trans (lo ⟨2, htb⟩).symm
        unfold biasRun.sl.v211
        refine (plane _ _ a t).trans ?_
        unfold biasRun.sl.v208
        show (if IntOp.cmpi .slt (biasRun.sl.v1 (ix2 a t)) (256#32) = 1#1 then _ else k0_pay1 (F := Ideal) (ix2 a t)) = _
        rw [lane, lt_lane, mask_eq]
        by_cases ht' : t.val < 256
        · rw [decide_eq_true ht', if_pos (by decide), if_pos ⟨fun h => absurd (congrArg Fin.val h) (show ¬ (2 : ℕ) = 0 by decide), fun _ => ht'⟩]
        · rw [decide_eq_false ht', if_neg (by decide), if_neg (fun h => ht' (h.2 rfl))]
  | ⟨1, _⟩ =>
    replace hs : s.val = 384 * 1 + t.val := hs
    have ht := t.isLt
    match tb with
    | ⟨0, htb⟩ =>
      rw [View.read_writes_cons_unit_of_not_mem arg3.view f _ _ _ (ix4 ⟨0, htb⟩ 0 a s) rfl 0 (Or.inl (show (0 : ℕ) < 2 by decide)),
        View.read_writes_cons_unit_of_not_mem arg3.view f _ _ _ (ix4 ⟨0, htb⟩ 0 a s) rfl 0 (Or.inl (show (0 : ℕ) < 1 by decide))]
      refine (View.read_writes_cons_unit_of_mem arg3.view f _ _ _ (ix4 ⟨0, htb⟩ 0 a s) (ix4 0 0 a t) rfl ?_).trans ?_
      · intro b
        match b with
        | ⟨0, _⟩ => rfl
        | ⟨1, _⟩ => rfl
        | ⟨2, _⟩ => exact (Nat.zero_add _).symm
        | ⟨3, _⟩ => exact hs
      · refine (?_ : _ = _).trans (hi ⟨0, htb⟩).symm
        unfold k0_pay19
        refine (plane _ _ a t).trans ?_
        show (if IntOp.cmpi .sge (biasRun.sl.v1 (ix2 a t)) (128#32) = 1#1 then _ else k0_pay1 (F := Ideal) (ix2 a t)) = _
        rw [lane, ge_lane, mask_eq]
        by_cases ht' : 128 ≤ t.val
        · rw [decide_eq_true ht', if_pos (by decide), if_pos ⟨fun _ => ht', fun h => absurd (congrArg Fin.val h) (show ¬ (0 : ℕ) = 2 by decide)⟩]
        · rw [decide_eq_false ht', if_neg (by decide), if_neg (fun h => ht' (h.1 rfl))]
    | ⟨1, htb⟩ =>
      rw [View.read_writes_cons_unit_of_not_mem arg3.view f _ _ _ (ix4 ⟨1, htb⟩ 0 a s) rfl 0 (Or.inl (show (1 : ℕ) < 2 by decide))]
      refine (View.read_writes_cons_unit_of_mem arg3.view f _ _ _ (ix4 ⟨1, htb⟩ 0 a s) (ix4 0 0 a t) rfl ?_).trans ?_
      · intro b
        match b with
        | ⟨0, _⟩ => rfl
        | ⟨1, _⟩ => rfl
        | ⟨2, _⟩ => exact (Nat.zero_add _).symm
        | ⟨3, _⟩ => exact hs
      · refine (?_ : _ = _).trans (hi ⟨1, htb⟩).symm
        unfold k0_pay20
        rw [if_pos ⟨fun h => absurd (congrArg Fin.val h) (show ¬ (1 : ℕ) = 0 by decide), fun h => absurd (congrArg Fin.val h) (show ¬ (1 : ℕ) = 2 by decide)⟩]
        exact plane _ _ a t
    | ⟨2, htb⟩ =>
      refine (View.read_writes_cons_unit_of_mem arg3.view f _ _ _ (ix4 ⟨2, htb⟩ 0 a s) (ix4 0 0 a t) rfl ?_).trans ?_
      · intro b
        match b with
        | ⟨0, _⟩ => rfl
        | ⟨1, _⟩ => rfl
        | ⟨2, _⟩ => exact (Nat.zero_add _).symm
        | ⟨3, _⟩ => exact hs
      · refine (?_ : _ = _).trans (hi ⟨2, htb⟩).symm
        unfold k0_pay21
        refine (plane _ _ a t).trans ?_
        show (if IntOp.cmpi .slt (biasRun.sl.v1 (ix2 a t)) (256#32) = 1#1 then _ else k0_pay1 (F := Ideal) (ix2 a t)) = _
        rw [lane, lt_lane, mask_eq]
        by_cases ht' : t.val < 256
        · rw [decide_eq_true ht', if_pos (by decide), if_pos ⟨fun h => absurd (congrArg Fin.val h) (show ¬ (2 : ℕ) = 0 by decide), fun _ => ht'⟩]
        · rw [decide_eq_false ht', if_neg (by decide), if_neg (fun h => ht' (h.2 rfl))]

end Point

end Cert.Proof.Swa

end
-- ==== Proof.SwaArray.lean ====
/-
  The attention's arrays at the ideal values: the bias tables the first region leaves, the blocks the second region reads,
  and the whole array of outputs it leaves, entry by entry over the arguments.
-/
module

public import proofs.«01_k».proof.Proof.SwaPoint
public import proofs.«01_k».proof.Proof.SwaBiasVal
public import proofs.«01_k».proof.Proof.SwaRegions

@[expose] public section

set_option maxRecDepth 16384

noncomputable section

namespace Cert.Proof.Swa

open Cert.SwaIdeal Cert.SwaIdeal.Gen
open Idealize.ShloMosaic Idealize.ShloMosaic.TcCoe
open Idealize.ShloMosaic.Pipeline (Dat)

variable (m : (ℓ : Loc nD τ sig) → Buf (Elt Ideal) ℓ)

/-! ## The bias tables -/

/-- Where the first region's blocks start. -/
theorem start0 : ∀ t : Fin grid0.N,
    (win0_0.index t 0 * win0_0.size 0 = 0 ∧ win0_0.index t 1 * win0_0.size 1 = 0)
    ∧ (win0_1.index t 0 * win0_1.size 0 = 0 ∧ win0_1.index t 1 * win0_1.size 1 = 0)
    ∧ (win0_2.index t 0 * win0_2.size 0 = 0 ∧ win0_2.index t 1 * win0_2.size 1 = t.val ∧ win0_2.index t 2 * win0_2.size 2 = 0 ∧ win0_2.index t 3 * win0_2.size 3 = 0)
    ∧ (grid0.coords t 0).val = t.val := by decide +kernel

/-- The bucket of a key at lane `t` of the window of the query in row `a` of its block. -/
def bucket (a : Fin 128) (t : Fin 384) : BitVec 32 := lit0 (S128x384.rowMajor (ix2 a t))

theorem iblk0_map (c : Dev nD) (t : Fin cfg0.N) (a : Fin 128) (l : Fin 384) :
    iblk0 (F := Ideal) m c 0 t (ix2 a l) = bucket a l := by
  have e : V1 (F := Ideal) m c main_c = fun i => lit0 (S128x384.rowMajor i) := rfl
  unfold iblk0 bucket
  refine (congrFun e _).trans (congrArg (fun i => lit0 (S128x384.rowMajor i)) (funext fun d => Fin.ext ?_))
  match d with
  | ⟨0, _⟩ => show win0_0.index t 0 * win0_0.size 0 + 1 * a.val = a.val; have := start0 t; omega
  | ⟨1, _⟩ => show win0_0.index t 1 * win0_0.size 1 + 1 * l.val = l.val; have := start0 t; omega

theorem iblk0_rel (c : Dev nD) (t : Fin cfg0.N) (k : Fin 32) (h : Fin 8) :
    iblk0 (F := Ideal) m c 1 t (ix2 k h) = m ((c : Thread nD τ).loc main_arg3) (ix2 k h) := by
  unfold iblk0
  refine (congrFun (V1_of m c main_arg3 (by decide)) _).trans (congrArg (m ((c : Thread nD τ).loc main_arg3)) (funext fun d => Fin.ext ?_))
  match d with
  | ⟨0, _⟩ => show win0_1.index t 0 * win0_1.size 0 + 1 * k.val = k.val; have := start0 t; omega
  | ⟨1, _⟩ => show win0_1.index t 1 * win0_1.size 1 + 1 * h.val = h.val; have := start0 t; omega

/-- The bias of head `h` at lane `t` of the window of row `a`, in table `tb`. -/
def biasOf (x3 : FVec Ideal S32x8 .f32) (h : Fin 8) (tb : Fin 3) (a : Fin 128) (t : Fin 384) : Ideal .f32 :=
  biasAt (bucket a t) (fun k => x3 (ix2 k h)) tb t

/-- The tables as one array. -/
def tabs (x3 : FVec Ideal S32x8 .f32) : FVec Ideal S3x4x128x768 .f32 := fun i =>
  biasOf x3 ⟨2 * (i 1 : Fin 4).val + (i 3 : Fin 768).val / 384, by have h1 : (i 1 : Fin 4).val < 4 := (i 1).isLt; have h3 : (i 3 : Fin 768).val < 768 := (i 3).isLt; omega⟩ (i 0) (i 2) ⟨(i 3 : Fin 768).val % 384, by omega⟩

abbrev goal0 (c : Dev nD) : Buf (Elt Ideal) ((c : Thread nD τ).loc main_v5) := tabs (m ((c : Thread nD τ).loc main_arg3))

/-- What point `t` of the first region writes back is block `t` of the tables. -/
theorem flushed0 (c : Dev nD) (t : Fin cfg0.N) :
    (dat0 (F := Ideal) m c).flushed 2 t = (win0_2.blk t).view.read (Elt Ideal) (goal0 m c) := by
  funext j
  obtain ⟨tb, z, a, s, rfl⟩ : ∃ (tb : Fin 3) (z : Fin 1) (a : Fin 128) (s : Fin 768), j = ix4 tb z a s := ⟨j 0, j 1, j 2, j 3, by funext a; match a with | ⟨0, _⟩ => rfl | ⟨1, _⟩ => rfl | ⟨2, _⟩ => rfl | ⟨3, _⟩ => rfl⟩
  obtain rfl : z = 0 := Subsingleton.elim _ _
  have ht : t.val < 4 := t.isLt
  have hi : (win0_2.blk t).view.emb (ix4 tb 0 a s) = ix4 tb (⟨t.val, ht⟩ : Fin 4) a s := by
    funext d
    apply Fin.ext
    match d with
    | ⟨0, _⟩ => show win0_2.index t 0 * win0_2.size 0 + 1 * tb.val = tb.val; have := start0 t; omega
    | ⟨1, _⟩ => show win0_2.index t 1 * win0_2.size 1 + 1 * 0 = t.val; have := start0 t; omega
    | ⟨2, _⟩ => show win0_2.index t 2 * win0_2.size 2 + 1 * a.val = a.val; have := start0 t; omega
    | ⟨3, _⟩ => show win0_2.index t 3 * win0_2.size 3 + 1 * s.val = s.val; have := start0 t; omega
  show tables m c t (ix4 tb 0 a s) = goal0 m c ((win0_2.blk t).view.emb (ix4 tb 0 a s))
  rw [hi]
  have hc : (grid0.coords t 0).val = t.val := (start0 t).2.2.2
  unfold tables
  refine (bias_read c (grid0.coords t) (ms0_0 t) (hs0_0 t) (ms0_1 t) (hs0_1 t) (ms0_2 t) (hs0_2 t) (iblk0 m c 0 t) (iblk0 m c 1 t) _ tb a
    ⟨s.val / 384, by omega⟩ ⟨s.val % 384, by omega⟩ s (by show s.val = 384 * (s.val / 384) + s.val % 384; omega)).trans ?_
  rw [iblk0_map]
  show _ = biasAt (bucket a ⟨s.val % 384, by omega⟩) (fun k => m ((c : Thread nD τ).loc main_arg3) (ix2 k (⟨2 * t.val + s.val / 384, by omega⟩ : Fin 8))) tb ⟨s.val % 384, by omega⟩
  congr 1
  funext k
  rw [entry_eq (grid0.coords t) (ms0_1 t) (hs0_1 t) (iblk0 m c 1 t) ⟨s.val / 384, by omega⟩ k ⟨2 * t.val + s.val / 384, by omega⟩ (by rw [hc]), iblk0_rel]

/-- Every entry of the tables is in some point's block. -/
theorem cover0 (i : S3x4x128x768.Idx) : ∃ t : Fin cfg0.N, (cfg0.win 2).flush t = true ∧ i ∈ ((cfg0.win 2).blk t).view.set := by
  have h1 : (i 1 : Nat) < 4 := (i 1).isLt
  refine ⟨⟨(i 1 : Nat), h1⟩, flush0_2 _, ?_⟩
  generalize ht : (⟨(i 1 : Nat), h1⟩ : Fin cfg0.N) = t
  have htv : (i 1 : Nat) = t.val := congrArg Fin.val ht
  refine Finset.mem_map.mpr ⟨ix4 (i 0) 0 (i 2) (i 3), Finset.mem_univ _, ?_⟩
  funext d
  apply Fin.ext
  match d with
  | ⟨0, _⟩ => show win0_2.index t 0 * win0_2.size 0 + 1 * (i 0 : Nat) = (i 0 : Nat); have := start0 t; omega
  | ⟨1, _⟩ => show win0_2.index t 1 * win0_2.size 1 + 1 * 0 = (i 1 : Nat); have := start0 t; omega
  | ⟨2, _⟩ => show win0_2.index t 2 * win0_2.size 2 + 1 * (i 2 : Nat) = (i 2 : Nat); have := start0 t; omega
  | ⟨3, _⟩ => show win0_2.index t 3 * win0_2.size 3 + 1 * (i 3 : Nat) = (i 3 : Nat); have := start0 t; omega

/-- So the second region finds the tables. -/
theorem Va_tabs (c : Dev nD) : Va (F := Ideal) m c main_v5 = goal0 m c :=
  (Pipeline.afterRegion_arr (dat0 m c) (V1 m c) (by decide) 2).trans
    ((dat0 (F := Ideal) m c).arrAt_eq_of_cover 2 (goal0 m c) (fun t _ => flushed0 m c t) cover0)

/-- The other buffers it finds as the host left them. -/
theorem Va_of (c : Dev nD) (r : Ref sig .tc) (h : ∀ w, r ≠ Pipeline.arrRef spec0 w) : Va (F := Ideal) m c r = V1 m c r :=
  Pipeline.afterRegion_of_not_arr (dat0 m c) (V1 m c) h

/-! ## The attention's blocks -/

/-- Where the second region's blocks start. -/
theorem start1 : ∀ t : Fin grid1.N,
    (win1_0.index t 0 * win1_0.size 0 = 4096 * (t.val / 2) ∧ win1_0.index t 1 * win1_0.size 1 = 256 * (t.val % 2))
    ∧ (win1_1.index t 0 * win1_1.size 0 = 4096 * (t.val / 2) ∧ win1_1.index t 1 * win1_1.size 1 = 0)
    ∧ (win1_2.index t 0 * win1_2.size 0 = 4096 * (t.val / 2) ∧ win1_2.index t 1 * win1_2.size 1 = 0)
    ∧ (win1_3.index t 0 * win1_3.size 0 = 0 ∧ win1_3.index t 1 * win1_3.size 1 = 2 * (t.val % 2) ∧ win1_3.index t 2 * win1_3.size 2 = 0 ∧ win1_3.index t 3 * win1_3.size 3 = 0)
    ∧ (win1_4.index t 0 * win1_4.size 0 = 0)
    ∧ (win1_5.index t 0 * win1_5.size 0 = 4096 * (t.val / 2) ∧ win1_5.index t 1 * win1_5.size 1 = 256 * (t.val % 2))
    ∧ (grid1.coords t 1).val = t.val % 2 := by decide +kernel

/-- The row of the arrays that row `r` of batch entry `b` is. -/
def rowIx (b : Fin 8) (r : Fin 4096) : Fin 32768 := ⟨4096 * b.val + r.val, by omega⟩

/-- The batch entry of a point, -/
def bOf (t : Fin cfg1.N) : Fin 8 := ⟨t.val / 2, by have h : cfg1.N = 16 := N_1; have := t.isLt; omega⟩

/-- and its key head. -/
def jOf (t : Fin cfg1.N) : Fin 2 := ⟨t.val % 2, by omega⟩

/-- The queries, scaled. -/
def scaled (x : FVec Ideal S32768x512 .f32) : S32768x512.Idx → EReal := fun i => x i * Ideal.ofBits .f32 0x3E000000#32

theorem iblk1_q (c : Dev nD) (t : Fin cfg1.N) (r : Fin 4096) (l : Fin 256) :
    iblk1 (F := Ideal) m c 0 t (ix2 r l)
      = scaled (m ((c : Thread nD τ).loc main_arg0)) (ix2 (rowIx (bOf t) r) (⟨256 * (jOf t).val + l.val, by omega⟩ : Fin 512)) := by
  have e : V1 (F := Ideal) m c main_v2 = scaled (m ((c : Thread nD τ).loc main_arg0)) := rfl
  unfold iblk1
  refine (congrFun ((Va_of m c main_v2 (by decide)).trans e) _).trans (congrArg (scaled (m ((c : Thread nD τ).loc main_arg0))) (funext fun d => Fin.ext ?_))
  match d with
  | ⟨0, _⟩ => show win1_0.index t 0 * win1_0.size 0 + 1 * r.val = 4096 * (t.val / 2) + r.val; have := start1 t; omega
  | ⟨1, _⟩ => show win1_0.index t 1 * win1_0.size 1 + 1 * l.val = 256 * (t.val % 2) + l.val; have := start1 t; omega

theorem iblk1_k (c : Dev nD) (t : Fin cfg1.N) (r : Fin 4096) (l : Fin 128) :
    iblk1 (F := Ideal) m c 1 t (ix2 r l) = m ((c : Thread nD τ).loc main_arg1) (ix2 (rowIx (bOf t) r) l) := by
  have e : V1 (F := Ideal) m c main_v3 = fun i => (m ((c : Thread nD τ).loc main_arg1) i : EReal) := rfl
  unfold iblk1
  refine (congrFun ((Va_of m c main_v3 (by decide)).trans e) _).trans (congrArg (fun i => (m ((c : Thread nD τ).loc main_arg1) i : EReal)) (funext fun d => Fin.ext ?_))
  match d with
  | ⟨0, _⟩ => show win1_1.index t 0 * win1_1.size 0 + 1 * r.val = 4096 * (t.val / 2) + r.val; have := start1 t; omega
  | ⟨1, _⟩ => show win1_1.index t 1 * win1_1.size 1 + 1 * l.val = l.val; have := start1 t; omega

theorem iblk1_v (c : Dev nD) (t : Fin cfg1.N) (r : Fin 4096) (l : Fin 128) :
    iblk1 (F := Ideal) m c 2 t (ix2 r l) = m ((c : Thread nD τ).loc main_arg2) (ix2 (rowIx (bOf t) r) l) := by
  have e : V1 (F := Ideal) m c main_v4 = fun i => (m ((c : Thread nD τ).loc main_arg2) i : EReal) := rfl
  unfold iblk1
  refine (congrFun ((Va_of m c main_v4 (by decide)).trans e) _).trans (congrArg (fun i => (m ((c : Thread nD τ).loc main_arg2) i : EReal)) (funext fun d => Fin.ext ?_))
  match d with
  | ⟨0, _⟩ => show win1_2.index t 0 * win1_2.size 0 + 1 * r.val = 4096 * (t.val / 2) + r.val; have := start1 t; omega
  | ⟨1, _⟩ => show win1_2.index t 1 * win1_2.size 1 + 1 * l.val = l.val; have := start1 t; omega

theorem iblk1_bias (c : Dev nD) (t : Fin cfg1.N) (tb : Fin 3) (p : Fin 2) (a : Fin 128) (s : Fin 768) :
    iblk1 (F := Ideal) m c 3 t (ix4 tb p a s)
      = biasOf (m ((c : Thread nD τ).loc main_arg3)) ⟨4 * (jOf t).val + 2 * p.val + s.val / 384, by omega⟩ tb a ⟨s.val % 384, by omega⟩ := by
  unfold iblk1
  have hi : (win1_3.blk t).view.emb (ix4 tb p a s) = ix4 tb (⟨2 * (jOf t).val + p.val, by omega⟩ : Fin 4) a s := by
    funext d
    apply Fin.ext
    match d with
    | ⟨0, _⟩ => show win1_3.index t 0 * win1_3.size 0 + 1 * tb.val = tb.val; have := start1 t; omega
    | ⟨1, _⟩ => show win1_3.index t 1 * win1_3.size 1 + 1 * p.val = 2 * (t.val % 2) + p.val; have := start1 t; omega
    | ⟨2, _⟩ => show win1_3.index t 2 * win1_3.size 2 + 1 * a.val = a.val; have := start1 t; omega
    | ⟨3, _⟩ => show win1_3.index t 3 * win1_3.size 3 + 1 * s.val = s.val; have := start1 t; omega
  refine (congrFun (Va_tabs m c) _).trans ?_
  refine (congrArg (goal0 m c) hi).trans ?_
  have hh : (⟨2 * (2 * (jOf t).val + p.val) + s.val / 384, by omega⟩ : Fin 8) = ⟨4 * (jOf t).val + 2 * p.val + s.val / 384, by omega⟩ := Fin.ext (by show _ = _; dsimp only; omega)
  rw [← hh]
  rfl

theorem iblk1_sink (c : Dev nD) (t : Fin cfg1.N) (h : Fin 8) :
    iblk1 (F := Ideal) m c 4 t (ix1 h) = m ((c : Thread nD τ).loc main_arg4) (ix1 h) := by
  unfold iblk1
  refine (congrFun ((Va_of m c main_arg4 (by decide)).trans (V1_of m c main_arg4 (by decide))) _).trans (congrArg (m ((c : Thread nD τ).loc main_arg4)) (funext fun d => Fin.ext ?_))
  match d with
  | ⟨0, _⟩ => show win1_4.index t 0 * win1_4.size 0 + 1 * h.val = h.val; have := start1 t; omega

/-! ## The outputs -/

/-- The point `t` over its blocks. -/
def ptOf (c : Dev nD) (t : Fin cfg1.N) : Pt := pointOf (grid1.coords t) (iblk1 m c 0 t) (iblk1 m c 1 t) (iblk1 m c 2 t) (iblk1 m c 3 t) (iblk1 m c 4 t)

/-- What the point leaves in its output window. -/
def vOf (c : Dev nD) (t : Fin cfg1.N) : FVec Ideal S4096x256 .bf16 := fun i =>
  (ptOf m c t).out ((i 0 : Fin 4096).val / 128) ⟨(i 1 : Fin 256).val / 128, by have h : (i 1 : Fin 256).val < 256 := (i 1).isLt; omega⟩ ⟨(i 0 : Fin 4096).val % 128, by omega⟩ ⟨(i 1 : Fin 256).val % 128, by omega⟩

/-- The run leaves it. -/
theorem left_eq (c : Dev nD) (t : Fin cfg1.N) (f7 f8 f9 f10 f11 f12 f13 f14) :
    left (F := Ideal) m c t f7 f8 f9 f10 f11 f12 f13 f14 = vOf m c t := by
  funext i
  obtain ⟨r, l, rfl⟩ : ∃ (r : Fin 4096) (l : Fin 256), i = ix2 r l := ⟨i 0, i 1, by funext a; match a with | ⟨0, _⟩ => rfl | ⟨1, _⟩ => rfl⟩
  have h := point_out c (grid1.coords t) (ms1_0 t) (hs1_0 t) (ms1_1 t) (hs1_1 t) (ms1_2 t) (hs1_2 t) (ms1_3 t) (hs1_3 t) (ms1_4 t) (hs1_4 t) (ms1_5 t) (hs1_5 t)
    sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _)
    (iblk1 m c 0 t) (iblk1 m c 1 t) (iblk1 m c 2 t) (iblk1 m c 3 t) (iblk1 m c 4 t) f7 f8 f9 f10 f11 f12 f13 f14
  have h' := h (r.val / 128) (by omega) ⟨l.val / 128, by omega⟩ ⟨r.val % 128, by omega⟩ ⟨l.val % 128, by omega⟩ (by dsimp only; omega) (by dsimp only; omega)
  rw [show (⟨128 * (r.val / 128) + r.val % 128, by omega⟩ : Fin 4096) = r from Fin.ext (by dsimp only; omega),
    show (⟨128 * (l.val / 128) + l.val % 128, by omega⟩ : Fin 256) = l from Fin.ext (by dsimp only; omega)] at h'
  exact h'

/-- The point that computes an entry of the output. -/
def ptIx (R : Fin 32768) (C : Fin 512) : Fin cfg1.N := ⟨2 * (R.val / 4096) + C.val / 256, by have h : cfg1.N = 16 := N_1; omega⟩

/-- The whole output. -/
abbrev goal1 (c : Dev nD) : Buf (Elt Ideal) ((c : Thread nD τ).loc main_v6) := fun i =>
  vOf m c (ptIx (i 0) (i 1)) (ix2 (⟨(i 0 : Fin 32768).val % 4096, by omega⟩ : Fin 4096) (⟨(i 1 : Fin 512).val % 256, by omega⟩ : Fin 256))

theorem flushed1 (c : Dev nD) (t : Fin cfg1.N) :
    (dat1 (F := Ideal) m (vOf m) c).flushed 5 t = (win1_5.blk t).view.read (Elt Ideal) (goal1 m c) := by
  funext j
  obtain ⟨r, l, rfl⟩ : ∃ (r : Fin 4096) (l : Fin 256), j = ix2 r l := ⟨j 0, j 1, by funext a; match a with | ⟨0, _⟩ => rfl | ⟨1, _⟩ => rfl⟩
  have hN : t.val < 16 := t.isLt
  have hi : (win1_5.blk t).view.emb (ix2 r l) = ix2 (rowIx (bOf t) r) (⟨256 * (jOf t).val + l.val, by omega⟩ : Fin 512) := by
    funext d
    apply Fin.ext
    match d with
    | ⟨0, _⟩ => show win1_5.index t 0 * win1_5.size 0 + 1 * r.val = 4096 * (t.val / 2) + r.val; have := start1 t; omega
    | ⟨1, _⟩ => show win1_5.index t 1 * win1_5.size 1 + 1 * l.val = 256 * (t.val % 2) + l.val; have := start1 t; omega
  show vOf m c t (ix2 r l) = goal1 m c ((win1_5.blk t).view.emb (ix2 r l))
  rw [hi]
  have e1 : ptIx (rowIx (bOf t) r) (⟨256 * (jOf t).val + l.val, by omega⟩ : Fin 512) = t := by
    apply Fin.ext
    show 2 * ((4096 * (t.val / 2) + r.val) / 4096) + (256 * (t.val % 2) + l.val) / 256 = t.val
    omega
  have e2 : (⟨(rowIx (bOf t) r).val % 4096, by omega⟩ : Fin 4096) = r := Fin.ext (by show (4096 * (t.val / 2) + r.val) % 4096 = r.val; omega)
  have e3 : (⟨(256 * (jOf t).val + l.val) % 256, by omega⟩ : Fin 256) = l := Fin.ext (by show (256 * (t.val % 2) + l.val) % 256 = l.val; omega)
  show _ = vOf m c (ptIx (rowIx (bOf t) r) (⟨256 * (jOf t).val + l.val, by omega⟩ : Fin 512)) (ix2 (⟨(rowIx (bOf t) r).val % 4096, by omega⟩ : Fin 4096) (⟨(256 * (jOf t).val + l.val) % 256, by omega⟩ : Fin 256))
  rw [e1, e2, e3]

theorem cover1 (i : S32768x512.Idx) : ∃ t : Fin cfg1.N, (cfg1.win 5).flush t = true ∧ i ∈ ((cfg1.win 5).blk t).view.set := by
  have h0 : (i 0 : Nat) < 32768 := (i 0).isLt
  have h1 : (i 1 : Nat) < 512 := (i 1).isLt
  refine ⟨ptIx (i 0) (i 1), flush1_5 _, ?_⟩
  generalize ht : ptIx (i 0) (i 1) = t
  have htv : 2 * ((i 0 : Nat) / 4096) + (i 1 : Nat) / 256 = t.val := congrArg Fin.val ht
  refine Finset.mem_map.mpr ⟨ix2 ⟨(i 0 : Nat) % 4096, by omega⟩ ⟨(i 1 : Nat) % 256, by omega⟩, Finset.mem_univ _, ?_⟩
  funext d
  apply Fin.ext
  match d with
  | ⟨0, _⟩ => show win1_5.index t 0 * win1_5.size 0 + 1 * ((i 0 : Nat) % 4096) = (i 0 : Nat); have := start1 t; omega
  | ⟨1, _⟩ => show win1_5.index t 1 * win1_5.size 1 + 1 * ((i 1 : Nat) % 256) = (i 1 : Nat); have := start1 t; omega

/-- The attention's array ends holding it. -/
theorem final_out (c : Dev nD) : (dat1 (F := Ideal) m (vOf m) c).arrAt 5 cfg1.N = goal1 m c :=
  (dat1 (F := Ideal) m (vOf m) c).arrAt_eq_of_cover 5 (goal1 m c) (fun t _ => flushed1 m c t) cover1

end Cert.Proof.Swa
-- ==== Proof.SwaRefVal.lean ====
/-
  The reference attention's layout stages at an entry: queries by head, banded keys and values, the mask, the bias and the
  sinks.
-/
module

public import proofs.«01_k».proof.Proof.SwaRef

@[expose] public section

set_option maxRecDepth 16384

noncomputable section

namespace Cert.Proof.SwaRef

open Cert.SwaRefIdeal Cert.SwaRefIdeal.Gen
open Idealize.ShloMosaic Idealize.ShloMosaic.TcCoe Idealize.ShloMosaic.ValueIdx

/-- The row of the arrays that row `a` of block `n` of batch entry `b` is. -/
def rowAt (b : Fin 8) (n : Fin 32) (a : Fin 128) : Fin 32768 := ⟨4096 * b.val + 128 * n.val + a.val, by omega⟩

/-- The head of group member `g` of key head `kv`. -/
def headAt (kv : Fin 2) (g : Fin 4) : Fin 8 := ⟨4 * kv.val + g.val, by omega⟩

/-- The column of lane `d` of a head of the queries. -/
def colQ (h : Fin 8) (d : Fin 64) : Fin 512 := ⟨64 * h.val + d.val, by omega⟩

/-- The column of lane `d` of a key head. -/
def colK (kv : Fin 2) (d : Fin 64) : Fin 128 := ⟨64 * kv.val + d.val, by omega⟩

theorem headsQ_apply (x : FVec Ideal S32768x512 .f32) (b : Fin 8) (kv : Fin 2) (g : Fin 4) (n : Fin 32) (a : Fin 128) (d : Fin 64) :
    headsQ x (ix6 b kv g n a d) = x (ix2 (rowAt b n a) (colQ (headAt kv g) d)) := by
  unfold headsQ
  refine (shapeCast_apply _ _ _ (ix4 b (headAt kv g) (⟨128 * n.val + a.val, by omega⟩ : Fin 4096) d) ?_).trans ?_
  · rw [Shape.rowMajor_val_four, Shape.rowMajor_val_six]
    show ((b.val * 8 + (4 * kv.val + g.val)) * 4096 + (128 * n.val + a.val)) * 64 + d.val = ((((b.val * 2 + kv.val) * 4 + g.val) * 32 + n.val) * 128 + a.val) * 64 + d.val
    omega
  refine (transpose_apply _ _ _ _ (ix4 b (⟨128 * n.val + a.val, by omega⟩ : Fin 4096) (headAt kv g) d) ?_).trans ?_
  · intro e
    match e with
    | ⟨0, _⟩ => rfl
    | ⟨1, _⟩ => rfl
    | ⟨2, _⟩ => rfl
    | ⟨3, _⟩ => rfl
  refine shapeCast_apply _ _ _ _ ?_
  rw [Shape.rowMajor_val_four, Shape.rowMajor_val_two]
  show (4096 * b.val + 128 * n.val + a.val) * 512 + (64 * (4 * kv.val + g.val) + d.val) = ((b.val * 4096 + (128 * n.val + a.val)) * 8 + (4 * kv.val + g.val)) * 64 + d.val
  omega

/-- Row `R` of the padded keys or values of a batch entry and key head. -/
def padded (x : FVec Ideal S32768x128 .f32) (b : Fin 8) (kv : Fin 2) (R : ℕ) (d : Fin 64) : EReal :=
  if h : 128 ≤ R ∧ R < 4224 then x (ix2 (⟨4096 * b.val + (R - 128), by omega⟩ : Fin 32768) (colK kv d)) else 0

theorem padA_apply (x : FVec Ideal S32768x128 .f32) (b : Fin 8) (kv : Fin 2) (n : Fin 34) (a : Fin 128) (d : Fin 64) :
    padA x (ix5 b kv n a d) = padded x b kv (128 * n.val + a.val) d := by
  unfold padA padded
  refine (shapeCast_apply _ _ _ (ix4 b kv (⟨128 * n.val + a.val, by omega⟩ : Fin 4352) d) ?_).trans ?_
  · rw [Shape.rowMajor_val_four, Shape.rowMajor_val_five]
    show ((b.val * 2 + kv.val) * 4352 + (128 * n.val + a.val)) * 64 + d.val = (((b.val * 2 + kv.val) * 34 + n.val) * 128 + a.val) * 64 + d.val
    omega
  by_cases h : 128 ≤ 128 * n.val + a.val ∧ 128 * n.val + a.val < 4224
  · rw [dif_pos h]
    refine (pad_apply_of_inside _ _ _ _ _ _ _ _ (ix4 b kv (⟨128 * n.val + a.val - 128, by omega⟩ : Fin 4096) d) ?_).trans ?_
    · intro e
      match e with
      | ⟨0, _⟩ => show b.val = 0 + b.val * (0 + 1); omega
      | ⟨1, _⟩ => show kv.val = 0 + kv.val * (0 + 1); omega
      | ⟨2, _⟩ => show 128 * n.val + a.val = 128 + (128 * n.val + a.val - 128) * (0 + 1); omega
      | ⟨3, _⟩ => show d.val = 0 + d.val * (0 + 1); omega
    refine (transpose_apply _ _ _ _ (ix4 b (⟨128 * n.val + a.val - 128, by omega⟩ : Fin 4096) kv d) ?_).trans ?_
    · intro e
      match e with
      | ⟨0, _⟩ => rfl
      | ⟨1, _⟩ => rfl
      | ⟨2, _⟩ => rfl
      | ⟨3, _⟩ => rfl
    refine shapeCast_apply _ _ _ _ ?_
    rw [Shape.rowMajor_val_four, Shape.rowMajor_val_two]
    show (4096 * b.val + (128 * n.val + a.val - 128)) * 128 + (64 * kv.val + d.val) = ((b.val * 4096 + (128 * n.val + a.val - 128)) * 2 + kv.val) * 64 + d.val
    omega
  · rw [dif_neg h]
    refine (pad_apply_of_not_inside _ _ _ _ _ _ _ _ 2 ?_).trans ?_
    · show ¬ (128 ≤ 128 * n.val + a.val ∧ (128 * n.val + a.val - 128) % (0 + 1) = 0 ∧ (128 * n.val + a.val - 128) / (0 + 1) < 4096)
      omega
    · show ((((0#32 : BitVec 32).toInt : ℤ) : ℝ) : EReal) = 0
      simp

theorem bandA_apply (x : FVec Ideal S32768x128 .f32) (b : Fin 8) (kv : Fin 2) (n : Fin 32) (s : Fin 384) (d : Fin 64) :
    bandA x (ix5 b kv n s d) = padded x b kv (128 * n.val + s.val) d := by
  unfold bandA
  have hs : s.val = 128 * (s.val / 128) + s.val % 128 := by omega
  have piece : ∀ k : Fin 3, s.val / 128 = k.val → padA x (ix5 b kv (⟨n.val + k.val, by omega⟩ : Fin 34) (⟨s.val % 128, by omega⟩ : Fin 128) d) = padded x b kv (128 * n.val + s.val) d := by
    intro k hk
    rw [padA_apply]
    congr 1
    show 128 * (n.val + k.val) + s.val % 128 = _
    omega
  have h3 : s.val / 128 = 0 ∨ s.val / 128 = 1 ∨ s.val / 128 = 2 := by omega
  rcases h3 with h | h | h
  · refine (concatenate_apply_piece (3 : Fin S8x2x32x384x64.rank) _ _ _ 0 (by show 0 < 3; decide) S8x2x32x128x64 _ rfl rfl 0 rfl (ix5 b kv n (⟨s.val % 128, by omega⟩ : Fin 128) d) ?_ ?_).trans ?_
    · intro e he
      match e, he with
      | ⟨0, _⟩, _ => rfl
      | ⟨1, _⟩, _ => rfl
      | ⟨2, _⟩, _ => rfl
      | ⟨3, _⟩, he => exact absurd rfl he
      | ⟨4, _⟩, _ => rfl
    · show 0 + s.val % 128 = s.val; omega
    · refine Eq.trans (extractStridedSlice_apply _ _ _ _ (ix5 b kv (⟨n.val + 0, by omega⟩ : Fin 34) (⟨s.val % 128, by omega⟩ : Fin 128) d) ?_) (piece 0 h)
      intro e
      match e with
      | ⟨0, _⟩ => show b.val = 0 + b.val; omega
      | ⟨1, _⟩ => show kv.val = 0 + kv.val; omega
      | ⟨2, _⟩ => show n.val + 0 = 0 + n.val; omega
      | ⟨3, _⟩ => show s.val % 128 = 0 + s.val % 128; omega
      | ⟨4, _⟩ => show d.val = 0 + d.val; omega
  · refine (concatenate_apply_piece (3 : Fin S8x2x32x384x64.rank) _ _ _ 1 (by show 1 < 3; decide) S8x2x32x128x64 _ rfl rfl 128 rfl (ix5 b kv n (⟨s.val % 128, by omega⟩ : Fin 128) d) ?_ ?_).trans ?_
    · intro e he
      match e, he with
      | ⟨0, _⟩, _ => rfl
      | ⟨1, _⟩, _ => rfl
      | ⟨2, _⟩, _ => rfl
      | ⟨3, _⟩, he => exact absurd rfl he
      | ⟨4, _⟩, _ => rfl
    · show 128 + s.val % 128 = s.val; omega
    · refine Eq.trans (extractStridedSlice_apply _ _ _ _ (ix5 b kv (⟨n.val + 1, by omega⟩ : Fin 34) (⟨s.val % 128, by omega⟩ : Fin 128) d) ?_) (piece 1 h)
      intro e
      match e with
      | ⟨0, _⟩ => show b.val = 0 + b.val; omega
      | ⟨1, _⟩ => show kv.val = 0 + kv.val; omega
      | ⟨2, _⟩ => show n.val + 1 = 1 + n.val; omega
      | ⟨3, _⟩ => show s.val % 128 = 0 + s.val % 128; omega
      | ⟨4, _⟩ => show d.val = 0 + d.val; omega
  · refine (concatenate_apply_piece (3 : Fin S8x2x32x384x64.rank) _ _ _ 2 (by show 2 < 3; decide) S8x2x32x128x64 _ rfl rfl 256 rfl (ix5 b kv n (⟨s.val % 128, by omega⟩ : Fin 128) d) ?_ ?_).trans ?_
    · intro e he
      match e, he with
      | ⟨0, _⟩, _ => rfl
      | ⟨1, _⟩, _ => rfl
      | ⟨2, _⟩, _ => rfl
      | ⟨3, _⟩, he => exact absurd rfl he
      | ⟨4, _⟩, _ => rfl
    · show 256 + s.val % 128 = s.val; omega
    · refine Eq.trans (extractStridedSlice_apply _ _ _ _ (ix5 b kv (⟨n.val + 2, by omega⟩ : Fin 34) (⟨s.val % 128, by omega⟩ : Fin 128) d) ?_) (piece 2 h)
      intro e
      match e with
      | ⟨0, _⟩ => show b.val = 0 + b.val; omega
      | ⟨1, _⟩ => show kv.val = 0 + kv.val; omega
      | ⟨2, _⟩ => show n.val + 2 = 2 + n.val; omega
      | ⟨3, _⟩ => show s.val % 128 = 0 + s.val % 128; omega
      | ⟨4, _⟩ => show d.val = 0 + d.val; omega

/-- The mask at block `n`, row `a`, lane `s`, from the reference's two tables. -/
def maskAt (n : Fin 32) (a : Fin 128) (s : Fin 384) : BitVec 1 := lit0t (384 * a.val + s.val) &&& lit1t (384 * n.val + s.val)

theorem maskA_apply (n : Fin 32) (a : Fin 128) (s : Fin 384) : maskA (ix3 n a s) = maskAt n a s := by
  unfold maskA maskAt
  show (_ &&& _ : BitVec 1) = _
  refine congrArg₂ (· &&& ·) ((broadcastInDim_apply _ _ _ _ (ix3 0 a s) ?_).trans ?_) ((broadcastInDim_apply _ _ _ _ (ix3 n 0 s) ?_).trans ?_)
  · intro e
    match e with
    | ⟨0, _⟩ => rfl
    | ⟨1, _⟩ => rfl
    | ⟨2, _⟩ => rfl
  · show lit0t (S1x128x384.rowMajor (ix3 0 a s)).val = _
    refine congrArg lit0t ?_
    rw [Shape.rowMajor_val_three]
    show (0 * 128 + a.val) * 384 + s.val = _
    omega
  · intro e
    match e with
    | ⟨0, _⟩ => rfl
    | ⟨1, _⟩ => rfl
    | ⟨2, _⟩ => rfl
  · show lit1t (S32x1x384.rowMajor (ix3 n 0 s)).val = _
    refine congrArg lit1t ?_
    rw [Shape.rowMajor_val_three]
    show (n.val * 1 + 0) * 384 + s.val = _
    omega

/-- The bucket of lane `s` of row `a`, when it is a small number. -/
theorem buckA_apply (a : Fin 128) (s : Fin 384) (h : (lit2t (384 * a.val + s.val)).toNat < 32) : buckA (ix3 a s 0) = lit2t (384 * a.val + s.val) := by
  unfold buckA
  refine (broadcastInDim_apply _ _ _ _ (ix2 a s) ?_).trans ?_
  · intro e
    match e with
    | ⟨0, _⟩ => rfl
    | ⟨1, _⟩ => rfl
  · have e2 : lit2 (S128x384.rowMajor (ix2 a s)) = lit2t (384 * a.val + s.val) := by
      show lit2t (S128x384.rowMajor (ix2 a s)).val = _
      refine congrArg lit2t ?_
      rw [Shape.rowMajor_val_two]
      show a.val * 384 + s.val = _
      omega
    show Scalar.select (IntOp.cmpi .slt (lit2 (S128x384.rowMajor (ix2 a s))) 0#32) _ (lit2 (S128x384.rowMajor (ix2 a s))) = _
    rw [e2]
    have hz : IntOp.cmpi .slt (lit2t (384 * a.val + s.val)) 0#32 = 0#1 := by
      generalize lit2t (384 * a.val + s.val) = w at h
      have : w.slt 0#32 = false := by
        rw [BitVec.slt, decide_eq_false_iff_not]
        have : w.toInt = w.toNat := BitVec.toInt_eq_toNat_of_lt (by omega)
        rw [this]
        show ¬ ((w.toNat : ℤ) < 0)
        omega
      show BitVec.ofBool (w.slt 0#32) = _
      rw [this]; rfl
    rw [hz]
    rfl

end Cert.Proof.SwaRef

end
-- ==== Proof.SwaTables.lean ====
/-
  The tables of the two programs, entry by entry: what the reference's mask says of the kernel's bucket numbers and of its
  three edge cases.
-/
module

public import proofs.«01_k».proof.Proof.SwaMapA
public import proofs.«01_k».proof.Proof.SwaMapB
public import proofs.«01_k».proof.Proof.SwaMapC
public import proofs.«01_k».proof.Proof.SwaMapE
public import proofs.«01_k».proof.Proof.SwaArray
public import proofs.«01_k».proof.Proof.SwaRefVal

@[expose] public section

set_option maxRecDepth 16384

noncomputable section

namespace Cert.Proof.Swa

open Idealize.ShloMosaic Idealize.ShloMosaic.TcCoe

/-- Every entry of the kernel's table agrees with the reference's two. -/
theorem agree_at (i : ℕ) (hi : i < 49152) : agree (Cert.SwaRefIdeal.lit0t i) (Cert.SwaIdeal.lit0t i) (Cert.SwaRefIdeal.lit2t i) = true := by
  have h : i / 2048 < 24 := by omega
  have lo : 2048 * (i / 2048) ≤ i := by omega
  have hi' : i < 2048 * (i / 2048) + 2048 := by omega
  generalize i / 2048 = k at h lo hi'
  have all : ∀ k : Fin 24, stretch (2048 * k.val) = true := fun k => match k with
    | ⟨0, _⟩ => stretch0 | ⟨1, _⟩ => stretch1 | ⟨2, _⟩ => stretch2 | ⟨3, _⟩ => stretch3
    | ⟨4, _⟩ => stretch4 | ⟨5, _⟩ => stretch5 | ⟨6, _⟩ => stretch6 | ⟨7, _⟩ => stretch7
    | ⟨8, _⟩ => stretch8 | ⟨9, _⟩ => stretch9 | ⟨10, _⟩ => stretch10 | ⟨11, _⟩ => stretch11
    | ⟨12, _⟩ => stretch12 | ⟨13, _⟩ => stretch13 | ⟨14, _⟩ => stretch14 | ⟨15, _⟩ => stretch15
    | ⟨16, _⟩ => stretch16 | ⟨17, _⟩ => stretch17 | ⟨18, _⟩ => stretch18 | ⟨19, _⟩ => stretch19
    | ⟨20, _⟩ => stretch20 | ⟨21, _⟩ => stretch21 | ⟨22, _⟩ => stretch22 | ⟨23, _⟩ => stretch23
    | ⟨k + 24, h⟩ => absurd h (by omega)
  exact of_stretch _ (all ⟨k, h⟩) i lo hi'

/-- The reference's other mask is whether the key's position is within the batch entry. -/
theorem edge_at (n t : ℕ) (hn : n < 32) (ht : t < 384) :
    (Cert.SwaRefIdeal.lit1t (384 * n + t) == 1#1) = (Nat.ble 128 (128 * n + t) && Nat.blt (128 * n + t) 4224) := by
  have h : n / 8 < 4 := by omega
  have lo : 8 * (n / 8) ≤ n := by omega
  have hi' : n < 8 * (n / 8) + 8 := by omega
  generalize n / 8 = k at h lo hi'
  have all : ∀ k : Fin 4, edges (8 * k.val) = true := fun k => match k with
    | ⟨0, _⟩ => edges0 | ⟨1, _⟩ => edges1 | ⟨2, _⟩ => edges2 | ⟨3, _⟩ => edges3
    | ⟨k + 4, h⟩ => absurd h (by omega)
  exact of_edges _ (all ⟨k, h⟩) n t lo hi' ht

/-- The kernel's bucket number at row `a` and lane `t`. -/
theorem bucket_eq (a : Fin 128) (t : Fin 384) : bucket a t = Cert.SwaIdeal.lit0t (384 * a.val + t.val) := by
  unfold bucket
  show Cert.SwaIdeal.lit0t (Cert.SwaIdeal.S128x384.rowMajor (ValueIdx.ix2 a t)).val = _
  refine congrArg Cert.SwaIdeal.lit0t ?_
  rw [Shape.rowMajor_val_two]
  show a.val * 384 + t.val = _
  omega

/-- The three edge cases are whether the key's position is within the batch entry. -/
theorem table_ok_iff (n : Fin 32) (t : Fin 384) : table_ok (Pt.tab n.val) t ↔ 128 ≤ 128 * n.val + t.val ∧ 128 * n.val + t.val < 4224 := by
  unfold table_ok Pt.tab
  by_cases h0 : n.val = 0
  · rw [if_pos h0]
    constructor
    · rintro ⟨h, -⟩
      have := h rfl
      omega
    · intro h
      exact ⟨fun _ => by omega, fun h2 => absurd (congrArg Fin.val h2) (show ¬ (0 : ℕ) = 2 by decide)⟩
  · rw [if_neg h0]
    by_cases h1 : n.val = 31
    · rw [if_pos h1]
      constructor
      · rintro ⟨-, h⟩
        have := h rfl
        omega
      · intro h
        exact ⟨fun h2 => absurd (congrArg Fin.val h2) (show ¬ (2 : ℕ) = 0 by decide), fun _ => by omega⟩
    · rw [if_neg h1]
      constructor
      · intro _
        omega
      · intro _
        exact ⟨fun h2 => absurd (congrArg Fin.val h2) (show ¬ (1 : ℕ) = 0 by decide), fun h2 => absurd (congrArg Fin.val h2) (show ¬ (1 : ℕ) = 2 by decide)⟩

/-- A conjunction of two bits is set when both are. -/
theorem and_bit (x y : BitVec 1) : x &&& y = 1#1 ↔ (x == 1#1) = true ∧ (y == 1#1) = true := by
  revert x y
  decide

/-- Where the mask is set, the kernel's bucket number is the reference's, a small one, and its edge case keeps the lane. -/
theorem mask_on (n : Fin 32) (a : Fin 128) (t : Fin 384) (h : SwaRef.maskAt n a t = 1#1) :
    (128 ≤ 128 * n.val + t.val ∧ 128 * n.val + t.val < 4224) ∧ bucket a t = Cert.SwaRefIdeal.lit2t (384 * a.val + t.val) ∧ (Cert.SwaRefIdeal.lit2t (384 * a.val + t.val)).toNat < 32 := by
  obtain ⟨h0, h1⟩ := (and_bit _ _).mp h
  have e := agree_at (384 * a.val + t.val) (by omega)
  rw [edge_at n.val t.val n.isLt t.isLt, Bool.and_eq_true] at h1
  rw [bucket_eq]
  unfold agree at e
  rw [h0, cond_true, Bool.and_eq_true] at e
  exact ⟨⟨Nat.le_of_ble_eq_true h1.1, Nat.blt_eq.mp h1.2⟩, eq_of_beq e.1, Nat.blt_eq.mp e.2⟩

/-- Where it is not, the kernel's bucket number is out of range or its edge case drops the lane. -/
theorem mask_off (n : Fin 32) (a : Fin 128) (t : Fin 384) (h : ¬ SwaRef.maskAt n a t = 1#1) :
    ¬ ((128 ≤ 128 * n.val + t.val ∧ 128 * n.val + t.val < 4224) ∧ (bucket a t).toNat < 32) := by
  rintro ⟨⟨h1, h2⟩, h3⟩
  refine h ((and_bit _ _).mpr ⟨?_, ?_⟩)
  · have e := agree_at (384 * a.val + t.val) (by omega)
    rw [bucket_eq] at h3
    unfold agree at e
    by_contra hb
    rw [Bool.not_eq_true] at hb
    rw [hb, cond_false] at e
    have := Nat.le_of_ble_eq_true e
    omega
  · rw [edge_at n.val t.val n.isLt t.isLt, Bool.and_eq_true]
    exact ⟨Nat.ble_eq.mpr h1, Nat.blt_eq.mpr h2⟩

end Cert.Proof.Swa

end
-- ==== Proof.SwaSoftmax.lean ====
/-
  The arithmetic of a row of a softmax with a sink: dividing the weighted sum by the denominator is weighting by the
  divided exponentials.
-/
module

public import Idealize.ShloMosaic.PureOps.Ideal

@[expose] public section

set_option maxRecDepth 16384

noncomputable section

namespace Cert.Proof.Swa

open Idealize.ShloMosaic

theorem exp_nonneg (x : EReal) : 0 ≤ Ideal.exp x := by
  induction x using EReal.rec with
  | bot => exact le_refl _
  | top => exact le_top
  | coe r => exact EReal.coe_nonneg.mpr (Real.exp_pos r).le

theorem exp_ne_top {x : EReal} (h : x ≠ ⊤) : Ideal.exp x ≠ ⊤ := by
  induction x using EReal.rec with
  | bot => exact EReal.zero_ne_top
  | top => exact absurd rfl h
  | coe r => exact EReal.coe_ne_top _

theorem exp_pos {x : EReal} (h : x ≠ ⊥) : 0 < Ideal.exp x := by
  induction x using EReal.rec with
  | bot => exact absurd rfl h
  | top => exact EReal.zero_lt_top
  | coe r => exact EReal.coe_pos.mpr (Real.exp_pos r)

/-- A finite sum of numbers below infinity is below it. -/
theorem sum_ne_top {ι : Type} (s : Finset ι) (f : ι → EReal) (h : ∀ i ∈ s, f i ≠ ⊤) : ∑ i ∈ s, f i ≠ ⊤ := by
  classical
  induction s using Finset.induction_on with
  | empty => rw [Finset.sum_empty]; exact EReal.zero_ne_top
  | insert a s ha ih =>
    rw [Finset.sum_insert ha]
    exact EReal.add_ne_top (h a (Finset.mem_insert_self a s)) (ih fun i hi => h i (Finset.mem_insert_of_mem hi))

/-- A factor that is nonnegative and below infinity goes into a sum. -/
theorem sum_mul_of_nonneg {ι : Type} (s : Finset ι) (f : ι → EReal) (c : EReal) (h0 : 0 ≤ c) (h1 : c ≠ ⊤) :
    (∑ i ∈ s, f i) * c = ∑ i ∈ s, f i * c := by
  classical
  induction s using Finset.induction_on with
  | empty => rw [Finset.sum_empty, Finset.sum_empty, zero_mul]
  | insert a s ha ih => rw [Finset.sum_insert ha, Finset.sum_insert ha, EReal.right_distrib_of_nonneg_of_ne_top h0 h1, ih]

/-- The weighted sum over the denominator is the sum weighted by the quotients. -/
theorem weighted_div {n : ℕ} (E V : Fin n → EReal) (s z : EReal) (hz : z = 0) (hE0 : ∀ t, 0 ≤ E t) (hE : ∀ t, E t ≠ ⊤) (hs : 0 < s) (hs' : s ≠ ⊤) :
    Ideal.div (∑ t, E t * V t) ((∑ t, E t) + s) = ∑ t, V t * Ideal.div (E t) ((z + ∑ t, E t) + s) := by
  subst hz
  rw [zero_add]
  have hpos : 0 < (∑ t, E t) + s := lt_of_lt_of_le hs (le_add_of_nonneg_left (Finset.sum_nonneg fun t _ => hE0 t))
  have htop : (∑ t, E t) + s ≠ ⊤ := EReal.add_ne_top (sum_ne_top _ _ fun t _ => hE t) hs'
  generalize (∑ t, E t) + s = D at hpos htop
  have hbot : D ≠ ⊥ := fun h => absurd (h ▸ hpos) (not_lt_bot)
  lift D to ℝ using ⟨htop, hbot⟩
  have hr : 0 < D := EReal.coe_pos.mp hpos
  have hc0 : (0 : EReal) ≤ ((D : EReal))⁻¹ := by rw [← EReal.coe_inv]; exact EReal.coe_nonneg.mpr (inv_pos.mpr hr).le
  have hc1 : ((D : EReal))⁻¹ ≠ ⊤ := by rw [← EReal.coe_inv]; exact EReal.coe_ne_top _
  unfold Ideal.div
  simp only [if_neg hpos.ne']
  rw [sum_mul_of_nonneg _ _ _ hc0 hc1]
  refine Finset.sum_congr rfl fun t _ => ?_
  rw [mul_comm (E t), mul_assoc]

/-- One row: the logits below infinity, the sink a number. -/
theorem row_div {n : ℕ} (L V : Fin n → EReal) (S z : EReal) (hz : z = 0) (b : EReal) (hb : b ≠ ⊤) (hL : ∀ t, L t ≠ ⊤) (hS : S ≠ ⊤) (hS' : S ≠ ⊥) (M : EReal) (hM : M = max (Finset.univ.fold max b L) S) :
    Ideal.div (∑ t, Ideal.exp (L t - M) * V t) ((∑ t, Ideal.exp (L t - M)) + Ideal.exp (S - M))
      = ∑ t, V t * Ideal.div (Ideal.exp (L t - M)) ((z + ∑ t, Ideal.exp (L t - M)) + Ideal.exp (S - M)) := by
  have hMt : M ≠ ⊤ := by
    rw [hM]
    exact (max_lt ((Finset.fold_max_lt (c := (⊤ : EReal))).mpr ⟨lt_top_iff_ne_top.mpr hb, fun t _ => lt_top_iff_ne_top.mpr (hL t)⟩) (lt_top_iff_ne_top.mpr hS)).ne
  have hMb : M ≠ ⊥ := by
    rw [hM]
    exact (lt_of_lt_of_le (bot_lt_iff_ne_bot.mpr hS') (le_max_right _ _)).ne'
  lift M to ℝ using ⟨hMt, hMb⟩
  have hsub : ∀ x : EReal, x ≠ ⊤ → x - (M : EReal) ≠ ⊤ := by
    intro x hx
    induction x using EReal.rec with
    | bot => rw [EReal.bot_sub]; exact bot_ne_top
    | top => exact absurd rfl hx
    | coe r => rw [← EReal.coe_sub]; exact EReal.coe_ne_top _
  refine weighted_div _ _ _ _ hz (fun t => exp_nonneg _) (fun t => exp_ne_top (hsub _ (hL t))) (exp_pos ?_) (exp_ne_top (hsub _ hS))
  lift S to ℝ using ⟨hS, hS'⟩
  rw [← EReal.coe_sub]
  exact EReal.coe_ne_bot _

end Cert.Proof.Swa

end
-- ==== Proof.SwaHead.lean ====
/-
  One head of a grid point's attention: of the two halves of a pair's rows and lanes only the head's own contributes.
-/
module

public import proofs.«01_k».proof.Proof.SwaState

@[expose] public section

set_option maxRecDepth 16384

noncomputable section

namespace Cert.Proof.Swa

open Cert.SwaIdeal Cert.SwaIdeal.Gen
open Idealize.ShloMosaic Idealize.ShloMosaic.TcCoe

/-- A sum of which only one half is not zero. -/
theorem sum_half {n : ℕ} (f : Fin (n + n) → EReal) (e : Fin 2)
    (hz : ∀ (e' : Fin 2) (d : Fin n), e' ≠ e → f ⟨n * e'.val + d.val, by have := d.isLt; have h : n * e'.val ≤ n * 1 := Nat.mul_le_mul_left n (by omega); omega⟩ = 0) :
    ∑ i, f i = ∑ d : Fin n, f ⟨n * e.val + d.val, by have := d.isLt; have h : n * e.val ≤ n * 1 := Nat.mul_le_mul_left n (by omega); omega⟩ := by
  rw [Fin.sum_univ_add]
  match e with
  | ⟨0, _⟩ =>
    have h2 : ∑ d : Fin n, f (Fin.natAdd n d) = 0 := Finset.sum_eq_zero fun d _ =>
      (congrArg f (Fin.ext (show n + d.val = n * 1 + d.val by omega))).trans (hz 1 d fun h => absurd (congrArg Fin.val h) (show ¬ (1 : ℕ) = 0 by decide))
    rw [h2, add_zero]
    exact Finset.sum_congr rfl fun d _ => congrArg f (Fin.ext (show d.val = n * 0 + d.val by omega))
  | ⟨1, _⟩ =>
    have h2 : ∑ d : Fin n, f (Fin.castAdd n d) = 0 := Finset.sum_eq_zero fun d _ =>
      (congrArg f (Fin.ext (show d.val = n * 0 + d.val by omega))).trans (hz 0 d fun h => absurd (congrArg Fin.val h) (show ¬ (0 : ℕ) = 1 by decide))
    rw [h2, zero_add]
    exact Finset.sum_congr rfl fun d _ => congrArg f (Fin.ext (show n + d.val = n * 1 + d.val by omega))

section Head

variable (P : Pt) (j : ℕ) (y z : FVec Ideal S4096x128 .bf16)
  (hka : P.ka = keyA j y) (hkb : P.kb = keyB j y) (hva : P.va = valA j z) (hvb : P.vb = valB j z)

include hka hkb in
theorem kx_head (n e e' t d : ℕ) (he : e < 2) (he' : e' < 2) (ht : t < 384) (hd : d < 64) :
    P.kx n (384 * e + t) (64 * e' + d) = if e' = e then padAt y (128 * n + t) (64 * j + d) else 0 := by
  have h1 : (64 * e' + d) % 64 = d := by omega
  unfold Pt.kx
  rw [hka, hkb]
  unfold keyA keyB
  rw [h1]
  have h2 : e = 0 ∨ e = 1 := by omega
  have h3 : e' = 0 ∨ e' = 1 := by omega
  rcases h2 with rfl | rfl <;> rcases h3 with rfl | rfl <;> split_ifs <;> first | rfl | (exfalso; omega) | (congr 1; omega)

include hva hvb in
theorem vx_head (n e e' t d : ℕ) (he : e < 2) (he' : e' < 2) (ht : t < 384) (hd : d < 64) :
    P.vx n (384 * e + t) (64 * e' + d) = if e' = e then padAt z (128 * n + t) (64 * j + d) else 0 := by
  have hl : 64 * e' + d < 128 := by omega
  unfold Pt.vx
  rw [hva, hvb]
  unfold valA valB
  rw [if_pos hl, if_pos hl]
  exact kx_head { P with ka := keyA j z, kb := keyB j z } j z rfl rfl n e e' t d he he' ht hd

include hva hvb in
theorem ones_head (n e e' t d : ℕ) (he : e < 2) (he' : e' < 2) (ht : t < 384) (hd : d < 64) :
    P.vx n (384 * e + t) (128 + (64 * e' + d)) = if e' = e then oneAt (128 * n + t) else 0 := by
  unfold Pt.vx
  rw [hva, hvb]
  unfold valA valB
  have h2 : e = 0 ∨ e = 1 := by omega
  have h3 : e' = 0 ∨ e' = 1 := by omega
  rcases h2 with rfl | rfl <;> rcases h3 with rfl | rfl <;> split_ifs <;> first | rfl | (exfalso; omega) | (congr 1; omega)

/-- A head's logit: 64 products and its bias. -/
def headLg (n : ℕ) (p e : Fin 2) (a : Fin 128) (t : Fin 384) : EReal :=
  (∑ d : Fin 64, P.qAt (128 * n + a.val) (128 * p.val + (64 * e.val + d.val)) * padAt y (128 * n + t.val) (64 * j + d.val)) + P.bias (ix4 (Pt.tab n) p a (⟨384 * e.val + t.val, by omega⟩ : Fin 768))

/-- A head's maximum, its sink included. -/
def headMx (n : ℕ) (p e : Fin 2) (a : Fin 128) : EReal := max (rmax fun t : Fin 384 => headLg P j y n p e a t) (P.sink (2 * p.val + e.val))

include hka hkb in
theorem lg_head (n : ℕ) (p e : Fin 2) (a : Fin 128) (t : Fin 384) : P.lg n p a ⟨384 * e.val + t.val, by omega⟩ = headLg P j y n p e a t := by
  unfold Pt.lg headLg
  refine congrArg (fun x : EReal => x + P.bias (ix4 (Pt.tab n) p a (⟨384 * e.val + t.val, by omega⟩ : Fin 768))) ?_
  refine (sum_half (n := 64) (fun l : Fin 128 => P.qAt (128 * n + a.val) (128 * p.val + l.val) * P.kx n (384 * e.val + t.val) l.val) e ?_).trans ?_
  · intro e' d hne
    show P.qAt _ _ * P.kx n (384 * e.val + t.val) (64 * e'.val + d.val) = 0
    rw [kx_head P j y hka hkb n e.val e'.val t.val d.val e.isLt e'.isLt t.isLt d.isLt, if_neg fun h => hne (Fin.ext h), mul_zero]
  · refine Finset.sum_congr rfl fun d _ => ?_
    show P.qAt _ _ * P.kx n (384 * e.val + t.val) (64 * e.val + d.val) = _
    rw [kx_head P j y hka hkb n e.val e.val t.val d.val e.isLt e.isLt t.isLt d.isLt, if_pos rfl]

include hka hkb in
theorem mx_head (n : ℕ) (p e : Fin 2) (a : Fin 128) : P.mx n p a e = headMx P j y n p e a := by
  unfold Pt.mx headMx
  simp only [lg_head P j y hka hkb n p e a]

include hka hkb in
theorem pr_head (n : ℕ) (p e : Fin 2) (a : Fin 128) (t : Fin 384) : P.pr n p a ⟨384 * e.val + t.val, by omega⟩ = Ideal.exp (headLg P j y n p e a t - headMx P j y n p e a) := by
  unfold Pt.pr
  rw [lg_head P j y hka hkb n p e a t]
  have he : (⟨(384 * e.val + t.val) / 384, by omega⟩ : Fin 2) = e := Fin.ext (by show (384 * e.val + t.val) / 384 = e.val; omega)
  show Ideal.exp (_ - P.mx n p a (⟨(384 * e.val + t.val) / 384, _⟩ : Fin 2)) = _
  rw [he, mx_head P j y hka hkb]

include hka hkb hva hvb in
/-- A head's output lane. -/
theorem out_head (n : ℕ) (p e : Fin 2) (a : Fin 128) (d : Fin 64) :
    P.out n p a ⟨64 * e.val + d.val, by omega⟩
      = Ideal.div (∑ t : Fin 384, Ideal.exp (headLg P j y n p e a t - headMx P j y n p e a) * padAt z (128 * n + t.val) (64 * j + d.val))
        ((∑ t : Fin 384, Ideal.exp (headLg P j y n p e a t - headMx P j y n p e a) * oneAt (128 * n + t.val)) + Ideal.exp (P.sink (2 * p.val + e.val) - headMx P j y n p e a)) := by
  unfold Pt.out
  refine congrArg₂ Ideal.div ?_ (congrArg₂ (fun x y : EReal => x + y) ?_ ?_)
  · refine (sum_half (n := 384) (fun s : Fin 768 => P.pr n p a s * P.vx n s.val (64 * e.val + d.val)) e ?_).trans ?_
    · intro e' t hne
      show _ * P.vx n (384 * e'.val + t.val) (64 * e.val + d.val) = 0
      rw [vx_head P j z hva hvb n e'.val e.val t.val d.val e'.isLt e.isLt t.isLt d.isLt, if_neg fun h => hne (Fin.ext h.symm), mul_zero]
    · refine Finset.sum_congr rfl fun t _ => ?_
      show P.pr n p a ⟨384 * e.val + t.val, _⟩ * P.vx n (384 * e.val + t.val) (64 * e.val + d.val) = _
      rw [vx_head P j z hva hvb n e.val e.val t.val d.val e.isLt e.isLt t.isLt d.isLt, if_pos rfl, pr_head P j y hka hkb]
  · refine (sum_half (n := 384) (fun s : Fin 768 => P.pr n p a s * P.vx n s.val (128 + (64 * e.val + d.val))) e ?_).trans ?_
    · intro e' t hne
      show _ * P.vx n (384 * e'.val + t.val) (128 + (64 * e.val + d.val)) = 0
      rw [ones_head P j z hva hvb n e'.val e.val t.val d.val e'.isLt e.isLt t.isLt d.isLt, if_neg fun h => hne (Fin.ext h.symm), mul_zero]
    · refine Finset.sum_congr rfl fun t _ => ?_
      show P.pr n p a ⟨384 * e.val + t.val, _⟩ * P.vx n (384 * e.val + t.val) (128 + (64 * e.val + d.val)) = _
      rw [ones_head P j z hva hvb n e.val e.val t.val d.val e.isLt e.isLt t.isLt d.isLt, if_pos rfl, pr_head P j y hka hkb]
  · unfold Pt.st Pt.sk
    have he : (⟨(64 * e.val + d.val) / 64, by omega⟩ : Fin 2) = e := Fin.ext (by show (64 * e.val + d.val) / 64 = e.val; omega)
    show Ideal.exp (P.sink (2 * p.val + (⟨(64 * e.val + d.val) / 64, _⟩ : Fin 2).val) - P.mx n p a (⟨(64 * e.val + d.val) / 64, _⟩ : Fin 2)) = _
    rw [he, mx_head P j y hka hkb]

end Head

end Cert.Proof.Swa

end
-- ==== Proof.SwaRefBias.lean ====
/-
  The reference attention's bias at an entry.
-/
module

public import proofs.«01_k».proof.Proof.SwaRefVal
public import Idealize.ShloMosaic.Lib.Pointwise.Reduce
public import Idealize.ShloMosaic.Lib.Pointwise.ElementwiseCore

@[expose] public section

set_option maxRecDepth 16384

noncomputable section

namespace Cert.Proof.SwaRef

open Cert.SwaRefIdeal Cert.SwaRefIdeal.Gen
open Idealize.ShloMosaic hiding ix1 ix2 ix3 ix4 ix5 ix6
open Idealize.ShloMosaic.TcCoe Idealize.ShloMosaic.ValueIdx

/-- The gather of the bias table reads whole rows of it at the given row numbers. -/
theorem rows_apply (x : FVec Ideal S32x8 .f32) (idx : IVec S128x384x1 32) (a : Fin 128) (s : Fin 384) (h : Fin 8) :
    Host.gather gather_S32x8_S128x384x1_S128x384x8_2_0_n_n_0_2_18 x idx (ix3 a s h) = x (ix2 (⟨min (idx (ix3 a s 0)).toInt.toNat 31, by omega⟩ : Fin 32) h) := by
  let G := gather_S32x8_S128x384x1_S128x384x8_2_0_n_n_0_2_18
  unfold Host.gather
  congr 1
  funext e
  refine Fin.ext ?_
  show G.start (ix3 a s h) idx e + G.batchCoord (ix3 a s h) e + G.offCoord (ix3 a s h) e = _
  rw [GatherDims.batchCoord_eq_zero _ _ _ (show e ∉ ([] : List (Fin 2)) from List.not_mem_nil)]
  have h01 : e = 0 ∨ e = 1 := by
    match e with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ G.startIndexMap from List.mem_singleton.mpr rfl)]
    have hsi : G.siIdx (ix3 a s h) ⟨List.idxOf (0 : Fin 2) G.startIndexMap, List.idxOf_lt_length_iff.2 (List.mem_singleton.mpr rfl)⟩ = ix3 a s 0 := by
      funext b; refine Fin.ext ?_
      match b with
      | ⟨0, _⟩ => rfl
      | ⟨1, _⟩ => rfl
      | ⟨2, _⟩ => rfl
    rw [hsi]
    rfl
  · unfold GatherDims.start
    rw [dif_neg (show (1 : Fin 2) ∉ G.startIndexMap by decide)]
    simp only [Nat.zero_add]
    unfold GatherDims.offCoord
    rw [dif_pos (show (1 : Fin 2) ∈ G.sKept by decide)]
    rfl

/-- The bias of a head at row `a` and lane `s`, when its bucket is a small number. -/
theorem biasA_apply (x : FVec Ideal S32x8 .f32) (kv : Fin 2) (g : Fin 4) (a : Fin 128) (s : Fin 384) (h : (lit2t (384 * a.val + s.val)).toNat < 32) :
    biasA x (ix5 kv g 0 a s) = x (ix2 (⟨(lit2t (384 * a.val + s.val)).toNat, h⟩ : Fin 32) (headAt kv g)) := by
  unfold biasA
  refine (shapeCast_apply _ _ _ (ix3 (headAt kv g) a s) ?_).trans ?_
  · rw [Shape.rowMajor_val_three, Shape.rowMajor_val_five]
    show ((4 * kv.val + g.val) * 128 + a.val) * 384 + s.val = (((kv.val * 4 + g.val) * 1 + 0) * 128 + a.val) * 384 + s.val
    omega
  refine (transpose_apply _ _ _ _ (ix3 a s (headAt kv g)) ?_).trans ?_
  · intro e
    match e with
    | ⟨0, _⟩ => rfl
    | ⟨1, _⟩ => rfl
    | ⟨2, _⟩ => rfl
  refine (rows_apply _ _ a s _).trans (congrArg (fun r => x (ix2 r (headAt kv g))) (Fin.ext ?_))
  refine (congrArg (fun w : BitVec 32 => min w.toInt.toNat 31) (buckA_apply a s h)).trans ?_
  generalize lit2t (384 * a.val + s.val) = w at h ⊢
  show min w.toInt.toNat 31 = w.toNat
  rw [BitVec.toInt_eq_toNat_of_lt (by omega)]
  omega

end Cert.Proof.SwaRef

end
-- ==== Proof.SwaRefDot.lean ====
/-
  The reference attention's sinks and products of queries and keys at an entry.
-/
module

public import proofs.«01_k».proof.Proof.SwaRefVal
public import Idealize.ShloMosaic.Lib.Pointwise.Reduce
public import Idealize.ShloMosaic.Lib.Pointwise.ElementwiseCore

@[expose] public section

set_option maxRecDepth 16384

noncomputable section

namespace Cert.Proof.SwaRef

open Cert.SwaRefIdeal Cert.SwaRefIdeal.Gen
open Idealize.ShloMosaic hiding ix1 ix2 ix3 ix4 ix5 ix6
open Idealize.ShloMosaic.TcCoe Idealize.ShloMosaic.ValueIdx

theorem sinkA_apply (x : FVec Ideal S8 .f32) (b : Fin 8) (kv : Fin 2) (g : Fin 4) (n : Fin 32) (a : Fin 128) :
    sinkA x (ix6 b kv g n a 0) = x (ix1 (headAt kv g)) := by
  unfold sinkA
  refine (broadcastInDim_apply _ _ _ _ (ix6 (0 : Fin 1) kv g (0 : Fin 1) (0 : Fin 1) (0 : Fin 1)) ?_).trans ?_
  · intro e
    match e with
    | ⟨0, _⟩ => rfl
    | ⟨1, _⟩ => rfl
    | ⟨2, _⟩ => rfl
    | ⟨3, _⟩ => rfl
    | ⟨4, _⟩ => rfl
    | ⟨5, _⟩ => rfl
  refine (broadcastInDim_apply _ _ _ _ (ix5 kv g (0 : Fin 1) (0 : Fin 1) (0 : Fin 1)) ?_).trans ?_
  · intro e
    match e with
    | ⟨0, _⟩ => rfl
    | ⟨1, _⟩ => rfl
    | ⟨2, _⟩ => rfl
    | ⟨3, _⟩ => rfl
    | ⟨4, _⟩ => rfl
  refine shapeCast_apply _ _ _ _ ?_
  rw [Shape.rowMajor_val_one, Shape.rowMajor_val_five]
  show 4 * kv.val + g.val = (((kv.val * 4 + g.val) * 1 + 0) * 1 + 0) * 1 + 0
  omega

theorem qkA_apply (q : FVec Ideal S8x2x4x32x128x64 .f32) (k : FVec Ideal S8x2x32x384x64 .f32) (b : Fin 8) (kv : Fin 2) (g : Fin 4) (n : Fin 32) (a : Fin 128) (s : Fin 384) :
    qkA q k (ix6 b kv g n a s) = ∑ d : Fin 64, k (ix5 b kv n s d) * q (ix6 b kv g n a d) := by
  let D := dot_S8x2x32x384x64_S8x2x4x32x128x64_S8x2x32x384x4x128_4_5_3_24_012_013
  have hr : D.contr.rank = 1 := rfl
  have hs : D.contr.size ⟨0, by rw [hr]; omega⟩ = 64 := rfl
  unfold qkA
  refine (transpose_apply _ _ _ _ (ix6 b kv n s g a) ?_).trans ?_
  · intro e
    match e with
    | ⟨0, _⟩ => rfl
    | ⟨1, _⟩ => rfl
    | ⟨2, _⟩ => rfl
    | ⟨3, _⟩ => rfl
    | ⟨4, _⟩ => rfl
    | ⟨5, _⟩ => rfl
  simp only [Host.dotGeneral]
  rw [Ideal.dotGeneral_apply, ← Equiv.sum_comp (contrEquiv1 D 64 hr hs).symm]
  refine Finset.sum_congr rfl fun d _ => ?_
  have h0 := contrEquiv1_symm_val D 64 hr hs d
  refine congrArg₂ (fun (x y : EReal) => x * y) (congrArg k ?_) (congrArg q ?_)
  · funext e; apply Fin.ext
    match e with
    | ⟨0, _⟩ => rfl
    | ⟨1, _⟩ => rfl
    | ⟨2, _⟩ => rfl
    | ⟨3, _⟩ => rfl
    | ⟨4, _⟩ => exact h0
  · funext e; apply Fin.ext
    match e with
    | ⟨0, _⟩ => rfl
    | ⟨1, _⟩ => rfl
    | ⟨2, _⟩ => rfl
    | ⟨3, _⟩ => rfl
    | ⟨4, _⟩ => rfl
    | ⟨5, _⟩ => exact h0

end Cert.Proof.SwaRef

end
-- ==== Proof.SwaRefLog.lean ====
/-
  The reference attention's masked logits at an entry.
-/
module

public import proofs.«01_k».proof.Proof.SwaRefVal
public import Idealize.ShloMosaic.Lib.Pointwise.Reduce
public import Idealize.ShloMosaic.Lib.Pointwise.ElementwiseCore

@[expose] public section

set_option maxRecDepth 16384

noncomputable section

namespace Cert.Proof.SwaRef

open Cert.SwaRefIdeal Cert.SwaRefIdeal.Gen
open Idealize.ShloMosaic hiding ix1 ix2 ix3 ix4 ix5 ix6
open Idealize.ShloMosaic.TcCoe Idealize.ShloMosaic.ValueIdx

theorem logA_apply (qk : FVec Ideal S8x2x4x32x128x384 .f32) (bi : FVec Ideal S2x4x1x128x384 .f32) (b : Fin 8) (kv : Fin 2) (g : Fin 4) (n : Fin 32) (a : Fin 128) (s : Fin 384) :
    logA qk bi (ix6 b kv g n a s) = Scalar.select (maskAt n a s) ((qk (ix6 b kv g n a s) : EReal) * Ideal.ofBits .f32 0x3E000000#32 + (bi (ix5 kv g 0 a s) : EReal)) (Ideal.ofBits .f32 0xFF800000#32) := by
  unfold logA
  show Scalar.select _ ((_ : EReal) * _ + _) _ = _
  have e1 : broadcastInDim S8x2x4x32x128x384 ![3, 4, 5] bcast_S32x128x384_S8x2x4x32x128x384_3_4_5 maskA (ix6 b kv g n a s) = maskAt n a s := by
    refine (broadcastInDim_apply _ _ _ _ (ix3 n a s) ?_).trans (maskA_apply n a s)
    intro e
    match e with
    | ⟨0, _⟩ => rfl
    | ⟨1, _⟩ => rfl
    | ⟨2, _⟩ => rfl
  have e2 : broadcastInDim S8x2x4x32x128x384 ![0, 1, 2, 3, 4, 5] bcast_S1x2x4x1x128x384_S8x2x4x32x128x384_0_1_2_3_4_5 (broadcastInDim S1x2x4x1x128x384 ![1, 2, 3, 4, 5] bcast_S2x4x1x128x384_S1x2x4x1x128x384_1_2_3_4_5 bi) (ix6 b kv g n a s) = bi (ix5 kv g 0 a s) := by
    refine (broadcastInDim_apply _ _ _ _ (ix6 (0 : Fin 1) kv g (0 : Fin 1) a s) ?_).trans (broadcastInDim_apply _ _ _ _ (ix5 kv g (0 : Fin 1) a s) ?_)
    · intro e
      match e with
      | ⟨0, _⟩ => rfl
      | ⟨1, _⟩ => rfl
      | ⟨2, _⟩ => rfl
      | ⟨3, _⟩ => rfl
      | ⟨4, _⟩ => rfl
      | ⟨5, _⟩ => rfl
    · intro e
      match e with
      | ⟨0, _⟩ => rfl
      | ⟨1, _⟩ => rfl
      | ⟨2, _⟩ => rfl
      | ⟨3, _⟩ => rfl
      | ⟨4, _⟩ => rfl
  rw [e1, e2]
  rfl

end Cert.Proof.SwaRef

end
-- ==== Proof.SwaRefMax.lean ====
/-
  The reference attention's maxima, exponentials, denominators and probabilities at an entry.
-/
module

public import proofs.«01_k».proof.Proof.SwaRefVal
public import Idealize.ShloMosaic.Lib.Pointwise.Reduce
public import Idealize.ShloMosaic.Lib.Pointwise.ElementwiseCore

@[expose] public section

set_option maxRecDepth 16384

noncomputable section

namespace Cert.Proof.SwaRef

open Cert.SwaRefIdeal Cert.SwaRefIdeal.Gen
open Idealize.ShloMosaic hiding ix1 ix2 ix3 ix4 ix5 ix6
open Idealize.ShloMosaic.TcCoe Idealize.ShloMosaic.ValueIdx

/-- The entries that reduce to a row's entry are the row's lanes. -/
theorem row_fiber (h : S8x2x4x32x128x384.ReducesTo [5] S8x2x4x32x128) (b : Fin 8) (kv : Fin 2) (g : Fin 4) (n : Fin 32) (a : Fin 128) (i : S8x2x4x32x128x384.Idx) :
    h.drop i = ix5 b kv g n a ↔ ∃ s : Fin 384, ix6 b kv g n a s = i := by
  constructor
  · intro e
    refine ⟨i 5, ?_⟩
    funext w; apply Fin.ext
    match w with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => exact (congrArg Fin.val (congrFun e 4)).symm
    | ⟨5, _⟩ => rfl
  · rintro ⟨s, rfl⟩
    funext w; apply Fin.ext
    match w with
    | ⟨0, _⟩ => rfl
    | ⟨1, _⟩ => rfl
    | ⟨2, _⟩ => rfl
    | ⟨3, _⟩ => rfl
    | ⟨4, _⟩ => rfl

/-- Dropping the broadcast lane of a row's entry. -/
theorem lane_apply (x : FVec Ideal S8x2x4x32x128 .f32) (b : Fin 8) (kv : Fin 2) (g : Fin 4) (n : Fin 32) (a : Fin 128) :
    broadcastInDim S8x2x4x32x128x1 ![0, 1, 2, 3, 4] bcast_S8x2x4x32x128_S8x2x4x32x128x1_0_1_2_3_4 x (ix6 b kv g n a 0) = x (ix5 b kv g n a) := by
  refine broadcastInDim_apply _ _ _ _ _ ?_
  intro e
  match e with
  | ⟨0, _⟩ => rfl
  | ⟨1, _⟩ => rfl
  | ⟨2, _⟩ => rfl
  | ⟨3, _⟩ => rfl
  | ⟨4, _⟩ => rfl

/-- A row's entry, spread over its lanes. -/
theorem spread_apply (x : FVec Ideal S8x2x4x32x128x1 .f32) (b : Fin 8) (kv : Fin 2) (g : Fin 4) (n : Fin 32) (a : Fin 128) (s : Fin 384) :
    broadcastInDim S8x2x4x32x128x384 ![0, 1, 2, 3, 4, 5] bcast_S8x2x4x32x128x1_S8x2x4x32x128x384_0_1_2_3_4_5 x (ix6 b kv g n a s) = x (ix6 b kv g n a 0) := by
  refine broadcastInDim_apply _ _ _ _ _ ?_
  intro e
  match e with
  | ⟨0, _⟩ => rfl
  | ⟨1, _⟩ => rfl
  | ⟨2, _⟩ => rfl
  | ⟨3, _⟩ => rfl
  | ⟨4, _⟩ => rfl
  | ⟨5, _⟩ => rfl

/-- The maximum over a row's lanes. -/
theorem rowMax_apply (x : FVec Ideal S8x2x4x32x128x384 .f32) (i : FVec Ideal S_ .f32) (b : Fin 8) (kv : Fin 2) (g : Fin 4) (n : Fin 32) (a : Fin 128) :
    Host.reduce (FloatOps.maximumf (F := Ideal) (φ := .f32)) x i reducesTo_S8x2x4x32x128x384_S8x2x4x32x128_d5 h_S_ (ix5 b kv g n a)
      = Finset.univ.fold (FloatOps.maximumf (F := Ideal) (φ := .f32)) (i (Shape.Idx.first h_S_)) (fun s : Fin 384 => x (ix6 b kv g n a s)) := by
  rw [Host.reduce_eq_fold]
  exact Finset.fold_filter_eq_fold_of_fiber _ _ (fun s : Fin 384 => ix6 b kv g n a s) (fun _ _ e => congrFun e 5) (row_fiber _ b kv g n a) _ x

/-- The sum over a row's lanes. -/
theorem rowSum_apply (x : FVec Ideal S8x2x4x32x128x384 .f32) (i : FVec Ideal S_ .f32) (b : Fin 8) (kv : Fin 2) (g : Fin 4) (n : Fin 32) (a : Fin 128) :
    Host.reduceAdd (F := Ideal) (φ := .f32) x i reducesTo_S8x2x4x32x128x384_S8x2x4x32x128_d5 h_S_ (ix5 b kv g n a)
      = (i (Shape.Idx.first h_S_) : EReal) + ∑ s : Fin 384, (x (ix6 b kv g n a s) : EReal) := by
  rw [hostReduceAdd_apply]
  unfold Ideal.hostReduceAdd
  exact congrArg (fun z : EReal => (i (Shape.Idx.first h_S_) : EReal) + z) (Finset.sum_filter_eq_sum_of_fiber _ (fun s : Fin 384 => ix6 b kv g n a s) (fun _ _ e => congrFun e 5) (row_fiber _ b kv g n a) x)

theorem maxA_apply (lg : FVec Ideal S8x2x4x32x128x384 .f32) (sk : FVec Ideal S8x2x4x32x128x1 .f32) (b : Fin 8) (kv : Fin 2) (g : Fin 4) (n : Fin 32) (a : Fin 128) :
    maxA lg sk (ix6 b kv g n a 0) = max (Finset.univ.fold max (Ideal.ofBits .f32 0xFF800000#32) fun s : Fin 384 => (lg (ix6 b kv g n a s) : EReal)) (sk (ix6 b kv g n a 0) : EReal) := by
  unfold maxA
  rw [maximumf_apply, lane_apply, rowMax_apply]
  rfl

theorem expA_apply (lg : FVec Ideal S8x2x4x32x128x384 .f32) (mx : FVec Ideal S8x2x4x32x128x1 .f32) (b : Fin 8) (kv : Fin 2) (g : Fin 4) (n : Fin 32) (a : Fin 128) (s : Fin 384) :
    expA lg mx (ix6 b kv g n a s) = Ideal.exp ((lg (ix6 b kv g n a s) : EReal) - (mx (ix6 b kv g n a 0) : EReal)) := by
  unfold expA
  exact congrArg (fun x : EReal => Ideal.exp ((lg (ix6 b kv g n a s) : EReal) - x)) (spread_apply mx b kv g n a s)

theorem denA_apply (pr : FVec Ideal S8x2x4x32x128x384 .f32) (sk mx : FVec Ideal S8x2x4x32x128x1 .f32) (b : Fin 8) (kv : Fin 2) (g : Fin 4) (n : Fin 32) (a : Fin 128) :
    denA pr sk mx (ix6 b kv g n a 0) = (Ideal.ofBits .f32 0#32 + ∑ s : Fin 384, (pr (ix6 b kv g n a s) : EReal)) + Ideal.exp ((sk (ix6 b kv g n a 0) : EReal) - (mx (ix6 b kv g n a 0) : EReal)) := by
  unfold denA
  rw [addf_apply, lane_apply, rowSum_apply]
  rfl

theorem probA_apply (pr : FVec Ideal S8x2x4x32x128x384 .f32) (de : FVec Ideal S8x2x4x32x128x1 .f32) (b : Fin 8) (kv : Fin 2) (g : Fin 4) (n : Fin 32) (a : Fin 128) (s : Fin 384) :
    probA pr de (ix6 b kv g n a s) = Ideal.div (pr (ix6 b kv g n a s)) (de (ix6 b kv g n a 0)) := by
  unfold probA
  exact congrArg (fun x : EReal => Ideal.div (pr (ix6 b kv g n a s)) x) (spread_apply de b kv g n a s)

end Cert.Proof.SwaRef

end
-- ==== Proof.SwaRefBack.lean ====
/-
  The reference attention's result at an entry.
-/
module

public import proofs.«01_k».proof.Proof.SwaRefVal
public import Idealize.ShloMosaic.Lib.Pointwise.Reduce
public import Idealize.ShloMosaic.Lib.Pointwise.ElementwiseCore

@[expose] public section

set_option maxRecDepth 16384

noncomputable section

namespace Cert.Proof.SwaRef

open Cert.SwaRefIdeal Cert.SwaRefIdeal.Gen
open Idealize.ShloMosaic hiding ix1 ix2 ix3 ix4 ix5 ix6
open Idealize.ShloMosaic.TcCoe Idealize.ShloMosaic.ValueIdx

/-- The products of probabilities and banded values, at a row and column of the result. -/
theorem backA_apply (v : FVec Ideal S8x2x32x384x64 .f32) (p : FVec Ideal S8x2x4x32x128x384 .f32) (b : Fin 8) (kv : Fin 2) (g : Fin 4) (n : Fin 32) (a : Fin 128) (d : Fin 64) :
    backA v p (ix2 (rowAt b n a) (colQ (headAt kv g) d)) = ∑ s : Fin 384, (v (ix5 b kv n s d) : EReal) * (p (ix6 b kv g n a s) : EReal) := by
  let D := dot_S8x2x32x384x64_S8x2x4x32x128x384_S8x2x32x64x4x128_3_5_4_24_012_013
  have hr : D.contr.rank = 1 := rfl
  have hs : D.contr.size ⟨0, by rw [hr]; omega⟩ = 384 := rfl
  unfold backA
  rw [truncf_apply]
  refine (shapeCast_apply _ _ _ (ix3 b (⟨128 * n.val + a.val, by omega⟩ : Fin 4096) (colQ (headAt kv g) d)) ?_).trans ?_
  · rw [Shape.rowMajor_val_two, Shape.rowMajor_val_three]
    show (b.val * 4096 + (128 * n.val + a.val)) * 512 + (64 * (4 * kv.val + g.val) + d.val) = (4096 * b.val + 128 * n.val + a.val) * 512 + (64 * (4 * kv.val + g.val) + d.val)
    omega
  refine (shapeCast_apply _ _ _ (ix4 b (⟨128 * n.val + a.val, by omega⟩ : Fin 4096) (headAt kv g) d) ?_).trans ?_
  · rw [Shape.rowMajor_val_four, Shape.rowMajor_val_three]
    show ((b.val * 4096 + (128 * n.val + a.val)) * 8 + (4 * kv.val + g.val)) * 64 + d.val = (b.val * 4096 + (128 * n.val + a.val)) * 512 + (64 * (4 * kv.val + g.val) + d.val)
    omega
  refine (transpose_apply _ _ _ _ (ix4 b (headAt kv g) (⟨128 * n.val + a.val, by omega⟩ : Fin 4096) d) ?_).trans ?_
  · intro e
    match e with
    | ⟨0, _⟩ => rfl
    | ⟨1, _⟩ => rfl
    | ⟨2, _⟩ => rfl
    | ⟨3, _⟩ => rfl
  refine (shapeCast_apply _ _ _ (ix6 b kv g n a d) ?_).trans ?_
  · rw [Shape.rowMajor_val_four, Shape.rowMajor_val_six]
    show ((((b.val * 2 + kv.val) * 4 + g.val) * 32 + n.val) * 128 + a.val) * 64 + d.val = ((b.val * 8 + (4 * kv.val + g.val)) * 4096 + (128 * n.val + a.val)) * 64 + d.val
    omega
  refine (transpose_apply _ _ _ _ (ix6 b kv n d g a) ?_).trans ?_
  · intro e
    match e with
    | ⟨0, _⟩ => rfl
    | ⟨1, _⟩ => rfl
    | ⟨2, _⟩ => rfl
    | ⟨3, _⟩ => rfl
    | ⟨4, _⟩ => rfl
    | ⟨5, _⟩ => rfl
  simp only [Host.dotGeneral]
  rw [Ideal.dotGeneral_apply, ← Equiv.sum_comp (contrEquiv1 D 384 hr hs).symm]
  refine Finset.sum_congr rfl fun s _ => ?_
  have h0 := contrEquiv1_symm_val D 384 hr hs s
  refine congrArg₂ (fun (x y : EReal) => x * y) (congrArg v ?_) (congrArg p ?_)
  · funext e; apply Fin.ext
    match e with
    | ⟨0, _⟩ => rfl
    | ⟨1, _⟩ => rfl
    | ⟨2, _⟩ => rfl
    | ⟨3, _⟩ => exact h0
    | ⟨4, _⟩ => rfl
  · funext e; apply Fin.ext
    match e with
    | ⟨0, _⟩ => rfl
    | ⟨1, _⟩ => rfl
    | ⟨2, _⟩ => rfl
    | ⟨3, _⟩ => rfl
    | ⟨4, _⟩ => rfl
    | ⟨5, _⟩ => exact h0

end Cert.Proof.SwaRef

end
-- ==== Proof.SwaRefHead.lean ====
/-
  The reference attention at an entry, all stages together.
-/
module

public import proofs.«01_k».proof.Proof.SwaRefBias
public import proofs.«01_k».proof.Proof.SwaRefDot
public import proofs.«01_k».proof.Proof.SwaRefLog
public import proofs.«01_k».proof.Proof.SwaRefMax
public import proofs.«01_k».proof.Proof.SwaRefBack

@[expose] public section

set_option maxRecDepth 16384

noncomputable section

namespace Cert.Proof.SwaRef

open Cert.SwaRefIdeal Cert.SwaRefIdeal.Gen
open Idealize.ShloMosaic hiding ix1 ix2 ix3 ix4 ix5 ix6
open Idealize.ShloMosaic.TcCoe Idealize.ShloMosaic.ValueIdx

variable (x0 : FVec Ideal S32768x512 .f32) (x1 x2 : FVec Ideal S32768x128 .f32) (x3 : FVec Ideal S32x8 .f32) (x4 : FVec Ideal S8 .f32)

/-- The reference's logit. -/
def refLg (b : Fin 8) (kv : Fin 2) (g : Fin 4) (n : Fin 32) (a : Fin 128) (t : Fin 384) : EReal :=
  Scalar.select (maskAt n a t) ((∑ d : Fin 64, padded x1 b kv (128 * n.val + t.val) d * x0 (ix2 (rowAt b n a) (colQ (headAt kv g) d))) * Ideal.ofBits .f32 0x3E000000#32 + (biasA x3 (ix5 kv g 0 a t) : EReal)) (Ideal.ofBits .f32 0xFF800000#32)

/-- The reference's maximum. -/
def refMx (b : Fin 8) (kv : Fin 2) (g : Fin 4) (n : Fin 32) (a : Fin 128) : EReal :=
  max (Finset.univ.fold max (Ideal.ofBits .f32 0xFF800000#32) fun t : Fin 384 => refLg x0 x1 x3 b kv g n a t) (x4 (ix1 (headAt kv g)) : EReal)

theorem logits_apply (b : Fin 8) (kv : Fin 2) (g : Fin 4) (n : Fin 32) (a : Fin 128) (t : Fin 384) :
    logits x0 x1 x3 (ix6 b kv g n a t) = refLg x0 x1 x3 b kv g n a t := by
  unfold logits refLg
  rw [logA_apply, qkA_apply]
  refine congrArg (fun x : EReal => Scalar.select (maskAt n a t) (x * Ideal.ofBits .f32 0x3E000000#32 + (biasA x3 (ix5 kv g 0 a t) : EReal)) (Ideal.ofBits .f32 0xFF800000#32)) ?_
  exact Finset.sum_congr rfl fun d _ => congrArg₂ (fun x y : EReal => x * y) (bandA_apply x1 b kv n t d) (headsQ_apply x0 b kv g n a d)

theorem mxA_apply (b : Fin 8) (kv : Fin 2) (g : Fin 4) (n : Fin 32) (a : Fin 128) :
    maxA (logits x0 x1 x3) (sinkA x4) (ix6 b kv g n a 0) = refMx x0 x1 x3 x4 b kv g n a := by
  rw [maxA_apply]
  unfold refMx
  refine congrArg₂ (fun x y : EReal => max x y) (congrArg (Finset.univ.fold max (Ideal.ofBits .f32 0xFF800000#32)) (funext fun t => logits_apply x0 x1 x3 b kv g n a t)) (sinkA_apply x4 b kv g n a)

theorem prA_apply (b : Fin 8) (kv : Fin 2) (g : Fin 4) (n : Fin 32) (a : Fin 128) (t : Fin 384) :
    expA (logits x0 x1 x3) (maxA (logits x0 x1 x3) (sinkA x4)) (ix6 b kv g n a t) = Ideal.exp (refLg x0 x1 x3 b kv g n a t - refMx x0 x1 x3 x4 b kv g n a) := by
  rw [expA_apply]
  exact congrArg₂ (fun x y : EReal => Ideal.exp (x - y)) (logits_apply x0 x1 x3 b kv g n a t) (mxA_apply x0 x1 x3 x4 b kv g n a)

/-- The result at an entry. -/
theorem swaA_apply (b : Fin 8) (kv : Fin 2) (g : Fin 4) (n : Fin 32) (a : Fin 128) (d : Fin 64) :
    swaA x0 x1 x2 x3 x4 (ix2 (rowAt b n a) (colQ (headAt kv g) d))
      = ∑ t : Fin 384, padded x2 b kv (128 * n.val + t.val) d * Ideal.div (Ideal.exp (refLg x0 x1 x3 b kv g n a t - refMx x0 x1 x3 x4 b kv g n a))
          ((Ideal.ofBits .f32 0#32 + ∑ t : Fin 384, Ideal.exp (refLg x0 x1 x3 b kv g n a t - refMx x0 x1 x3 x4 b kv g n a)) + Ideal.exp ((x4 (ix1 (headAt kv g)) : EReal) - refMx x0 x1 x3 x4 b kv g n a)) := by
  unfold swaA
  rw [backA_apply]
  refine Finset.sum_congr rfl fun t _ => congrArg₂ (fun x y : EReal => x * y) (bandA_apply x2 b kv n t d) ?_
  rw [probA_apply]
  refine congrArg₂ Ideal.div (prA_apply x0 x1 x3 x4 b kv g n a t) ?_
  rw [denA_apply]
  refine congrArg₂ (fun x y : EReal => x + y) (congrArg (fun x : EReal => Ideal.ofBits .f32 0#32 + x) (Finset.sum_congr rfl fun t _ => prA_apply x0 x1 x3 x4 b kv g n a t)) ?_
  exact congrArg₂ (fun x y : EReal => Ideal.exp (x - y)) (sinkA_apply x4 b kv g n a) (mxA_apply x0 x1 x3 x4 b kv g n a)

end Cert.Proof.SwaRef

end
-- ==== Proof.SwaJoin.lean ====
/-
  The kernel's result is the reference's, entry by entry, when queries, keys, bias table and sinks are numbers.
-/
module

public import proofs.«01_k».proof.Proof.SwaTables
public import proofs.«01_k».proof.Proof.SwaSoftmax
public import proofs.«01_k».proof.Proof.SwaHead
public import proofs.«01_k».proof.Proof.SwaRefHead

@[expose] public section

set_option maxRecDepth 16384

noncomputable section

namespace Cert.Proof.Swa

open Idealize.ShloMosaic hiding ix1 ix2 ix3 ix4 ix5 ix6
open Idealize.ShloMosaic.TcCoe Idealize.ShloMosaic.ValueIdx
open Cert.Proof.SwaRef (padded headAt colQ colK maskAt refLg refMx swaA)

/-- Every entry is a number. -/
def Finite {s : Shape} {φ : FTy} (x : FVec Ideal s φ) : Prop := ∀ i, (x i : EReal) ≠ ⊤ ∧ (x i : EReal) ≠ ⊥

theorem negInf_eq : Ideal.ofBits .f32 0xFF800000#32 = ⊥ := by simp [Ideal.ofBits, Ideal.ieee]

theorem eighth_nonneg : (0 : EReal) ≤ Ideal.ofBits .f32 0x3E000000#32 := by
  simp [Ideal.ofBits, Ideal.ieee]
  positivity

theorem eighth_ne_top : Ideal.ofBits .f32 0x3E000000#32 ≠ ⊤ := by
  simp [Ideal.ofBits, Ideal.ieee]
  exact EReal.coe_ne_top _

/-- A product of numbers is one. -/
theorem mul_finite {x y : EReal} (hx : x ≠ ⊤ ∧ x ≠ ⊥) (hy : y ≠ ⊤ ∧ y ≠ ⊥) : x * y ≠ ⊤ ∧ x * y ≠ ⊥ := by
  lift x to ℝ using hx
  lift y to ℝ using hy
  rw [← EReal.coe_mul]
  exact ⟨EReal.coe_ne_top _, EReal.coe_ne_bot _⟩

section Arrays

variable (b : Fin 8) (j : Fin 2)

/-- The staged rows are the padded rows. -/
theorem padAt_eq (y : FVec Ideal Cert.SwaIdeal.S4096x128 .bf16) (x : FVec Ideal Cert.SwaRefIdeal.S32768x128 .f32)
    (h : ∀ (r : Fin 4096) (l : Fin 128), (y (ix2 r l) : EReal) = x (ix2 (rowIx b r) l)) (R : ℕ) (d : Fin 64) :
    padAt y R (64 * j.val + d.val) = padded x b j R d := by
  unfold padAt rowAt padded
  by_cases h1 : 128 ≤ R
  · rw [if_pos h1]
    by_cases h2 : R < 4224
    · rw [dif_pos (show R - 128 < 4096 ∧ 64 * j.val + d.val < 128 by omega), dif_pos ⟨h1, h2⟩]
      exact h _ _
    · rw [dif_neg (show ¬ (R - 128 < 4096 ∧ 64 * j.val + d.val < 128) by omega), dif_neg (show ¬ (128 ≤ R ∧ R < 4224) by omega)]
  · rw [if_neg h1, dif_neg (show ¬ (128 ≤ R ∧ R < 4224) by omega)]

theorem padded_finite (x : FVec Ideal Cert.SwaRefIdeal.S32768x128 .f32) (h : Finite x) (R : ℕ) (d : Fin 64) : padded x b j R d ≠ ⊤ ∧ padded x b j R d ≠ ⊥ := by
  unfold padded
  by_cases h2 : 128 ≤ R ∧ R < 4224
  · rw [dif_pos h2]
    exact h _
  · rw [dif_neg h2]
    exact ⟨EReal.zero_ne_top, EReal.zero_ne_bot⟩

variable (x0 : FVec Ideal Cert.SwaRefIdeal.S32768x512 .f32) (x1 x2 : FVec Ideal Cert.SwaRefIdeal.S32768x128 .f32)
  (x3 : FVec Ideal Cert.SwaRefIdeal.S32x8 .f32) (x4 : FVec Ideal Cert.SwaRefIdeal.S8 .f32)

/-- The reference's logits are below infinity. -/
theorem refLg_ne_top (h0 : Finite x0) (h1 : Finite x1) (h3 : Finite x3) (g : Fin 4) (n : Fin 32) (a : Fin 128) (t : Fin 384) :
    refLg x0 x1 x3 b j g n a t ≠ ⊤ := by
  unfold SwaRef.refLg
  by_cases hm : maskAt n a t = 1#1
  · rw [hm, select_one, SwaRef.biasA_apply x3 j g a t (mask_on n a t hm).2.2]
    refine EReal.add_ne_top ?_ (h3 _).1
    rw [sum_mul_of_nonneg _ _ _ eighth_nonneg eighth_ne_top]
    refine sum_ne_top _ _ fun d _ => ?_
    exact (mul_finite (mul_finite (padded_finite b j x1 h1 _ d) (h0 _)) ⟨eighth_ne_top, fun h => absurd (h ▸ eighth_nonneg) (by simp)⟩).1
  · rw [eq_zero_of_ne_one hm, select_zero, negInf_eq]
    exact bot_ne_top

/-- Where the mask is not set the reference's logit is minus infinity. -/
theorem refLg_off (g : Fin 4) (n : Fin 32) (a : Fin 128) (t : Fin 384) (hm : ¬ maskAt n a t = 1#1) : refLg x0 x1 x3 b j g n a t = ⊥ := by
  unfold SwaRef.refLg
  rw [eq_zero_of_ne_one hm, select_zero, negInf_eq]

/-- The group member of pair `p` and half `e`. -/
def memb (p e : Fin 2) : Fin 4 := ⟨2 * p.val + e.val, by omega⟩

variable (P : Pt) (y z : FVec Ideal Cert.SwaIdeal.S4096x128 .bf16)

/-- The kernel's logit is the reference's. -/
theorem headLg_eq (hq : ∀ (r : Fin 4096) (l : Fin 256), (P.q (ix2 r l) : EReal) = scaled x0 (ix2 (rowIx b r) (⟨256 * j.val + l.val, by omega⟩ : Fin 512)))
    (hy : ∀ (r : Fin 4096) (l : Fin 128), (y (ix2 r l) : EReal) = x1 (ix2 (rowIx b r) l))
    (hb : ∀ (tb : Fin 3) (p : Fin 2) (a : Fin 128) (s : Fin 768), (P.bias (ix4 tb p a s) : EReal) = biasOf x3 ⟨4 * j.val + 2 * p.val + s.val / 384, by omega⟩ tb a ⟨s.val % 384, by omega⟩)
    (n : Fin 32) (p e : Fin 2) (a : Fin 128) (t : Fin 384) :
    headLg P j.val y n.val p e a t = refLg x0 x1 x3 b j (memb p e) n a t := by
  have e1 : (P.bias (ix4 (Pt.tab n.val) p a (⟨384 * e.val + t.val, by omega⟩ : Fin 768)) : EReal) = biasOf x3 (headAt j (memb p e)) (Pt.tab n.val) a t := by
    refine (hb _ _ _ _).trans ?_
    have ea : (⟨4 * j.val + 2 * p.val + (384 * e.val + t.val) / 384, by omega⟩ : Fin 8) = headAt j (memb p e) := Fin.ext (by
      show 4 * j.val + 2 * p.val + (384 * e.val + t.val) / 384 = 4 * j.val + (2 * p.val + e.val)
      omega)
    have eb : (⟨(384 * e.val + t.val) % 384, by omega⟩ : Fin 384) = t := Fin.ext (by show (384 * e.val + t.val) % 384 = t.val; omega)
    exact congrArg₂ (fun h s => biasOf x3 h (Pt.tab n.val) a s) ea eb
  unfold headLg
  refine (congrArg (fun w : EReal => _ + w) e1).trans ?_
  unfold biasOf biasAt
  by_cases hm : maskAt n a t = 1#1
  · obtain ⟨ht, hk, hs⟩ := mask_on n a t hm
    rw [if_pos ((table_ok_iff n t).mpr ht), dif_pos (show (bucket a t).toNat < 32 by rw [hk]; exact hs)]
    unfold SwaRef.refLg
    rw [hm, select_one, SwaRef.biasA_apply x3 j (memb p e) a t hs]
    refine congrArg₂ (fun u w : EReal => u + w) ?_ (congrArg (fun r : Fin 32 => x3 (ix2 r (headAt j (memb p e)))) (Fin.ext (congrArg BitVec.toNat hk)))
    rw [sum_mul_of_nonneg _ _ _ eighth_nonneg eighth_ne_top]
    refine Finset.sum_congr rfl fun d _ => ?_
    rw [padAt_eq b j y x1 hy]
    have e2 : P.qAt (128 * n.val + a.val) (128 * p.val + (64 * e.val + d.val)) = (x0 (ix2 (SwaRef.rowAt b n a) (colQ (headAt j (memb p e)) d)) : EReal) * Ideal.ofBits .f32 0x3E000000#32 := by
      unfold Pt.qAt
      rw [dif_pos (show 128 * n.val + a.val < 4096 ∧ 128 * p.val + (64 * e.val + d.val) < 256 by omega)]
      refine (hq _ _).trans ?_
      unfold scaled
      refine congrArg (fun i => (x0 i : EReal) * Ideal.ofBits .f32 0x3E000000#32) (congrArg₂ ix2 (Fin.ext ?_) (Fin.ext ?_))
      · show 4096 * b.val + (128 * n.val + a.val) = 4096 * b.val + 128 * n.val + a.val
        omega
      · show 256 * j.val + (128 * p.val + (64 * e.val + d.val)) = 64 * (4 * j.val + (2 * p.val + e.val)) + d.val
        omega
    rw [e2, mul_comm, mul_assoc]
  · rw [refLg_off b j x0 x1 x3 (memb p e) n a t hm]
    have ho := mask_off n a t hm
    by_cases ht : table_ok (Pt.tab n.val) t
    · rw [if_pos ht, dif_neg fun h => ho ⟨(table_ok_iff n t).mp ht, h⟩, EReal.add_bot]
    · rw [if_neg ht, EReal.add_bot]

/-- A head's output lane is the reference's entry. -/
theorem head_eq (h0 : Finite x0) (h1 : Finite x1) (h3 : Finite x3) (h4 : Finite x4)
    (hq : ∀ (r : Fin 4096) (l : Fin 256), (P.q (ix2 r l) : EReal) = scaled x0 (ix2 (rowIx b r) (⟨256 * j.val + l.val, by omega⟩ : Fin 512)))
    (hy : ∀ (r : Fin 4096) (l : Fin 128), (y (ix2 r l) : EReal) = x1 (ix2 (rowIx b r) l))
    (hz : ∀ (r : Fin 4096) (l : Fin 128), (z (ix2 r l) : EReal) = x2 (ix2 (rowIx b r) l))
    (hb : ∀ (tb : Fin 3) (p : Fin 2) (a : Fin 128) (s : Fin 768), (P.bias (ix4 tb p a s) : EReal) = biasOf x3 ⟨4 * j.val + 2 * p.val + s.val / 384, by omega⟩ tb a ⟨s.val % 384, by omega⟩)
    (hs : ∀ p e : Fin 2, P.sink (2 * p.val + e.val) = x4 (ix1 (headAt j (memb p e))))
    (hka : P.ka = keyA j.val y) (hkb : P.kb = keyB j.val y) (hva : P.va = valA j.val z) (hvb : P.vb = valB j.val z)
    (n : Fin 32) (p e : Fin 2) (a : Fin 128) (d : Fin 64) :
    P.out n.val p a ⟨64 * e.val + d.val, by omega⟩ = swaA x0 x1 x2 x3 x4 (ix2 (SwaRef.rowAt b n a) (colQ (headAt j (memb p e)) d)) := by
  have eL : ∀ t, headLg P j.val y n.val p e a t = refLg x0 x1 x3 b j (memb p e) n a t := headLg_eq b j x0 x1 x3 P y hq hy hb n p e a
  have eM : headMx P j.val y n.val p e a = refMx x0 x1 x3 x4 b j (memb p e) n a := by
    unfold headMx SwaRef.refMx
    exact congrArg₂ (fun u w : EReal => max u w) (congrArg rmax (funext eL)) (hs p e)
  rw [out_head P j.val y z hka hkb hva hvb, SwaRef.swaA_apply]
  simp only [eL, eM, padAt_eq b j z x2 hz]
  rw [hs p e]
  have eo : ∀ t : Fin 384, Ideal.exp (refLg x0 x1 x3 b j (memb p e) n a t - refMx x0 x1 x3 x4 b j (memb p e) n a) * oneAt (128 * n.val + t.val)
      = Ideal.exp (refLg x0 x1 x3 b j (memb p e) n a t - refMx x0 x1 x3 x4 b j (memb p e) n a) := by
    intro t
    unfold oneAt
    by_cases hr : 128 ≤ 128 * n.val + t.val ∧ 128 * n.val + t.val < 4224
    · rw [if_pos hr, mul_one]
    · rw [refLg_off b j x0 x1 x3 (memb p e) n a t fun hm => hr (mask_on n a t hm).1, EReal.bot_sub]
      exact zero_mul _
  simp only [eo]
  exact row_div _ _ _ _ Ideal.ofBits_zero_f32 (Ideal.ofBits .f32 0xFF800000#32) (by rw [negInf_eq]; exact bot_ne_top)
    (fun t => refLg_ne_top b j x0 x1 x3 h0 h1 h3 (memb p e) n a t) (h4 _).1 (h4 _).2 _ rfl

end Arrays

end Cert.Proof.Swa

end
-- ==== Proof.SwaFinal.lean ====
/-
  The kernel's whole result is the reference's.
-/
module

public import proofs.«01_k».proof.Proof.SwaJoin

@[expose] public section

set_option maxRecDepth 16384

noncomputable section

namespace Cert.Proof.Swa

open Cert.SwaIdeal Cert.SwaIdeal.Gen
open Idealize.ShloMosaic hiding ix1 ix2 ix3 ix4 ix5 ix6
open Idealize.ShloMosaic.TcCoe Idealize.ShloMosaic.ValueIdx
open Cert.Proof.SwaRef (headAt colQ swaA)

variable (m : (ℓ : Loc nD τ sig) → Buf (Elt Ideal) ℓ) (c : Dev nD)

/-- The grid point of batch entry `b` and key head `j`. -/
def ptAt (b : Fin 8) (j : Fin 2) : Fin cfg1.N := ⟨2 * b.val + j.val, by have h : cfg1.N = 16 := N_1; omega⟩

theorem bOf_ptAt (b : Fin 8) (j : Fin 2) : bOf (ptAt b j) = b := Fin.ext (by
  show (2 * b.val + j.val) / 2 = b.val
  omega)

theorem jOf_ptAt (b : Fin 8) (j : Fin 2) : jOf (ptAt b j) = j := Fin.ext (by
  show (2 * b.val + j.val) % 2 = j.val
  omega)

theorem coord_ptAt (b : Fin 8) (j : Fin 2) : (grid1.coords (ptAt b j) 1).val = j.val :=
  ((start1 (ptAt b j)).2.2.2.2.2.2).trans (by show (2 * b.val + j.val) % 2 = j.val; omega)

/-- An entry of the result is a head's output lane at its grid point. -/
theorem goal_at (b : Fin 8) (j : Fin 2) (n : Fin 32) (p e : Fin 2) (a : Fin 128) (d : Fin 64) :
    goal1 m c (ix2 (SwaRef.rowAt b n a) (colQ (headAt j (memb p e)) d)) = (ptOf m c (ptAt b j)).out n.val p a ⟨64 * e.val + d.val, by omega⟩ := by
  have hp : ptIx (SwaRef.rowAt b n a) (colQ (headAt j (memb p e)) d) = ptAt b j := Fin.ext (by
    show 2 * ((4096 * b.val + 128 * n.val + a.val) / 4096) + (64 * (4 * j.val + (2 * p.val + e.val)) + d.val) / 256 = 2 * b.val + j.val
    omega)
  show vOf m c (ptIx (SwaRef.rowAt b n a) (colQ (headAt j (memb p e)) d)) _ = _
  rw [hp]
  have cong : ∀ (n' : ℕ) (p' : Fin 2) (a' l' : Fin 128) (l : Fin 128), n' = n.val → p' = p → a' = a → l' = l →
      (ptOf m c (ptAt b j)).out n' p' a' l' = (ptOf m c (ptAt b j)).out n.val p a l := by
    rintro _ _ _ _ _ rfl rfl rfl rfl
    rfl
  refine cong _ _ _ _ _ ?_ (Fin.ext ?_) (Fin.ext ?_) (Fin.ext ?_)
  · show (4096 * b.val + 128 * n.val + a.val) % 4096 / 128 = n.val
    omega
  · show (64 * (4 * j.val + (2 * p.val + e.val)) + d.val) % 256 / 128 = p.val
    omega
  · show (4096 * b.val + 128 * n.val + a.val) % 4096 % 128 = a.val
    omega
  · show (64 * (4 * j.val + (2 * p.val + e.val)) + d.val) % 256 % 128 = 64 * e.val + d.val
    omega

/-- The kernel's result is the reference's of the same arguments. -/
theorem goal_eq (x0 : FVec Ideal Cert.SwaRefIdeal.S32768x512 .f32) (x1 x2 : FVec Ideal Cert.SwaRefIdeal.S32768x128 .f32)
    (x3 : FVec Ideal Cert.SwaRefIdeal.S32x8 .f32) (x4 : FVec Ideal Cert.SwaRefIdeal.S8 .f32)
    (g0 : m ((c : Thread nD τ).loc main_arg0) = x0) (g1 : m ((c : Thread nD τ).loc main_arg1) = x1) (g2 : m ((c : Thread nD τ).loc main_arg2) = x2)
    (g3 : m ((c : Thread nD τ).loc main_arg3) = x3) (g4 : m ((c : Thread nD τ).loc main_arg4) = x4)
    (h0 : Finite x0) (h1 : Finite x1) (h3 : Finite x3) (h4 : Finite x4) : goal1 m c = swaA x0 x1 x2 x3 x4 := by
  funext i
  obtain ⟨R, C, rfl⟩ : ∃ (R : Fin 32768) (C : Fin 512), i = ix2 R C := ⟨i 0, i 1, by funext a; match a with | ⟨0, _⟩ => rfl | ⟨1, _⟩ => rfl⟩
  obtain ⟨b, n, a, rfl⟩ : ∃ b n a, R = SwaRef.rowAt b n a := ⟨⟨R.val / 4096, by omega⟩, ⟨R.val % 4096 / 128, by omega⟩, ⟨R.val % 128, by omega⟩, Fin.ext (by
    show R.val = 4096 * (R.val / 4096) + 128 * (R.val % 4096 / 128) + R.val % 128
    omega)⟩
  obtain ⟨j, p, e, d, rfl⟩ : ∃ j p e d, C = colQ (headAt j (memb p e)) d := ⟨⟨C.val / 256, by omega⟩, ⟨C.val % 256 / 128, by omega⟩, ⟨C.val % 128 / 64, by omega⟩, ⟨C.val % 64, by omega⟩, Fin.ext (by
    show C.val = 64 * (4 * (C.val / 256) + (2 * (C.val % 256 / 128) + C.val % 128 / 64)) + C.val % 64
    omega)⟩
  refine (goal_at m c b j n p e a d).trans ?_
  have hb := bOf_ptAt b j
  have hj := jOf_ptAt b j
  have hc := coord_ptAt b j
  refine head_eq b j x0 x1 x2 x3 x4 (ptOf m c (ptAt b j)) (iblk1 m c 1 (ptAt b j)) (iblk1 m c 2 (ptAt b j)) h0 h1 h3 h4 ?_ ?_ ?_ ?_ ?_ ?_ ?_ ?_ ?_ n p e a d
  · intro r l
    have := iblk1_q m c (ptAt b j) r l
    simp only [hb, hj, g0] at this
    exact this
  · intro r l
    have := iblk1_k m c (ptAt b j) r l
    simp only [hb, g1] at this
    exact this
  · intro r l
    have := iblk1_v m c (ptAt b j) r l
    simp only [hb, g2] at this
    exact this
  · intro tb p a s
    have := iblk1_bias m c (ptAt b j) tb p a s
    simp only [hj, g3] at this
    exact this
  · intro p e
    have hlt : 4 * (grid1.coords (ptAt b j) 1).val + (2 * p.val + e.val) < 8 := by rw [hc]; omega
    refine (dif_pos hlt).trans ?_
    refine (iblk1_sink m c (ptAt b j) _).trans ?_
    rw [g4]
    refine congrArg (fun h : Fin 8 => x4 (ix1 h)) (Fin.ext ?_)
    show 4 * (grid1.coords (ptAt b j) 1).val + (2 * p.val + e.val) = 4 * j.val + (2 * p.val + e.val)
    rw [hc]
  · exact congrArg (fun k => keyA k (iblk1 m c 1 (ptAt b j))) hc
  · exact congrArg (fun k => keyB k (iblk1 m c 1 (ptAt b j))) hc
  · exact congrArg (fun k => valA k (iblk1 m c 2 (ptAt b j))) hc
  · exact congrArg (fun k => valB k (iblk1 m c 2 (ptAt b j))) hc

end Cert.Proof.Swa

end
-- ==== Proof.SwaPre.lean ====
/-
  What the precondition says: every entry of the queries, keys, bias table and sinks is a number.
-/
module

public import proofs.«01_k».proof.Pre_finite_scores
public import proofs.«01_k».proof.Proof.SwaJoin

@[expose] public section

noncomputable section

namespace Cert.Proof.Swa

open Idealize.ShloMosaic hiding ix1 ix2 ix3 ix4 ix5 ix6
open Idealize.ShloMosaic.TcCoe
open Cert.Pre_finite_scores (S_)

/-- The relations the precondition's operations take hold. -/
instance preFacts : Cert.Pre_finite_scores.Facts where
  bcast_S_S32768x512 := by decide
  reducesTo_S32768x512_S_d0_1 := by decide
  h_S_ := by decide
  bcast_S_S32768x128 := by decide
  reducesTo_S32768x128_S_d0_1 := by decide
  bcast_S_S32x8 := by decide
  reducesTo_S32x8_S_d0_1 := by decide
  bcast_S_S8 := by decide
  reducesTo_S8_S_d0 := by decide

theorem andi_bit (x y : BitVec 1) (h : IntOp.andi x y = 1#1) : x = 1#1 ∧ y = 1#1 := by
  revert h
  revert x y
  decide

/-- A conjunction over a finite set that holds, holds of each. -/
theorem fold_andi {ι : Type} (s : Finset ι) (f : ι → BitVec 1) (b : BitVec 1) (h : s.fold IntOp.andi b f = 1#1) : ∀ i ∈ s, f i = 1#1 := by
  classical
  induction s using Finset.induction_on with
  | empty => intro i hi; exact absurd hi (Finset.notMem_empty i)
  | insert a s ha ih =>
    rw [Finset.fold_insert ha] at h
    obtain ⟨h1, h2⟩ := andi_bit _ _ h
    intro i hi
    rcases Finset.mem_insert.mp hi with rfl | hi
    · exact h1
    · exact ih h2 i hi

/-- An absolute value below infinity is a number's. -/
theorem finite_of_olt (x : Ideal .f32) (h : FloatOps.cmpf .olt (FloatOps.hostAbsf x) (FloatOps.ofBits (F := Ideal) .f32 0x7F800000#32) = 1#1) : (x : EReal) ≠ ⊤ ∧ (x : EReal) ≠ ⊥ := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  unfold Ideal.cmp at h'
  by_contra hn
  have hx : (x : EReal) = ⊤ ∨ (x : EReal) = ⊥ := by
    by_contra hh
    exact hn ⟨fun e => hh (Or.inl e), fun e => hh (Or.inr e)⟩
  have hm : ¬ (max (x : EReal) (-(x : EReal)) < ⊤) := by
    rcases hx with e | e <;> rw [e] <;> simp
  simp [hm] at h'

/-- One array's part of the precondition. -/
theorem finite_of_all {s : Shape} {axes : List (Fin s.rank)} (x : FVec Ideal s .f32) (hb : S_.BroadcastsInDim s ![]) (hr : s.ReducesTo axes S_) (hu : 0 < S_.numel) (j : S_.Idx)
    (h : Host.reduce IntOp.andi (cmpf .olt (Host.absf x) (broadcastInDim s ![] hb (constant (F := Ideal) S_ .f32 0x7F800000#32))) (constantI S_ 1 1#1) hr hu j = 1#1) : Finite x := by
  rw [Host.reduce_eq_fold] at h
  intro i
  exact finite_of_olt (x i) (fold_andi _ _ _ h i (Finset.mem_filter.mpr ⟨Finset.mem_univ _, funext fun a => a.elim0⟩))

/-- The precondition, array by array. -/
theorem finite_of_pre (x0 : FVec Ideal Cert.Pre_finite_scores.S32768x512 .f32) (x1 x2 : FVec Ideal Cert.Pre_finite_scores.S32768x128 .f32) (x3 : FVec Ideal Cert.Pre_finite_scores.S32x8 .f32) (x4 : FVec Ideal Cert.Pre_finite_scores.S8 .f32)
    (h : Cert.Pre_finite_scores.fn (F := Ideal) x0 x1 x2 x3 x4 = fun _ => 1#1) : Finite x0 ∧ Finite x1 ∧ Finite x3 ∧ Finite x4 := by
  have e := congrFun h ValueIdx.ix0
  obtain ⟨e', h4⟩ := andi_bit _ _ e
  obtain ⟨e'', h3⟩ := andi_bit _ _ e'
  obtain ⟨h0, h1⟩ := andi_bit _ _ e''
  exact ⟨finite_of_all x0 _ _ _ _ h0, finite_of_all x1 _ _ _ _ h1, finite_of_all x3 _ _ _ _ h3, finite_of_all x4 _ _ _ _ h4⟩

end Cert.Proof.Swa

end
-- ==== Proof.SwaClaims.lean ====
/-
  The claims about the attention under its precondition: the frames and the equality with the reference.
-/
module

public import proofs.«01_k».proof.Proof.SwaFrames
public import proofs.«01_k».proof.Proof.SwaFinal
public import proofs.«01_k».proof.Proof.SwaPre

@[expose] public section

noncomputable section

open Idealize.ShloMosaic Idealize.ShloMosaic.TcCoe Idealize.SL.Sem

namespace Cert.Proof.Swa

/-- The frames hold of every start, those of the precondition among them. -/
theorem frame_ideal_pre : Cert.quiescent_SwaIdeal_pre_finite_scores := fun m ρ _ => frame_ideal m ρ trivial

theorem frame_ref_pre : Cert.quiescent_SwaRefIdeal_pre_finite_scores := fun m ρ _ => frame_ref m ρ trivial

/-- Over the extended reals, of finite queries, keys, bias table and sinks, the kernel's result is the reference's. -/
theorem algebraic : Cert.algebraic_SwaIdeal_SwaRefIdeal_pre_finite_scores := by
  intro m ρ m' ρ' hpre hag
  refine ⟨fun c => goal1 m c, ?_, ?_⟩
  · exact (θ_run Cert.SwaIdeal.defs _ _).mono (fun _ h c => ⟨((h.1 c).2 rfl).trans (final_out m c), (h.1 c).1⟩)
      (run_main (F := Ideal) m ρ false (vOf m) fun _ c t f7 f8 f9 f10 f11 f12 f13 f14 => left_eq m c t f7 f8 f9 f10 f11 f12 f13 f14)
  · refine (θ_run Cert.SwaRefIdeal.defs _ _).mono (fun _ h c => ⟨(h c).1.trans ?_, (h c).2⟩) (Cert.SwaRefIdeal.Value.run (F := Ideal) m' ρ')
    obtain ⟨e0, e1, e2, e3, e4⟩ := hag c
    obtain ⟨h0, h1, h3, h4⟩ := finite_of_pre _ _ _ _ _ (hpre c)
    refine (SwaRef.res_eq m' c).trans ?_
    rw [e0, e1, e2, e3, e4]
    exact (goal_eq m c _ _ _ _ _ rfl rfl rfl rfl rfl h0 h1 h3 h4).symm

end Cert.Proof.Swa

end
-- ==== Proof.SwaSame.lean ====
/-
  The kernel is printed once for the machine's numbers and once for the extended reals, and each text carries its own copy of
  the table of bucket numbers. Here is the comparison of the two copies, a stretch of entries at a time.
-/
module

public import proofs.«01_k».proof.Swa
public import proofs.«01_k».proof.Proof.SwaMap

@[expose] public section

noncomputable section

namespace Cert.Proof.Swa

/-- Sixteen runs of 128 entries from `o` on are the same in both copies. -/
def same (o : ℕ) : Bool := allUpTo (fun j => allUpTo (fun k =>
  Nat.beq (Cert.Swa.lit0t (o + 128 * j + k)).toNat (Cert.SwaIdeal.lit0t (o + 128 * j + k)).toNat) 128) 16

theorem of_same (o : ℕ) (h : same o = true) (i : ℕ) (h0 : o ≤ i) (h1 : i < o + 2048) : Cert.Swa.lit0t i = Cert.SwaIdeal.lit0t i := by
  have := of_allUpTo _ _ (of_allUpTo _ _ h ((i - o) / 128) (by omega)) ((i - o) % 128) (by omega)
  rw [show o + 128 * ((i - o) / 128) + (i - o) % 128 = i by omega] at this
  exact BitVec.eq_of_toNat_eq (Nat.eq_of_beq_eq_true this)

end Cert.Proof.Swa

end
-- ==== Proof.SwaSameA.lean ====
/-
  A quarter of the entries of the two copies of the kernel's table, from entry 0 on, compared by evaluation.
-/
module

public import proofs.«01_k».proof.Proof.SwaSame

@[expose] public section

set_option maxRecDepth 65536

namespace Cert.Proof.Swa

/-! Stretches of 2048 entries, each by evaluation. -/

theorem same0 : same 0 = true := by decide +kernel
theorem same1 : same 2048 = true := by decide +kernel
theorem same2 : same 4096 = true := by decide +kernel
theorem same3 : same 6144 = true := by decide +kernel
theorem same4 : same 8192 = true := by decide +kernel
theorem same5 : same 10240 = true := by decide +kernel

end Cert.Proof.Swa
-- ==== Proof.SwaSameB.lean ====
/-
  A quarter of the entries of the two copies of the kernel's table, from entry 12288 on, compared by evaluation.
-/
module

public import proofs.«01_k».proof.Proof.SwaSame

@[expose] public section

set_option maxRecDepth 65536

namespace Cert.Proof.Swa

/-! Stretches of 2048 entries, each by evaluation. -/

theorem same6 : same 12288 = true := by decide +kernel
theorem same7 : same 14336 = true := by decide +kernel
theorem same8 : same 16384 = true := by decide +kernel
theorem same9 : same 18432 = true := by decide +kernel
theorem same10 : same 20480 = true := by decide +kernel
theorem same11 : same 22528 = true := by decide +kernel

end Cert.Proof.Swa
-- ==== Proof.SwaSameC.lean ====
/-
  A quarter of the entries of the two copies of the kernel's table, from entry 24576 on, compared by evaluation.
-/
module

public import proofs.«01_k».proof.Proof.SwaSame

@[expose] public section

set_option maxRecDepth 65536

namespace Cert.Proof.Swa

/-! Stretches of 2048 entries, each by evaluation. -/

theorem same12 : same 24576 = true := by decide +kernel
theorem same13 : same 26624 = true := by decide +kernel
theorem same14 : same 28672 = true := by decide +kernel
theorem same15 : same 30720 = true := by decide +kernel
theorem same16 : same 32768 = true := by decide +kernel
theorem same17 : same 34816 = true := by decide +kernel

end Cert.Proof.Swa
-- ==== Proof.SwaSameD.lean ====
/-
  A quarter of the entries of the two copies of the kernel's table, from entry 36864 on, compared by evaluation.
-/
module

public import proofs.«01_k».proof.Proof.SwaSame

@[expose] public section

set_option maxRecDepth 65536

namespace Cert.Proof.Swa

/-! Stretches of 2048 entries, each by evaluation. -/

theorem same18 : same 36864 = true := by decide +kernel
theorem same19 : same 38912 = true := by decide +kernel
theorem same20 : same 40960 = true := by decide +kernel
theorem same21 : same 43008 = true := by decide +kernel
theorem same22 : same 45056 = true := by decide +kernel
theorem same23 : same 47104 = true := by decide +kernel

end Cert.Proof.Swa
-- ==== Proof.SwaFrameBits.lean ====
/-
  The attention's frame in machine arithmetic, from the run written for any float values.
-/
module

public import proofs.«01_k».proof.Defs
public import proofs.«01_k».proof.Proof.Gen.Swa
public import proofs.«01_k».proof.Proof.SwaRegions
public import proofs.«01_k».proof.Proof.SwaSameA
public import proofs.«01_k».proof.Proof.SwaSameB
public import proofs.«01_k».proof.Proof.SwaSameC
public import proofs.«01_k».proof.Proof.SwaSameD

@[expose] public section

noncomputable section

open Idealize.ShloMosaic Idealize.ShloMosaic.TcCoe Idealize.SL.Sem

namespace Cert.Proof.Swa

/-- Every stretch of the table is the same in both copies. -/
theorem same_all (q : Fin 24) : same (2048 * q.1) = true := by
  fin_cases q
  exacts [same0, same1, same2, same3, same4, same5, same6, same7, same8, same9, same10, same11, same12, same13, same14, same15,
    same16, same17, same18, same19, same20, same21, same22, same23]

/-- The two copies of the table are one. -/
theorem table_same : Cert.Swa.lit0 = Cert.SwaIdeal.lit0 :=
  funext fun ⟨i, hi⟩ => of_same _ (same_all ⟨i / 2048, by omega⟩) i (show 2048 * (i / 2048) ≤ i by omega)
    (show i < 2048 * (i / 2048) + 2048 by omega)

/-- In machine arithmetic a named constant is the number it is written as. -/
abbrev namedBits : Named Bits where
  named _ _ {φ} bits := FloatOps.ofBits φ bits

section Texts

variable [Cert.Swa.Facts] [Cert.SwaIdeal.Facts]

set_option maxRecDepth 65536

/-- The host's text is the same in both prints, -/
theorem main_same : @Cert.Swa.main Bits _ _ = @Cert.SwaIdeal.main Bits _ _ := by
  unfold Cert.Swa.main Cert.SwaIdeal.main
  rw [table_same]
  rfl

set_option maxHeartbeats 16000000 in
set_option smartUnfolding false in
/-- and so are the kernels'. -/
theorem defs_same : @Cert.Swa.defs Bits _ _ = @Cert.SwaIdeal.defs Bits _ namedBits _ := rfl

end Texts

set_option maxRecDepth 65536 in
/-- The kernel terminates, its arguments unchanged and its counters at zero. -/
theorem frame : Cert.quiescent_Swa := fun m ρ _ => by
  rw [main_same, defs_same]
  exact (θ_run (@Cert.SwaIdeal.defs Bits _ namedBits _) _ _).mono (fun _ h => h) (@frame_any Bits _ namedBits m ρ)

end Cert.Proof.Swa

end
-- ==== Proof.lean ====
module

public import proofs.«01_k».proof.Defs
public import proofs.«01_k».proof.Proof.Gen.FfnIdeal.Value
public import proofs.«01_k».proof.Proof.Gen.SwaRefIdeal.Run
public import proofs.«01_k».proof.Proof.Gen.SwaIdeal
public import proofs.«01_k».proof.Proof.Gen.SwaIdeal.Skeleton
public import proofs.«01_k».proof.Proof.Gen.SwaIdeal.Launch
public import proofs.«01_k».proof.Proof.Gen.SwaIdeal.Points
public import proofs.«01_k».proof.Proof.Gen.SwaIdeal.Loops
public import proofs.«01_k».proof.Proof.Gen.SwaIdeal.Regions
public import proofs.«01_k».proof.Proof.Gen.FfnRefIdeal.Run
public import proofs.«01_k».proof.Proof.Gen.Swa
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.FfnClaims
public import proofs.«01_k».proof.Proof.SwaClaims
public import proofs.«01_k».proof.Proof.SwaFrameBits
public import Idealize.ShloMosaic.Adequacy
public import Idealize.ShloMosaic.Init

@[expose] public section

noncomputable section

namespace Cert.Proof

open Idealize.ShloMosaic Idealize.SL.Sem

theorem claim : Cert.Claim :=
  ⟨Cert.Ffn.Gen.facts, Cert.FfnIdeal.Gen.facts, Cert.FfnRefIdeal.Gen.facts, Cert.Swa.Gen.facts, Cert.SwaIdeal.Gen.facts,
    Cert.SwaRefIdeal.Gen.facts, Swa.preFacts, Ffn.frame, Ffn.frame_ideal, Ffn.frame_ref, Swa.frame, Swa.frame_ideal,
    Swa.frame_ideal_pre, Swa.frame_ref, Swa.frame_ref_pre, trivial, Ffn.algebraic, Swa.preserves, Swa.algebraic⟩

end Cert.Proof

end
